-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S2x2048x1024 : Shape := ⟨3, ![2, 2048, 1024]⟩
abbrev S_ : Shape := ⟨0, ![]⟩
abbrev S1024x1024 : Shape := ⟨2, ![1024, 1024]⟩
abbrev S1024 : Shape := ⟨1, ![1024]⟩
abbrev S64x4x256 : Shape := ⟨3, ![64, 4, 256]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S2x2048x1024 .f32) (main_arg2 : FVec F S2x2048x1024 .f32) (main_arg3 : IVec S_ 32) (main_arg4 : FVec F S1024x1024 .f32) (main_arg5 : FVec F S1024x1024 .f32) (main_arg6 : FVec F S1024x1024 .f32) (main_arg7 : FVec F S1024 .f32) (main_arg8 : FVec F S64x4x256 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg4
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S2x2048x1024 : Shape := ⟨3, ![2, 2048, 1024]⟩
abbrev S_ : Shape := ⟨0, ![]⟩
abbrev S1024x1024 : Shape := ⟨2, ![1024, 1024]⟩
abbrev S1024 : Shape := ⟨1, ![1024]⟩
abbrev S64x4x256 : Shape := ⟨3, ![64, 4, 256]⟩
abbrev S4096x1024 : Shape := ⟨2, ![4096, 1024]⟩
abbrev S64x1024 : Shape := ⟨2, ![64, 1024]⟩
abbrev S4096x16x4 : Shape := ⟨3, ![4096, 16, 4]⟩
abbrev S256x1024 : Shape := ⟨2, ![256, 1024]⟩
abbrev S256x16x4 : Shape := ⟨3, ![256, 16, 4]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S256x4 : Shape := ⟨2, ![256, 4]⟩
abbrev S256x1x4 : Shape := ⟨3, ![256, 1, 4]⟩
abbrev S2x2048x16x4 : Shape := ⟨4, ![2, 2048, 16, 4]⟩
abbrev S2x16x4x2048 : Shape := ⟨4, ![2, 16, 4, 2048]⟩
abbrev S128x2048x1 : Shape := ⟨3, ![128, 2048, 1]⟩
abbrev S1x2048x1 : Shape := ⟨3, ![1, 2048, 1]⟩
abbrev S2048x1 : Shape := ⟨2, ![2048, 1]⟩
abbrev S128x512 : Shape := ⟨2, ![128, 512]⟩
abbrev S128x1 : Shape := ⟨2, ![128, 1]⟩
abbrev S512 : Shape := ⟨1, ![512]⟩
abbrev S1x512 : Shape := ⟨2, ![1, 512]⟩
abbrev S512x512 : Shape := ⟨2, ![512, 512]⟩
abbrev S128x128 : Shape := ⟨2, ![128, 128]⟩
abbrev S512x1 : Shape := ⟨2, ![512, 1]⟩
abbrev S128 : Shape := ⟨1, ![128]⟩
abbrev S1x128x1 : Shape := ⟨3, ![1, 128, 1]⟩
abbrev S128x2048 : Shape := ⟨2, ![128, 2048]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S32x8192 : Shape := ⟨2, ![32, 8192]⟩
abbrev S32x8192x1 : Shape := ⟨3, ![32, 8192, 1]⟩
abbrev S1 : Shape := ⟨1, ![1]⟩
abbrev S1x1x1 : Shape := ⟨3, ![1, 1, 1]⟩
abbrev S32x8192x64 : Shape := ⟨3, ![32, 8192, 64]⟩
abbrev S32x1x8192 : Shape := ⟨3, ![32, 1, 8192]⟩
abbrev S1x8192x64 : Shape := ⟨3, ![1, 8192, 64]⟩
abbrev S1x8192x1 : Shape := ⟨3, ![1, 8192, 1]⟩
abbrev S1x1x8192 : Shape := ⟨3, ![1, 1, 8192]⟩
abbrev S8200x64 : Shape := ⟨2, ![8200, 64]⟩
abbrev S8x8200 : Shape := ⟨2, ![8, 8200]⟩
abbrev S8192x64 : Shape := ⟨2, ![8192, 64]⟩
abbrev S8192 : Shape := ⟨1, ![8192]⟩
abbrev S8192x1 : Shape := ⟨2, ![8192, 1]⟩
abbrev S4x64 : Shape := ⟨2, ![4, 64]⟩
abbrev S1x4x64 : Shape := ⟨3, ![1, 4, 64]⟩
abbrev S1x1x4 : Shape := ⟨3, ![1, 1, 4]⟩
abbrev S1x4 : Shape := ⟨2, ![1, 4]⟩
abbrev S1x8192 : Shape := ⟨2, ![1, 8192]⟩
abbrev S128x132 : Shape := ⟨2, ![128, 132]⟩
abbrev S1x128x64 : Shape := ⟨3, ![1, 128, 64]⟩
abbrev S128x64 : Shape := ⟨2, ![128, 64]⟩
abbrev S132x64 : Shape := ⟨2, ![132, 64]⟩
abbrev S1x132 : Shape := ⟨2, ![1, 132]⟩
abbrev S32x4x2048 : Shape := ⟨3, ![32, 4, 2048]⟩
abbrev S4 : Shape := ⟨1, ![4]⟩
abbrev S1x4x1 : Shape := ⟨3, ![1, 4, 1]⟩
abbrev S2x16x4x2048x64 : Shape := ⟨5, ![2, 16, 4, 2048, 64]⟩
abbrev S2x2048x16x4x64 : Shape := ⟨5, ![2, 2048, 16, 4, 64]⟩
abbrev S4096x64x64 : Shape := ⟨3, ![4096, 64, 64]⟩
abbrev S1x1024 : Shape := ⟨2, ![1, 1024]⟩
abbrev S128x64x64 : Shape := ⟨3, ![128, 64, 64]⟩
abbrev S128x16x4 : Shape := ⟨3, ![128, 16, 4]⟩
abbrev S128x1024 : Shape := ⟨2, ![128, 1024]⟩
abbrev S128x16 : Shape := ⟨2, ![128, 16]⟩
abbrev S128x16x1 : Shape := ⟨3, ![128, 16, 1]⟩
abbrev S128x1x64 : Shape := ⟨3, ![128, 1, 64]⟩
abbrev S128x1x1 : Shape := ⟨3, ![128, 1, 1]⟩

abbrev nBuf : Space → Nat
  | .hbm => 143
  | .vmem => 38
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S_, .i32⟩
  | 4 => ⟨S1024x1024, .f32⟩
  | 5 => ⟨S1024x1024, .f32⟩
  | 6 => ⟨S1024x1024, .f32⟩
  | 7 => ⟨S1024, .f32⟩
  | 8 => ⟨S64x4x256, .f32⟩
  | 9 => ⟨S4096x1024, .f32⟩
  | 10 => ⟨S64x1024, .f32⟩
  | 11 => ⟨S4096x1024, .f32⟩
  | 12 => ⟨S4096x1024, .f32⟩
  | 13 => ⟨S4096x16x4, .i32⟩
  | 14 => ⟨S2x2048x16x4, .i32⟩
  | 15 => ⟨S2x16x4x2048, .i32⟩
  | 16 => ⟨S128x2048x1, .i32⟩
  | 17 => ⟨S128x2048x1, .i32⟩
  | 18 => ⟨S128x2048, .i32⟩
  | 19 => ⟨S128x2048, .i32⟩
  | 20 => ⟨S128x2048, .i32⟩
  | 21 => ⟨S128x2048, .i32⟩
  | 22 => ⟨S2x2048x16x64, .f32⟩
  | 23 => ⟨S2x16x2048x64, .f32⟩
  | 24 => ⟨S32x2048x64, .f32⟩
  | 25 => ⟨S2x2048x16x64, .f32⟩
  | 26 => ⟨S2x16x2048x64, .f32⟩
  | 27 => ⟨S32x2048x64, .f32⟩
  | 28 => ⟨S32x8192, .i32⟩
  | 29 => ⟨S32x8192x1, .i32⟩
  | 30 => ⟨S_, .i32⟩
  | 31 => ⟨S32x8192x1, .i32⟩
  | 32 => ⟨S32x8192x1, .i1⟩
  | 33 => ⟨S_, .i32⟩
  | 34 => ⟨S32x8192x1, .i32⟩
  | 35 => ⟨S32x8192x1, .i32⟩
  | 36 => ⟨S32x8192x1, .i32⟩
  | 37 => ⟨S1, .i32⟩
  | 38 => ⟨S_, .i32⟩
  | 39 => ⟨S32x8192x1, .i32⟩
  | 40 => ⟨S32x8192x1, .i1⟩
  | 41 => ⟨S1x1x1, .i32⟩
  | 42 => ⟨S32x8192x1, .i32⟩
  | 43 => ⟨S32x8192x1, .i1⟩
  | 44 => ⟨S32x8192x1, .i1⟩
  | 45 => ⟨S_, .i1⟩
  | 46 => ⟨S32x8192, .i1⟩
  | 47 => ⟨S32x8192x64, .f32⟩
  | 48 => ⟨S32x8192x64, .i1⟩
  | 49 => ⟨S_, .f32⟩
  | 50 => ⟨S32x8192x64, .f32⟩
  | 51 => ⟨S32x8192x64, .f32⟩
  | 52 => ⟨S32x8192x1, .i32⟩
  | 53 => ⟨S_, .i32⟩
  | 54 => ⟨S32x8192x1, .i32⟩
  | 55 => ⟨S32x8192x1, .i1⟩
  | 56 => ⟨S_, .i32⟩
  | 57 => ⟨S32x8192x1, .i32⟩
  | 58 => ⟨S32x8192x1, .i32⟩
  | 59 => ⟨S32x8192x1, .i32⟩
  | 60 => ⟨S1, .i32⟩
  | 61 => ⟨S_, .i32⟩
  | 62 => ⟨S32x8192x1, .i32⟩
  | 63 => ⟨S32x8192x1, .i1⟩
  | 64 => ⟨S1x1x1, .i32⟩
  | 65 => ⟨S32x8192x1, .i32⟩
  | 66 => ⟨S32x8192x1, .i1⟩
  | 67 => ⟨S32x8192x1, .i1⟩
  | 68 => ⟨S_, .i1⟩
  | 69 => ⟨S32x8192, .i1⟩
  | 70 => ⟨S32x8192x64, .f32⟩
  | 71 => ⟨S32x8192x64, .i1⟩
  | 72 => ⟨S_, .f32⟩
  | 73 => ⟨S32x8192x64, .f32⟩
  | 74 => ⟨S32x8192x64, .f32⟩
  | 75 => ⟨S32x8192x1, .i32⟩
  | 76 => ⟨S32x1x8192, .i32⟩
  | 77 => ⟨S32x8192x64, .f32⟩
  | 78 => ⟨S32x8192x1, .f32⟩
  | 79 => ⟨S32x4x2048, .i32⟩
  | 80 => ⟨S4, .i32⟩
  | 81 => ⟨S_, .i32⟩
  | 82 => ⟨S4, .i32⟩
  | 83 => ⟨S4, .i32⟩
  | 84 => ⟨S1x4x1, .i32⟩
  | 85 => ⟨S32x4x2048, .i32⟩
  | 86 => ⟨S32x4x2048, .i32⟩
  | 87 => ⟨S32x8192, .i32⟩
  | 88 => ⟨S32x8192x1, .i32⟩
  | 89 => ⟨S_, .i32⟩
  | 90 => ⟨S32x8192x1, .i32⟩
  | 91 => ⟨S32x8192x1, .i1⟩
  | 92 => ⟨S_, .i32⟩
  | 93 => ⟨S32x8192x1, .i32⟩
  | 94 => ⟨S32x8192x1, .i32⟩
  | 95 => ⟨S32x8192x1, .i32⟩
  | 96 => ⟨S1, .i32⟩
  | 97 => ⟨S_, .i32⟩
  | 98 => ⟨S32x8192x1, .i32⟩
  | 99 => ⟨S32x8192x1, .i1⟩
  | 100 => ⟨S1x1x1, .i32⟩
  | 101 => ⟨S32x8192x1, .i32⟩
  | 102 => ⟨S32x8192x1, .i1⟩
  | 103 => ⟨S32x8192x1, .i1⟩
  | 104 => ⟨S_, .i1⟩
  | 105 => ⟨S32x8192, .i1⟩
  | 106 => ⟨S32x8192x64, .f32⟩
  | 107 => ⟨S32x8192x64, .i1⟩
  | 108 => ⟨S_, .f32⟩
  | 109 => ⟨S32x8192x64, .f32⟩
  | 110 => ⟨S32x8192x64, .f32⟩
  | 111 => ⟨S32x8192, .f32⟩
  | 112 => ⟨S_, .i32⟩
  | 113 => ⟨S32x8192, .i32⟩
  | 114 => ⟨S32x8192, .i1⟩
  | 115 => ⟨S_, .i32⟩
  | 116 => ⟨S32x8192, .i32⟩
  | 117 => ⟨S32x8192, .i32⟩
  | 118 => ⟨S32x8192, .i32⟩
  | 119 => ⟨S32x8192x1, .i32⟩
  | 120 => ⟨S1, .i32⟩
  | 121 => ⟨S_, .i32⟩
  | 122 => ⟨S32x8192x1, .i32⟩
  | 123 => ⟨S32x8192x1, .i1⟩
  | 124 => ⟨S1x1x1, .i32⟩
  | 125 => ⟨S32x8192x1, .i32⟩
  | 126 => ⟨S32x8192x1, .i1⟩
  | 127 => ⟨S32x8192x1, .i1⟩
  | _ => ⟨S2x2048x1024, .f32⟩

abbrev hbmTy0_1 (i : Nat) : BufTy := match i % 128 with
  | 0 => ⟨S_, .i1⟩
  | 1 => ⟨S32x8192, .i1⟩
  | 2 => ⟨S32x8192, .f32⟩
  | 3 => ⟨S_, .f32⟩
  | 4 => ⟨S32x8192, .f32⟩
  | 5 => ⟨S32x8192, .f32⟩
  | 6 => ⟨S2x16x4x2048x64, .f32⟩
  | 7 => ⟨S2x2048x16x4x64, .f32⟩
  | 8 => ⟨S4096x64x64, .f32⟩
  | 9 => ⟨S2x16x4x2048, .f32⟩
  | 10 => ⟨S2x2048x16x4, .f32⟩
  | 11 => ⟨S4096x16x4, .f32⟩
  | 12 => ⟨S1x1024, .f32⟩
  | 13 => ⟨S4096x1024, .f32⟩
  | 14 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x16x4, .i32⟩
  | .local _ .vmem, ⟨10, _⟩ => ⟨S256x16x4, .i32⟩
  | .local _ .vmem, ⟨11, _⟩ => ⟨S1x2048x1, .i32⟩
  | .local _ .vmem, ⟨12, _⟩ => ⟨S1x2048x1, .i32⟩
  | .local _ .vmem, ⟨13, _⟩ => ⟨S1x2048x1, .i32⟩
  | .local _ .vmem, ⟨14, _⟩ => ⟨S1x2048x1, .i32⟩
  | .local _ .vmem, ⟨15, _⟩ => ⟨S1x8192x64, .f32⟩
  | .local _ .vmem, ⟨16, _⟩ => ⟨S1x8192x64, .f32⟩
  | .local _ .vmem, ⟨17, _⟩ => ⟨S1x8192x64, .f32⟩
  | .local _ .vmem, ⟨18, _⟩ => ⟨S1x8192x64, .f32⟩
  | .local _ .vmem, ⟨19, _⟩ => ⟨S1x8192x1, .i32⟩
  | .local _ .vmem, ⟨20, _⟩ => ⟨S1x8192x1, .i32⟩
  | .local _ .vmem, ⟨21, _⟩ => ⟨S1x1x8192, .i32⟩
  | .local _ .vmem, ⟨22, _⟩ => ⟨S1x1x8192, .i32⟩
  | .local _ .vmem, ⟨23, _⟩ => ⟨S1x8192x64, .f32⟩
  | .local _ .vmem, ⟨24, _⟩ => ⟨S1x8192x64, .f32⟩
  | .local _ .vmem, ⟨25, _⟩ => ⟨S1x8192x1, .f32⟩
  | .local _ .vmem, ⟨26, _⟩ => ⟨S1x8192x1, .f32⟩
  | .local _ .vmem, ⟨27, _⟩ => ⟨S8200x64, .f32⟩
  | .local _ .vmem, ⟨28, _⟩ => ⟨S8200x64, .f32⟩
  | .local _ .vmem, ⟨29, _⟩ => ⟨S8x8200, .i32⟩
  | .local _ .vmem, ⟨30, _⟩ => ⟨S128x64x64, .f32⟩
  | .local _ .vmem, ⟨31, _⟩ => ⟨S128x64x64, .f32⟩
  | .local _ .vmem, ⟨32, _⟩ => ⟨S128x16x4, .f32⟩
  | .local _ .vmem, ⟨33, _⟩ => ⟨S128x16x4, .f32⟩
  | .local _ .vmem, ⟨34, _⟩ => ⟨S1024x1024, .f32⟩
  | .local _ .vmem, ⟨35, _⟩ => ⟨S1x1024, .f32⟩
  | .local _ .vmem, ⟨36, _⟩ => ⟨S128x1024, .f32⟩
  | .local _ .vmem, ⟨37, _⟩ => ⟨S128x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v17 : Ref sig .tc := ⟨.hbm, 51, rfl⟩
abbrev main_v18 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22_0 : Ref sig .tc := ⟨.hbm, 77, rfl⟩
abbrev main_v22_1 : Ref sig .tc := ⟨.hbm, 78, rfl⟩
abbrev main_v23 : Ref sig .tc := ⟨.hbm, 79, rfl⟩
abbrev main_v24 : Ref sig .tc := ⟨.hbm, 80, rfl⟩
abbrev main_c : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_c_1 : Ref sig .tc := ⟨.hbm, 96, rfl⟩
abbrev main_call3_c_2 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_c_3 : Ref sig .tc := ⟨.hbm, 104, rfl⟩
abbrev main_call3_v11 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v32 : Ref sig .tc := ⟨.hbm, 110, rfl⟩
abbrev main_v33 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc2_scratch1 : Ref sig .tc := ⟨.vmem, 28, rfl⟩
abbrev cc2_scratch2 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16x4 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

@[reducible] def k2_t1_loop : Scf.Loop 32 :=
  let c0_i32_33 : BitVec 32 := 0#32
  let c64_i32 : BitVec 32 := 64#32
  let v74 : BitVec 32 := Scalar.addi c0_i32_33 c64_i32
  let c1_i32_34 : BitVec 32 := 1#32
  ⟨c0_i32_33, v74, c1_i32_34⟩
def k2_off1 (k2_t1 : Fin k2_t1_loop.trips) : Fin 3 → Nat :=
  let c0_36 : Index := 0#32
  let c0_i32_33 : BitVec 32 := 0#32
  let c1_i32_34 : BitVec 32 := 1#32
  let arg10 : BitVec 32 := Scf.iv c0_i32_33 c1_i32_34 k2_t1
  let c128_i32 : BitVec 32 := 128#32
  let v75 : BitVec 32 := Scalar.muli arg10 c128_i32
  let v76 : Index := Scalar.indexCast v75
  let c0_37 : Index := 0#32
  ![0, v76.toNat, 0]
def k2_off2 (k2_t1 : Fin k2_t1_loop.trips) : Fin 2 → Nat :=
  let c0_i32_33 : BitVec 32 := 0#32
  let c1_i32_34 : BitVec 32 := 1#32
  let arg10 : BitVec 32 := Scf.iv c0_i32_33 c1_i32_34 k2_t1
  let c128_i32_38 : BitVec 32 := 128#32
  let v79 : BitVec 32 := Scalar.muli arg10 c128_i32_38
  let v80 : Index := Scalar.indexCast v79
  let c0_39 : Index := 0#32
  ![v80.toNat, 0]
def k2_off3 (k2_t1 : Fin k2_t1_loop.trips) : Fin 3 → Nat :=
  let c0_43 : Index := 0#32
  let c0_i32_33 : BitVec 32 := 0#32
  let c1_i32_34 : BitVec 32 := 1#32
  let arg10 : BitVec 32 := Scf.iv c0_i32_33 c1_i32_34 k2_t1
  let c128_i32_42 : BitVec 32 := 128#32
  let v85 : BitVec 32 := Scalar.muli arg10 c128_i32_42
  let v86 : Index := Scalar.indexCast v85
  let c0_44 : Index := 0#32
  ![0, v86.toNat, 0]
def k2_off4 (k2_t1 : Fin k2_t1_loop.trips) : Fin 2 → Nat :=
  let c0_46 : Index := 0#32
  let c0_i32_33 : BitVec 32 := 0#32
  let c1_i32_34 : BitVec 32 := 1#32
  let arg10 : BitVec 32 := Scf.iv c0_i32_33 c1_i32_34 k2_t1
  let c128_i32_45 : BitVec 32 := 128#32
  let v89 : BitVec 32 := Scalar.muli arg10 c128_i32_45
  let v90 : Index := Scalar.indexCast v89
  ![0, v90.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8192x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x8192 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8192x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8192x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x64x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x16x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S_ : Shape := ⟨0, ![]⟩
abbrev S1024x1024 : Shape := ⟨2, ![1024, 1024]⟩
abbrev S1024 : Shape := ⟨1, ![1024]⟩
abbrev S64x4x256 : Shape := ⟨3, ![64, 4, 256]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S4x256x32x2048 : Shape := ⟨4, ![4, 256, 32, 2048]⟩
abbrev S32x4x2048x256 : Shape := ⟨4, ![32, 4, 2048, 256]⟩
abbrev S32x4x2048x512 : Shape := ⟨4, ![32, 4, 2048, 512]⟩
abbrev S32x4x2048 : Shape := ⟨3, ![32, 4, 2048]⟩
abbrev S32x4x2048x1 : Shape := ⟨4, ![32, 4, 2048, 1]⟩
abbrev S512 : Shape := ⟨1, ![512]⟩
abbrev S4 : Shape := ⟨1, ![4]⟩
abbrev S1x4x1 : Shape := ⟨3, ![1, 4, 1]⟩
abbrev S32x8192 : Shape := ⟨2, ![32, 8192]⟩
abbrev S8192 : Shape := ⟨1, ![8192]⟩
abbrev S1x8192 : Shape := ⟨2, ![1, 8192]⟩
abbrev S32x8192x1 : Shape := ⟨3, ![32, 8192, 1]⟩
abbrev S1 : Shape := ⟨1, ![1]⟩
abbrev S1x1x1 : Shape := ⟨3, ![1, 1, 1]⟩
abbrev S32x8192x64 : Shape := ⟨3, ![32, 8192, 64]⟩
abbrev S32x2048x4 : Shape := ⟨3, ![32, 2048, 4]⟩
abbrev S32x2048x4x64 : Shape := ⟨4, ![32, 2048, 4, 64]⟩
abbrev S32x2048x4x1 : Shape := ⟨4, ![32, 2048, 4, 1]⟩
abbrev S32x1x4x64 : Shape := ⟨4, ![32, 1, 4, 64]⟩
abbrev S32x2047x4x64 : Shape := ⟨4, ![32, 2047, 4, 64]⟩
abbrev S32x2048x8x64 : Shape := ⟨4, ![32, 2048, 8, 64]⟩
abbrev S32x1x4x1 : Shape := ⟨4, ![32, 1, 4, 1]⟩
abbrev S32x2047x4x1 : Shape := ⟨4, ![32, 2047, 4, 1]⟩
abbrev S32x2048x8x1 : Shape := ⟨4, ![32, 2048, 8, 1]⟩
abbrev S32x2048x8 : Shape := ⟨3, ![32, 2048, 8]⟩
abbrev S32x2048x4x8 : Shape := ⟨4, ![32, 2048, 4, 8]⟩
abbrev S32x2048x1x8 : Shape := ⟨4, ![32, 2048, 1, 8]⟩
abbrev S32x4x2048x64 : Shape := ⟨4, ![32, 4, 2048, 64]⟩
abbrev S32x2048x1 : Shape := ⟨3, ![32, 2048, 1]⟩
abbrev S32x1x2048x1 : Shape := ⟨4, ![32, 1, 2048, 1]⟩
abbrev S1x1x1024 : Shape := ⟨3, ![1, 1, 1024]⟩

abbrev nBuf : Space → Nat
  | .hbm => 274
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S_, .i32⟩
  | 4 => ⟨S1024x1024, .f32⟩
  | 5 => ⟨S1024x1024, .f32⟩
  | 6 => ⟨S1024x1024, .f32⟩
  | 7 => ⟨S1024, .f32⟩
  | 8 => ⟨S64x4x256, .f32⟩
  | 9 => ⟨S2x2048x1024, .f32⟩
  | 10 => ⟨S2x2048x1024, .f32⟩
  | 11 => ⟨S2x2048x16x64, .f32⟩
  | 12 => ⟨S2x16x2048x64, .f32⟩
  | 13 => ⟨S32x2048x64, .f32⟩
  | 14 => ⟨S2x2048x16x64, .f32⟩
  | 15 => ⟨S2x16x2048x64, .f32⟩
  | 16 => ⟨S32x2048x64, .f32⟩
  | 17 => ⟨S4x256x32x2048, .f32⟩
  | 18 => ⟨S32x4x2048x256, .f32⟩
  | 19 => ⟨S32x4x2048x256, .f32⟩
  | 20 => ⟨S32x4x2048x512, .f32⟩
  | 21 => ⟨S_, .f32⟩
  | 22 => ⟨S32x4x2048, .f32⟩
  | 23 => ⟨S32x4x2048x1, .f32⟩
  | 24 => ⟨S32x4x2048x512, .f32⟩
  | 25 => ⟨S32x4x2048x512, .i1⟩
  | 26 => ⟨S512, .i32⟩
  | 27 => ⟨S_, .i32⟩
  | 28 => ⟨S_, .i32⟩
  | 29 => ⟨S32x4x2048x512, .i32⟩
  | 30 => ⟨S32x4x2048x512, .i32⟩
  | 31 => ⟨S32x4x2048x512, .i32⟩
  | 32 => ⟨S_, .i32⟩
  | 33 => ⟨S32x4x2048, .i32⟩
  | 34 => ⟨S4, .i32⟩
  | 35 => ⟨S_, .i32⟩
  | 36 => ⟨S4, .i32⟩
  | 37 => ⟨S4, .i32⟩
  | 38 => ⟨S1x4x1, .i32⟩
  | 39 => ⟨S32x4x2048, .i32⟩
  | 40 => ⟨S32x4x2048, .i32⟩
  | 41 => ⟨S32x8192, .i32⟩
  | 42 => ⟨S8192, .i32⟩
  | 43 => ⟨S1x8192, .i32⟩
  | 44 => ⟨S_, .i32⟩
  | 45 => ⟨S32x8192, .i32⟩
  | 46 => ⟨S32x8192, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S1x8192, .i32⟩
  | 54 => ⟨S1x8192, .i32⟩
  | 55 => ⟨S_, .i32⟩
  | 56 => ⟨S1x8192, .i32⟩
  | 57 => ⟨S1x8192, .i1⟩
  | 58 => ⟨S_, .i32⟩
  | 59 => ⟨S1x8192, .i32⟩
  | 60 => ⟨S1x8192, .i1⟩
  | 61 => ⟨S_, .i32⟩
  | 62 => ⟨S_, .i1⟩
  | 63 => ⟨S1x8192, .i1⟩
  | 64 => ⟨S1x8192, .i1⟩
  | 65 => ⟨S1x8192, .i1⟩
  | 66 => ⟨S1x8192, .i32⟩
  | 67 => ⟨S1x8192, .i32⟩
  | 68 => ⟨S1x8192, .i32⟩
  | 69 => ⟨S32x8192, .i32⟩
  | 70 => ⟨S32x8192, .i32⟩
  | 71 => ⟨S32x8192, .i32⟩
  | 72 => ⟨S32x8192, .i32⟩
  | 73 => ⟨S32x8192, .i32⟩
  | 74 => ⟨S32x8192, .i32⟩
  | 75 => ⟨S32x8192, .i32⟩
  | 76 => ⟨S32x8192, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S32x8192, .i32⟩
  | 84 => ⟨S32x8192, .i32⟩
  | 85 => ⟨S_, .i32⟩
  | 86 => ⟨S32x8192, .i32⟩
  | 87 => ⟨S32x8192, .i1⟩
  | 88 => ⟨S_, .i32⟩
  | 89 => ⟨S32x8192, .i32⟩
  | 90 => ⟨S32x8192, .i1⟩
  | 91 => ⟨S_, .i32⟩
  | 92 => ⟨S_, .i1⟩
  | 93 => ⟨S32x8192, .i1⟩
  | 94 => ⟨S32x8192, .i1⟩
  | 95 => ⟨S32x8192, .i1⟩
  | 96 => ⟨S32x8192, .i32⟩
  | 97 => ⟨S32x8192, .i32⟩
  | 98 => ⟨S32x8192, .i32⟩
  | 99 => ⟨S32x8192x1, .i32⟩
  | 100 => ⟨S_, .i32⟩
  | 101 => ⟨S32x8192x1, .i32⟩
  | 102 => ⟨S32x8192x1, .i1⟩
  | 103 => ⟨S_, .i32⟩
  | 104 => ⟨S32x8192x1, .i32⟩
  | 105 => ⟨S32x8192x1, .i32⟩
  | 106 => ⟨S32x8192x1, .i32⟩
  | 107 => ⟨S1, .i32⟩
  | 108 => ⟨S_, .i32⟩
  | 109 => ⟨S32x8192x1, .i32⟩
  | 110 => ⟨S32x8192x1, .i1⟩
  | 111 => ⟨S1x1x1, .i32⟩
  | 112 => ⟨S32x8192x1, .i32⟩
  | 113 => ⟨S32x8192x1, .i1⟩
  | 114 => ⟨S32x8192x1, .i1⟩
  | 115 => ⟨S_, .i1⟩
  | 116 => ⟨S32x8192, .i1⟩
  | 117 => ⟨S32x8192x64, .f32⟩
  | 118 => ⟨S32x8192x64, .i1⟩
  | 119 => ⟨S_, .f32⟩
  | 120 => ⟨S32x8192x64, .f32⟩
  | 121 => ⟨S32x8192x64, .f32⟩
  | 122 => ⟨S32x8192x1, .i32⟩
  | 123 => ⟨S_, .i32⟩
  | 124 => ⟨S32x8192x1, .i32⟩
  | 125 => ⟨S32x8192x1, .i1⟩
  | 126 => ⟨S_, .i32⟩
  | 127 => ⟨S32x8192x1, .i32⟩
  | _ => ⟨S2x2048x1024, .f32⟩

abbrev hbmTy0_1 (i : Nat) : BufTy := match i % 128 with
  | 0 => ⟨S32x8192x1, .i32⟩
  | 1 => ⟨S32x8192x1, .i32⟩
  | 2 => ⟨S1, .i32⟩
  | 3 => ⟨S_, .i32⟩
  | 4 => ⟨S32x8192x1, .i32⟩
  | 5 => ⟨S32x8192x1, .i1⟩
  | 6 => ⟨S1x1x1, .i32⟩
  | 7 => ⟨S32x8192x1, .i32⟩
  | 8 => ⟨S32x8192x1, .i1⟩
  | 9 => ⟨S32x8192x1, .i1⟩
  | 10 => ⟨S_, .i1⟩
  | 11 => ⟨S32x8192, .i1⟩
  | 12 => ⟨S32x8192x64, .f32⟩
  | 13 => ⟨S32x8192x64, .i1⟩
  | 14 => ⟨S_, .f32⟩
  | 15 => ⟨S32x8192x64, .f32⟩
  | 16 => ⟨S32x8192x64, .f32⟩
  | 17 => ⟨S32x2048x4, .i32⟩
  | 18 => ⟨S32x2048x4x64, .f32⟩
  | 19 => ⟨S32x2048x4x64, .f32⟩
  | 20 => ⟨S32x2048x4x64, .f32⟩
  | 21 => ⟨S_, .f32⟩
  | 22 => ⟨S32x2048x4, .f32⟩
  | 23 => ⟨S32x2048x4x1, .f32⟩
  | 24 => ⟨S32x2048x4x1, .f32⟩
  | 25 => ⟨S_, .f32⟩
  | 26 => ⟨S32x2048x4x1, .f32⟩
  | 27 => ⟨S32x2048x4x1, .f32⟩
  | 28 => ⟨S32x2048x4x64, .f32⟩
  | 29 => ⟨S32x2048x4x64, .f32⟩
  | 30 => ⟨S32x1x4x64, .f32⟩
  | 31 => ⟨S32x2047x4x64, .f32⟩
  | 32 => ⟨S32x2048x4x64, .f32⟩
  | 33 => ⟨S32x2048x8x64, .f32⟩
  | 34 => ⟨S32x1x4x64, .f32⟩
  | 35 => ⟨S32x2047x4x64, .f32⟩
  | 36 => ⟨S32x2048x4x64, .f32⟩
  | 37 => ⟨S32x2048x8x64, .f32⟩
  | 38 => ⟨S32x2048x4x1, .i32⟩
  | 39 => ⟨S32x1x4x1, .i32⟩
  | 40 => ⟨S32x2047x4x1, .i32⟩
  | 41 => ⟨S32x2048x4x1, .i32⟩
  | 42 => ⟨S32x2048x8x1, .i32⟩
  | 43 => ⟨S32x2048x8, .i32⟩
  | 44 => ⟨S32x2048x4x8, .f32⟩
  | 45 => ⟨S_, .f32⟩
  | 46 => ⟨S32x2048x4x8, .f32⟩
  | 47 => ⟨S32x2048x4x8, .f32⟩
  | 48 => ⟨S32x2048x4x1, .i32⟩
  | 49 => ⟨S32x2048x1x8, .i32⟩
  | 50 => ⟨S32x2048x4x8, .i32⟩
  | 51 => ⟨S32x2048x4x8, .i32⟩
  | 52 => ⟨S32x2048x4x8, .i1⟩
  | 53 => ⟨S_, .f32⟩
  | 54 => ⟨S_, .f32⟩
  | 55 => ⟨S32x2048x4x8, .f32⟩
  | 56 => ⟨S32x2048x4x8, .f32⟩
  | 57 => ⟨S_, .f32⟩
  | 58 => ⟨S32x2048x4, .f32⟩
  | 59 => ⟨S32x2048x4x1, .f32⟩
  | 60 => ⟨S32x2048x4x8, .f32⟩
  | 61 => ⟨S32x2048x4x8, .f32⟩
  | 62 => ⟨S32x2048x4x8, .f32⟩
  | 63 => ⟨S_, .f32⟩
  | 64 => ⟨S32x2048x4, .f32⟩
  | 65 => ⟨S32x2048x4x1, .f32⟩
  | 66 => ⟨S32x2048x4x1, .f32⟩
  | 67 => ⟨S32x2048x4x1, .f32⟩
  | 68 => ⟨S32x2048x4x8, .f32⟩
  | 69 => ⟨S32x2048x4x8, .f32⟩
  | 70 => ⟨S32x2048x4x8, .f32⟩
  | 71 => ⟨S32x2048x4x64, .f32⟩
  | 72 => ⟨S32x8192x64, .f32⟩
  | 73 => ⟨S32x8192, .f32⟩
  | 74 => ⟨S32x8192x1, .i32⟩
  | 75 => ⟨S_, .i32⟩
  | 76 => ⟨S32x8192x1, .i32⟩
  | 77 => ⟨S32x8192x1, .i1⟩
  | 78 => ⟨S_, .i32⟩
  | 79 => ⟨S32x8192x1, .i32⟩
  | 80 => ⟨S32x8192x1, .i32⟩
  | 81 => ⟨S32x8192x1, .i32⟩
  | 82 => ⟨S1, .i32⟩
  | 83 => ⟨S_, .i32⟩
  | 84 => ⟨S32x8192x1, .i32⟩
  | 85 => ⟨S32x8192x1, .i1⟩
  | 86 => ⟨S1x1x1, .i32⟩
  | 87 => ⟨S32x8192x1, .i32⟩
  | 88 => ⟨S32x8192x1, .i1⟩
  | 89 => ⟨S32x8192x1, .i1⟩
  | 90 => ⟨S_, .i1⟩
  | 91 => ⟨S32x8192, .i1⟩
  | 92 => ⟨S32x8192x64, .f32⟩
  | 93 => ⟨S32x8192x64, .i1⟩
  | 94 => ⟨S_, .f32⟩
  | 95 => ⟨S32x8192x64, .f32⟩
  | 96 => ⟨S32x8192x64, .f32⟩
  | 97 => ⟨S_, .i32⟩
  | 98 => ⟨S32x8192, .i32⟩
  | 99 => ⟨S32x8192, .i1⟩
  | 100 => ⟨S_, .i32⟩
  | 101 => ⟨S32x8192, .i32⟩
  | 102 => ⟨S32x8192, .i32⟩
  | 103 => ⟨S32x8192, .i32⟩
  | 104 => ⟨S32x8192x1, .i32⟩
  | 105 => ⟨S1, .i32⟩
  | 106 => ⟨S_, .i32⟩
  | 107 => ⟨S32x8192x1, .i32⟩
  | 108 => ⟨S32x8192x1, .i1⟩
  | 109 => ⟨S1x1x1, .i32⟩
  | 110 => ⟨S32x8192x1, .i32⟩
  | 111 => ⟨S32x8192x1, .i1⟩
  | 112 => ⟨S32x8192x1, .i1⟩
  | 113 => ⟨S_, .i1⟩
  | 114 => ⟨S32x8192, .i1⟩
  | 115 => ⟨S32x8192, .f32⟩
  | 116 => ⟨S_, .f32⟩
  | 117 => ⟨S32x8192, .f32⟩
  | 118 => ⟨S32x8192, .f32⟩
  | 119 => ⟨S32x4x2048x64, .f32⟩
  | 120 => ⟨S32x4x2048x1, .f32⟩
  | 121 => ⟨S_, .f32⟩
  | 122 => ⟨S32x2048x1, .f32⟩
  | 123 => ⟨S32x1x2048x1, .f32⟩
  | 124 => ⟨S32x4x2048x1, .f32⟩
  | 125 => ⟨S32x4x2048x1, .f32⟩
  | 126 => ⟨S32x4x2048x1, .f32⟩
  | 127 => ⟨S_, .f32⟩
  | _ => ⟨S2x2048x1024, .f32⟩

abbrev hbmTy0_2 (i : Nat) : BufTy := match i % 128 with
  | 0 => ⟨S32x2048x1, .f32⟩
  | 1 => ⟨S32x1x2048x1, .f32⟩
  | 2 => ⟨S32x1x2048x1, .f32⟩
  | 3 => ⟨S32x1x2048x1, .f32⟩
  | 4 => ⟨S32x4x2048x1, .f32⟩
  | 5 => ⟨S32x4x2048x1, .f32⟩
  | 6 => ⟨S32x4x2048x1, .f32⟩
  | 7 => ⟨S32x4x2048x64, .f32⟩
  | 8 => ⟨S32x4x2048x64, .f32⟩
  | 9 => ⟨S_, .f32⟩
  | 10 => ⟨S32x2048x64, .f32⟩
  | 11 => ⟨S2x16x2048x64, .f32⟩
  | 12 => ⟨S2x2048x16x64, .f32⟩
  | 13 => ⟨S2x2048x1024, .f32⟩
  | 14 => ⟨S2x2048x1024, .f32⟩
  | 15 => ⟨S1x1x1024, .f32⟩
  | 16 => ⟨S2x2048x1024, .f32⟩
  | 17 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_call2_v0 : Ref sig .tc := ⟨.hbm, 71, rfl⟩
abbrev main_call2_v1_0 : Ref sig .tc := ⟨.hbm, 72, rfl⟩
abbrev main_v33 : Ref sig .tc := ⟨.hbm, 73, rfl⟩
abbrev main_call3_v0 : Ref sig .tc := ⟨.hbm, 74, rfl⟩
abbrev main_call3_v1_0 : Ref sig .tc := ⟨.hbm, 75, rfl⟩
abbrev main_v34 : Ref sig .tc := ⟨.hbm, 76, rfl⟩
abbrev main_c_4 : Ref sig .tc := ⟨.hbm, 77, rfl⟩
abbrev main_call4_v0 : Ref sig .tc := ⟨.hbm, 78, rfl⟩
abbrev main_call4_c : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_c_1 : Ref sig .tc := ⟨.hbm, 85, rfl⟩
abbrev main_call4_v5 : Ref sig .tc := ⟨.hbm, 86, rfl⟩
abbrev main_call4_v6 : Ref sig .tc := ⟨.hbm, 87, rfl⟩
abbrev main_call4_c_2 : Ref sig .tc := ⟨.hbm, 88, rfl⟩
abbrev main_call4_v7 : Ref sig .tc := ⟨.hbm, 89, rfl⟩
abbrev main_call4_v8 : Ref sig .tc := ⟨.hbm, 90, rfl⟩
abbrev main_call4_c_3 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_v35 : Ref sig .tc := ⟨.hbm, 98, rfl⟩
abbrev main_v36 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_c_1 : Ref sig .tc := ⟨.hbm, 107, rfl⟩
abbrev main_call5_c_2 : Ref sig .tc := ⟨.hbm, 108, rfl⟩
abbrev main_call5_v5 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_c_3 : Ref sig .tc := ⟨.hbm, 115, rfl⟩
abbrev main_call5_v11 : Ref sig .tc := ⟨.hbm, 116, rfl⟩
abbrev main_call5_v12 : Ref sig .tc := ⟨.hbm, 117, rfl⟩
abbrev main_call5_v13 : Ref sig .tc := ⟨.hbm, 118, rfl⟩
abbrev main_call5_cst : Ref sig .tc := ⟨.hbm, 119, rfl⟩
abbrev main_call5_v14 : Ref sig .tc := ⟨.hbm, 120, rfl⟩
abbrev main_v37 : Ref sig .tc := ⟨.hbm, 121, rfl⟩
abbrev main_v38 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_call6_c_0 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_c_1 : Ref sig .tc := ⟨.hbm, 130, rfl⟩
abbrev main_call6_c_2 : Ref sig .tc := ⟨.hbm, 131, rfl⟩
abbrev main_call6_v5 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_c_3 : Ref sig .tc := ⟨.hbm, 138, rfl⟩
abbrev main_call6_v11 : Ref sig .tc := ⟨.hbm, 139, rfl⟩
abbrev main_call6_v12 : Ref sig .tc := ⟨.hbm, 140, rfl⟩
abbrev main_call6_v13 : Ref sig .tc := ⟨.hbm, 141, rfl⟩
abbrev main_call6_cst : Ref sig .tc := ⟨.hbm, 142, rfl⟩
abbrev main_call6_v14 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_call7_v0 : Ref sig .tc := ⟨.hbm, 148, rfl⟩
abbrev main_call7_cst : Ref sig .tc := ⟨.hbm, 149, rfl⟩
abbrev main_call7_v1 : Ref sig .tc := ⟨.hbm, 150, rfl⟩
abbrev main_call7_v2 : Ref sig .tc := ⟨.hbm, 151, rfl⟩
abbrev main_v43 : Ref sig .tc := ⟨.hbm, 152, rfl⟩
abbrev main_cst_5 : Ref sig .tc := ⟨.hbm, 153, rfl⟩
abbrev main_v44 : Ref sig .tc := ⟨.hbm, 154, rfl⟩
abbrev main_v45 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_cst_6 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_cst_7 : Ref sig .tc := ⟨.hbm, 181, rfl⟩
abbrev main_call8_v0 : Ref sig .tc := ⟨.hbm, 182, rfl⟩
abbrev main_call8_v1 : Ref sig .tc := ⟨.hbm, 183, rfl⟩
abbrev main_v70 : Ref sig .tc := ⟨.hbm, 184, rfl⟩
abbrev main_cst_8 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_cst_9 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_call9_c : Ref sig .tc := ⟨.hbm, 203, rfl⟩
abbrev main_call9_v0 : Ref sig .tc := ⟨.hbm, 204, rfl⟩
abbrev main_call9_v1 : Ref sig .tc := ⟨.hbm, 205, rfl⟩
abbrev main_call9_c_0 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_call9_c_1 : Ref sig .tc := ⟨.hbm, 210, rfl⟩
abbrev main_call9_c_2 : Ref sig .tc := ⟨.hbm, 211, rfl⟩
abbrev main_call9_v5 : Ref sig .tc := ⟨.hbm, 212, rfl⟩
abbrev main_call9_v6 : Ref sig .tc := ⟨.hbm, 213, rfl⟩
abbrev main_call9_v7 : Ref sig .tc := ⟨.hbm, 214, rfl⟩
abbrev main_call9_v8 : Ref sig .tc := ⟨.hbm, 215, rfl⟩
abbrev main_call9_v9 : Ref sig .tc := ⟨.hbm, 216, rfl⟩
abbrev main_call9_v10 : Ref sig .tc := ⟨.hbm, 217, rfl⟩
abbrev main_call9_c_3 : Ref sig .tc := ⟨.hbm, 218, rfl⟩
abbrev main_call9_v11 : Ref sig .tc := ⟨.hbm, 219, rfl⟩
abbrev main_call9_v12 : Ref sig .tc := ⟨.hbm, 220, rfl⟩
abbrev main_call9_v13 : Ref sig .tc := ⟨.hbm, 221, rfl⟩
abbrev main_call9_cst : Ref sig .tc := ⟨.hbm, 222, rfl⟩
abbrev main_call9_v14 : Ref sig .tc := ⟨.hbm, 223, rfl⟩
abbrev main_v87 : Ref sig .tc := ⟨.hbm, 224, rfl⟩
abbrev main_call10_c : Ref sig .tc := ⟨.hbm, 225, rfl⟩
abbrev main_call10_v0 : Ref sig .tc := ⟨.hbm, 226, rfl⟩
abbrev main_call10_v1 : Ref sig .tc := ⟨.hbm, 227, rfl⟩
abbrev main_call10_c_0 : Ref sig .tc := ⟨.hbm, 228, rfl⟩
abbrev main_call10_v2 : Ref sig .tc := ⟨.hbm, 229, rfl⟩
abbrev main_call10_v3 : Ref sig .tc := ⟨.hbm, 230, rfl⟩
abbrev main_call10_v4 : Ref sig .tc := ⟨.hbm, 231, rfl⟩
abbrev main_call10_v5 : Ref sig .tc := ⟨.hbm, 232, rfl⟩
abbrev main_call10_c_1 : Ref sig .tc := ⟨.hbm, 233, rfl⟩
abbrev main_call10_c_2 : Ref sig .tc := ⟨.hbm, 234, rfl⟩
abbrev main_call10_v6 : Ref sig .tc := ⟨.hbm, 235, rfl⟩
abbrev main_call10_v7 : Ref sig .tc := ⟨.hbm, 236, rfl⟩
abbrev main_call10_v8 : Ref sig .tc := ⟨.hbm, 237, rfl⟩
abbrev main_call10_v9 : Ref sig .tc := ⟨.hbm, 238, rfl⟩
abbrev main_call10_v10 : Ref sig .tc := ⟨.hbm, 239, rfl⟩
abbrev main_call10_v11 : Ref sig .tc := ⟨.hbm, 240, rfl⟩
abbrev main_call10_c_3 : Ref sig .tc := ⟨.hbm, 241, rfl⟩
abbrev main_call10_v12 : Ref sig .tc := ⟨.hbm, 242, rfl⟩
abbrev main_call10_v13 : Ref sig .tc := ⟨.hbm, 243, rfl⟩
abbrev main_call10_cst : Ref sig .tc := ⟨.hbm, 244, rfl⟩
abbrev main_call10_v14 : Ref sig .tc := ⟨.hbm, 245, rfl⟩
abbrev main_v88 : Ref sig .tc := ⟨.hbm, 246, rfl⟩
abbrev main_v89 : Ref sig .tc := ⟨.hbm, 247, rfl⟩
abbrev main_v90 : Ref sig .tc := ⟨.hbm, 248, rfl⟩
abbrev main_cst_10 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩
abbrev main_v95 : Ref sig .tc := ⟨.hbm, 254, rfl⟩
abbrev main_cst_11 : Ref sig .tc := ⟨.hbm, 255, rfl⟩
abbrev main_v96 : Ref sig .tc := ⟨.hbm, 256, rfl⟩
abbrev main_v97 : Ref sig .tc := ⟨.hbm, 257, rfl⟩
abbrev main_v98 : Ref sig .tc := ⟨.hbm, 258, rfl⟩
abbrev main_v99 : Ref sig .tc := ⟨.hbm, 259, rfl⟩
abbrev main_v100 : Ref sig .tc := ⟨.hbm, 260, rfl⟩
abbrev main_v101 : Ref sig .tc := ⟨.hbm, 261, rfl⟩
abbrev main_v102 : Ref sig .tc := ⟨.hbm, 262, rfl⟩
abbrev main_v103 : Ref sig .tc := ⟨.hbm, 263, rfl⟩
abbrev main_v104 : Ref sig .tc := ⟨.hbm, 264, rfl⟩
abbrev main_cst_12 : Ref sig .tc := ⟨.hbm, 265, rfl⟩
abbrev main_v105 : Ref sig .tc := ⟨.hbm, 266, rfl⟩
abbrev main_v106 : Ref sig .tc := ⟨.hbm, 267, rfl⟩
abbrev main_v107 : Ref sig .tc := ⟨.hbm, 268, rfl⟩
abbrev main_v108 : Ref sig .tc := ⟨.hbm, 269, rfl⟩
abbrev main_v109 : Ref sig .tc := ⟨.hbm, 270, rfl⟩
abbrev main_v110 : Ref sig .tc := ⟨.hbm, 271, rfl⟩
abbrev main_v111 : Ref sig .tc := ⟨.hbm, 272, rfl⟩
abbrev main_v112 : Ref sig .tc := ⟨.hbm, 273, rfl⟩

abbrev nD : Nat := 1
abbrev τ : Topo := Topo.v7x

variable {F : FTy → Type} [FloatOps F]
-- ==== Proof.KernelIdeal.Region0.lean ====
/-
  Region 0 of the program (the two products and the buckets), from any contents `W` of the buffers it is entered at: what the body leaves in each
  output window's buffer as a function of the input windows' blocks, the body's triple, the region's proof data and its body
  obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it (`W`). -/
def iblk0 (c : Dev nD) (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- Input window 0's current staging buffer holds its block at every point, fetched there or not, for ANY proof
    data whose array is `W`'s (`hA`) and whose body leaves the block in place (`hafter`): FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W (Proc.devRef .tc (Pipeline.arrRef spec0 0)))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `W`'s (`hA`) and whose body leaves the block in place (`hafter`): FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = W (Proc.devRef .tc (Pipeline.arrRef spec0 1)))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `W`'s (`hA`) and whose body leaves the block in place (`hafter`): FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = W (Proc.devRef .tc (Pipeline.arrRef spec0 2)))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `W`'s (`hA`) and whose body leaves the block in place (`hafter`): FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = W (Proc.devRef .tc (Pipeline.arrRef spec0 3)))
    (hafter : ∀ t, dat.after 3 t = iblk0 W c 3 t) (t : Fin cfg0.N) (d) : dat.before 3 t d = iblk0 W c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S64x1024 := Rect.unit (s := S64x1024) ![0, 0] S64x1024.size inb_S64x1024_S64x1024_0_0
abbrev r0_3 : Rect S256x16x4 := Rect.unit (s := S256x16x4) ![0, 0, 0] S256x1x4.size inb_S256x16x4_S256x1x4_0_0_0
abbrev r0_4 : Rect S256x16x4 := Rect.unit (s := S256x16x4) ![0, 1, 0] S256x1x4.size inb_S256x16x4_S256x1x4_0_1_0
abbrev r0_5 : Rect S256x16x4 := Rect.unit (s := S256x16x4) ![0, 2, 0] S256x1x4.size inb_S256x16x4_S256x1x4_0_2_0
abbrev r0_6 : Rect S256x16x4 := Rect.unit (s := S256x16x4) ![0, 3, 0] S256x1x4.size inb_S256x16x4_S256x1x4_0_3_0
abbrev r0_7 : Rect S256x16x4 := Rect.unit (s := S256x16x4) ![0, 4, 0] S256x1x4.size inb_S256x16x4_S256x1x4_0_4_0
abbrev r0_8 : Rect S256x16x4 := Rect.unit (s := S256x16x4) ![0, 5, 0] S256x1x4.size inb_S256x16x4_S256x1x4_0_5_0
abbrev r0_9 : Rect S256x16x4 := Rect.unit (s := S256x16x4) ![0, 6, 0] S256x1x4.size inb_S256x16x4_S256x1x4_0_6_0
abbrev r0_10 : Rect S256x16x4 := Rect.unit (s := S256x16x4) ![0, 7, 0] S256x1x4.size inb_S256x16x4_S256x1x4_0_7_0
abbrev r0_11 : Rect S256x16x4 := Rect.unit (s := S256x16x4) ![0, 8, 0] S256x1x4.size inb_S256x16x4_S256x1x4_0_8_0
abbrev r0_12 : Rect S256x16x4 := Rect.unit (s := S256x16x4) ![0, 9, 0] S256x1x4.size inb_S256x16x4_S256x1x4_0_9_0
abbrev r0_13 : Rect S256x16x4 := Rect.unit (s := S256x16x4) ![0, 10, 0] S256x1x4.size inb_S256x16x4_S256x1x4_0_10_0
abbrev r0_14 : Rect S256x16x4 := Rect.unit (s := S256x16x4) ![0, 11, 0] S256x1x4.size inb_S256x16x4_S256x1x4_0_11_0
abbrev r0_15 : Rect S256x16x4 := Rect.unit (s := S256x16x4) ![0, 12, 0] S256x1x4.size inb_S256x16x4_S256x1x4_0_12_0
abbrev r0_16 : Rect S256x16x4 := Rect.unit (s := S256x16x4) ![0, 13, 0] S256x1x4.size inb_S256x16x4_S256x1x4_0_13_0
abbrev r0_17 : Rect S256x16x4 := Rect.unit (s := S256x16x4) ![0, 14, 0] S256x1x4.size inb_S256x16x4_S256x1x4_0_14_0
abbrev r0_18 : Rect S256x16x4 := Rect.unit (s := S256x16x4) ![0, 15, 0] S256x1x4.size inb_S256x16x4_S256x1x4_0_15_0

/-! ## What the body leaves in each output window's buffer -/

theorem slices_head (h : Fin 16) : S256x1024.Slices ![0, 64 * h.val] S256x64 := by
  revert h; decide

theorem slices_hash (r : Fin 4) : S256x1024.Slices ![0, 256 * r.val] S256x256 := by
  revert r; decide

/-- A block of rows times a whole weight matrix. -/
def prodBlk (x : FVec F S256x1024 .f32) (w : FVec F S1024x1024 .f32) : FVec F S256x1024 .f32 :=
  matmul dot_S256x1024_S1024x1024_S256x1024_1_0_0_1_n_n none
    (shapeCast S256x1024 x shapeCasts_S256x1024_S256x1024) w (constant S256x1024 .f32 0x00000000#32)

/-- One head's rows times the rotations (all four hashes side by side). -/
def rotBlk (qk : FVec F S256x1024 .f32) (rot : FVec F S64x1024 .f32) (h : Fin 16) : FVec F S256x1024 .f32 :=
  matmul dot_S256x64_S64x1024_S256x1024_1_0_0_1_n_n none
    (extractStridedSlice S256x64 ![0, 64 * h.val] qk (slices_head h))
    (shapeCast S64x1024 rot shapeCasts_S64x1024_S64x1024) (constant S256x1024 .f32 0x00000000#32)

/-- Each row's greatest entry, as a column. -/
def rowMax (v : FVec F S256x256 .f32) : FVec F S256x1 .f32 :=
  shapeCast S256x1 (multiReduction .maximumf [1] S256 v 0xFF800000#32 reduces_S256x256_S256 (.inl rfl) rfl)
    shapeCasts_S256_S256x1

/-- The first column at which a row has its greatest entry. -/
def rowArg (v : FVec F S256x256 .f32) : IVec S256x1 32 :=
  shapeCast S256x1 (multiReductionI .minsi [1] S256
    (select (cmpf .oeq v (broadcastTo S256x256 (rowMax v) broadcasts_S256x1_S256x256))
      (iota .tc S256x256 32 [1] iota_S256x256_d1_w32) (broadcast S256x256 1073741824#32))
    2147483647#32 reduces_S256x256_S256 rfl) shapeCasts_S256_S256x1

/-- Zero minus the entries. -/
def negBlk (v : FVec F S256x256 .f32) : FVec F S256x256 .f32 :=
  subf (broadcast S256x256 (Scalar.ofBits .f32 0x00000000#32)) v

/-- The bucket of each row for one hash: the position of the greatest of the entries and their negatives. -/
def bktCol (v : FVec F S256x256 .f32) : IVec S256x1 32 :=
  select (cmpf .oge (rowMax v) (rowMax (negBlk v))) (rowArg v)
    (addi (rowArg (negBlk v)) (broadcast S256x1 256#32))

/-- One head's buckets for hash `r`. -/
def bktHash (qk : FVec F S256x1024 .f32) (rot : FVec F S64x1024 .f32) (h : Fin 16) (r : Fin 4) : IVec S256x1 32 :=
  bktCol (extractStridedSlice S256x256 ![0, 256 * r.val] (rotBlk qk rot h) (slices_hash r))

/-- One head's buckets for the four hashes. -/
def bktHead (qk : FVec F S256x1024 .f32) (rot : FVec F S64x1024 .f32) (h : Fin 16) : IVec S256x1x4 32 :=
  shapeCast S256x1x4 (concatenate S256x4 1 [⟨S256x1, bktHash qk rot h 0⟩, ⟨S256x1, bktHash qk rot h 1⟩,
    ⟨S256x1, bktHash qk rot h 2⟩, ⟨S256x1, bktHash qk rot h 3⟩] concatenates_S256x1_S256x1_S256x1_S256x1_S256x4_d1)
    shapeCasts_S256x4_S256x1x4

/-- The first output: the shared query/key rows. -/
def out0_4 (x0 : Vec F S256x1024 .f32) (x1 : Vec F S1024x1024 .f32) (x2 : Vec F S1024x1024 .f32) (x3 : Vec F S64x1024 .f32) : Vec F S256x1024 .f32 :=
  View.canon [⟨r0_0, prodBlk (View.ld x0 r0_0) (View.ld x1 r0_1)⟩]

/-- Its stores tile the buffer (checked by evaluation), so they cover it. -/
theorem cover0_4 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- The second output: the value rows. -/
def out0_5 (x0 : Vec F S256x1024 .f32) (x1 : Vec F S1024x1024 .f32) (x2 : Vec F S1024x1024 .f32) (x3 : Vec F S64x1024 .f32) : Vec F S256x1024 .f32 :=
  View.canon [⟨r0_0, prodBlk (View.ld x0 r0_0) (View.ld x2 r0_1)⟩]

/-- Its stores tile the buffer (checked by evaluation), so they cover it. -/
theorem cover0_5 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- The third output: the buckets, one head after the other. -/
def out0_6 (x0 : Vec F S256x1024 .f32) (x1 : Vec F S1024x1024 .f32) (x2 : Vec F S1024x1024 .f32) (x3 : Vec F S64x1024 .f32) : Vec F S256x16x4 .i32 :=
  View.canon [
    ⟨r0_18, bktHead (prodBlk (View.ld x0 r0_0) (View.ld x1 r0_1)) (View.ld x3 r0_2) 15⟩,
    ⟨r0_17, bktHead (prodBlk (View.ld x0 r0_0) (View.ld x1 r0_1)) (View.ld x3 r0_2) 14⟩,
    ⟨r0_16, bktHead (prodBlk (View.ld x0 r0_0) (View.ld x1 r0_1)) (View.ld x3 r0_2) 13⟩,
    ⟨r0_15, bktHead (prodBlk (View.ld x0 r0_0) (View.ld x1 r0_1)) (View.ld x3 r0_2) 12⟩,
    ⟨r0_14, bktHead (prodBlk (View.ld x0 r0_0) (View.ld x1 r0_1)) (View.ld x3 r0_2) 11⟩,
    ⟨r0_13, bktHead (prodBlk (View.ld x0 r0_0) (View.ld x1 r0_1)) (View.ld x3 r0_2) 10⟩,
    ⟨r0_12, bktHead (prodBlk (View.ld x0 r0_0) (View.ld x1 r0_1)) (View.ld x3 r0_2) 9⟩,
    ⟨r0_11, bktHead (prodBlk (View.ld x0 r0_0) (View.ld x1 r0_1)) (View.ld x3 r0_2) 8⟩,
    ⟨r0_10, bktHead (prodBlk (View.ld x0 r0_0) (View.ld x1 r0_1)) (View.ld x3 r0_2) 7⟩,
    ⟨r0_9, bktHead (prodBlk (View.ld x0 r0_0) (View.ld x1 r0_1)) (View.ld x3 r0_2) 6⟩,
    ⟨r0_8, bktHead (prodBlk (View.ld x0 r0_0) (View.ld x1 r0_1)) (View.ld x3 r0_2) 5⟩,
    ⟨r0_7, bktHead (prodBlk (View.ld x0 r0_0) (View.ld x1 r0_1)) (View.ld x3 r0_2) 4⟩,
    ⟨r0_6, bktHead (prodBlk (View.ld x0 r0_0) (View.ld x1 r0_1)) (View.ld x3 r0_2) 3⟩,
    ⟨r0_5, bktHead (prodBlk (View.ld x0 r0_0) (View.ld x1 r0_1)) (View.ld x3 r0_2) 2⟩,
    ⟨r0_4, bktHead (prodBlk (View.ld x0 r0_0) (View.ld x1 r0_1)) (View.ld x3 r0_2) 1⟩,
    ⟨r0_3, bktHead (prodBlk (View.ld x0 r0_0) (View.ld x1 r0_1)) (View.ld x3 r0_2) 0⟩]

/-- Its stores tile the buffer (checked by evaluation), so they cover it. -/
theorem cover0_6 (p0 : Vec F S256x1x4 .i32) (p1 : Vec F S256x1x4 .i32) (p2 : Vec F S256x1x4 .i32) (p3 : Vec F S256x1x4 .i32) (p4 : Vec F S256x1x4 .i32) (p5 : Vec F S256x1x4 .i32) (p6 : Vec F S256x1x4 .i32) (p7 : Vec F S256x1x4 .i32) (p8 : Vec F S256x1x4 .i32) (p9 : Vec F S256x1x4 .i32) (p10 : Vec F S256x1x4 .i32) (p11 : Vec F S256x1x4 .i32) (p12 : Vec F S256x1x4 .i32) (p13 : Vec F S256x1x4 .i32) (p14 : Vec F S256x1x4 .i32) (p15 : Vec F S256x1x4 .i32) (y : S256x16x4.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] : List (View.Piece (Elt F) S256x16x4 .i32)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] S256x1x4.size (by rfl) y

/-! ## The body's triple -/

set_option maxHeartbeats 1592000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x16x4 .i32) (harg7 : arg7.IsWhole)
    (x0 : Vec F S256x1024 .f32) (x1 : Vec F S1024x1024 .f32) (x2 : Vec F S1024x1024 .f32) (x3 : Vec F S64x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__stage1_body i arg1 harg1 arg2 harg2 arg3 harg3 arg4 harg4 arg5 harg5 arg6 harg6 arg7 harg7) K := by
  simp only [cc0__stage1_body_eq_skeleton]; unfold cc0__stage1_body_skel
  simp only [k0_part40_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _ _ _ _ _ _ _ _ _ _ _ _ _ _ _ _)).trans ?_
  rfl

/-! ## The pipeline's proof data -/

/-- The proof data of the one pipeline on core `c`: the arrays as the region finds them (`W`); after the body at
    point `t` each input's buffer at its block and each output's at `out0_W` of the input blocks; the invariant the
    class's (Frame.lean `ΦA`: the scoped rest and the generator register, untouched); nothing owed;
    full shares. -/
def dat0 (c : Dev nD) : Dat τ (Elt F) Unit ℕ (UR sig nD τ) ℕ cfg0 c where
  A w := W (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => out0_4 (iblk0 W c 0 t) (iblk0 W c 1 t) (iblk0 W c 2 t) (iblk0 W c 3 t)
    | ⟨5, _⟩ => out0_5 (iblk0 W c 0 t) (iblk0 W c 1 t) (iblk0 W c 2 t) (iblk0 W c 3 t)
    | ⟨6, _⟩ => out0_6 (iblk0 W c 0 t) (iblk0 W c 1 t) (iblk0 W c 2 t) (iblk0 W c 3 t)
  Φ _ := Pipeline.ΦA spec0 c
  q _ := fullShare
  owed _ := 0

/-- The proof data's arrays are the region-entry contents: the proof data's definition projected (`dsimp`), so that
    `W`, a fold over the host steps, is never unfolded to check it. -/
theorem A_eq0 (c : Dev nD) (w : Fin cfg0.W) : (dat0 W c).A w = W (Proc.devRef .tc (Pipeline.arrRef spec0 w)) := by
  dsimp only [dat0]

/-- What the body leaves, window by window (the proof data's `match` reduced by `dsimp`, never `rfl`: Lib/Pipeline.lean `Dat`). -/
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = out0_4 (iblk0 W c 0 t) (iblk0 W c 1 t) (iblk0 W c 2 t) (iblk0 W c 3 t) := by dsimp only [dat0]
theorem after0_5 (c : Dev nD) (t : Fin cfg0.N) : (dat0 W c).after 5 t = out0_5 (iblk0 W c 0 t) (iblk0 W c 1 t) (iblk0 W c 2 t) (iblk0 W c 3 t) := by dsimp only [dat0]
theorem after0_6 (c : Dev nD) (t : Fin cfg0.N) : (dat0 W c).after 6 t = out0_6 (iblk0 W c 0 t) (iblk0 W c 1 t) (iblk0 W c 2 t) (iblk0 W c 3 t) := by dsimp only [dat0]

/-- Each input's current staging buffer holds its block at every point, fetched there or not (`beforeK_W_of`). -/
theorem before0_0 (c : Dev nD) (t : Fin cfg0.N) (d) : (dat0 W c).before 0 t d = iblk0 W c 0 t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d
theorem before0_3 (c : Dev nD) (t : Fin cfg0.N) (d) : (dat0 W c).before 3 t d = iblk0 W c 3 t :=
  before0_3_of W (dat0 W c) (A_eq0 W c 3) (after0_3 W c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d)))

/-- and what it returns. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t))

/-- The body at any point: the inputs' memrefs hold their blocks (`before0_W`), so `sound_kernel0` applies; the invariant and
    the core's `owes` pass through unread. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 W c 0 t) (iblk0 W c 1 t) (iblk0 W c 2 t) (iblk0 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (FrameBody.lean `triple_restated`). -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Whole

end
-- ==== Proof.KernelIdeal.Region1.lean ====
/-
  Region 1 of the program (the ranks), from any contents `W` of the buffers it is entered at: what the body leaves in each
  output window's buffer as a function of the input windows' blocks, the body's triple, the region's proof data and its body
  obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it (`W`). -/
def iblk1 (c : Dev nD) (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- Input window 0's current staging buffer holds its block at every point, fetched there or not, for ANY proof
    data whose array is `W`'s (`hA`) and whose body leaves the block in place (`hafter`): FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = W (Proc.devRef .tc (Pipeline.arrRef spec1 0)))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x2048x1 := Rect.unit (s := S1x2048x1) ![0, 0, 0] S1x2048x1.size inb_S1x2048x1_S1x2048x1_0_0_0
abbrev r1_1 : Rect S1x2048x1 := Rect.unit (s := S1x2048x1) ![0, 0, 0] S1x128x1.size inb_S1x2048x1_S1x128x1_0_0_0
abbrev r1_2 : Rect S1x2048x1 := Rect.unit (s := S1x2048x1) ![0, 128, 0] S1x128x1.size inb_S1x2048x1_S1x128x1_0_128_0
abbrev r1_3 : Rect S1x2048x1 := Rect.unit (s := S1x2048x1) ![0, 256, 0] S1x128x1.size inb_S1x2048x1_S1x128x1_0_256_0
abbrev r1_4 : Rect S1x2048x1 := Rect.unit (s := S1x2048x1) ![0, 384, 0] S1x128x1.size inb_S1x2048x1_S1x128x1_0_384_0
abbrev r1_5 : Rect S1x2048x1 := Rect.unit (s := S1x2048x1) ![0, 512, 0] S1x128x1.size inb_S1x2048x1_S1x128x1_0_512_0
abbrev r1_6 : Rect S1x2048x1 := Rect.unit (s := S1x2048x1) ![0, 640, 0] S1x128x1.size inb_S1x2048x1_S1x128x1_0_640_0
abbrev r1_7 : Rect S1x2048x1 := Rect.unit (s := S1x2048x1) ![0, 768, 0] S1x128x1.size inb_S1x2048x1_S1x128x1_0_768_0
abbrev r1_8 : Rect S1x2048x1 := Rect.unit (s := S1x2048x1) ![0, 896, 0] S1x128x1.size inb_S1x2048x1_S1x128x1_0_896_0
abbrev r1_9 : Rect S1x2048x1 := Rect.unit (s := S1x2048x1) ![0, 1024, 0] S1x128x1.size inb_S1x2048x1_S1x128x1_0_1024_0
abbrev r1_10 : Rect S1x2048x1 := Rect.unit (s := S1x2048x1) ![0, 1152, 0] S1x128x1.size inb_S1x2048x1_S1x128x1_0_1152_0
abbrev r1_11 : Rect S1x2048x1 := Rect.unit (s := S1x2048x1) ![0, 1280, 0] S1x128x1.size inb_S1x2048x1_S1x128x1_0_1280_0
abbrev r1_12 : Rect S1x2048x1 := Rect.unit (s := S1x2048x1) ![0, 1408, 0] S1x128x1.size inb_S1x2048x1_S1x128x1_0_1408_0
abbrev r1_13 : Rect S1x2048x1 := Rect.unit (s := S1x2048x1) ![0, 1536, 0] S1x128x1.size inb_S1x2048x1_S1x128x1_0_1536_0
abbrev r1_14 : Rect S1x2048x1 := Rect.unit (s := S1x2048x1) ![0, 1664, 0] S1x128x1.size inb_S1x2048x1_S1x128x1_0_1664_0
abbrev r1_15 : Rect S1x2048x1 := Rect.unit (s := S1x2048x1) ![0, 1792, 0] S1x128x1.size inb_S1x2048x1_S1x128x1_0_1792_0
abbrev r1_16 : Rect S1x2048x1 := Rect.unit (s := S1x2048x1) ![0, 1920, 0] S1x128x1.size inb_S1x2048x1_S1x128x1_0_1920_0

/-! ## What the body leaves in the output window's buffer -/

theorem slices_rows (k : Fin 16) : S2048x1.Slices ![128 * k.val, 0] S128x1 := by
  revert k; decide

/-- Block `k`'s 128 buckets as rows of zeros and a one. -/
def oneHot (b : IVec S2048x1 32) (k : Fin 16) : FVec F S128x512 .f32 :=
  sitofp .f32 (extui 32 (cmpi .eq (broadcastTo S128x512
    (extractStridedSlice S128x1 ![128 * k.val, 0] b (slices_rows k)) broadcasts_S128x1_S128x512)
    (iota .tc S128x512 32 [1] iota_S128x512_d1_w32)) natLt_1_32)

/-- How many of block `k`'s rows are in each bucket. -/
def countBlk (b : IVec S2048x1 32) (k : Fin 16) : FVec F S1x512 .f32 :=
  shapeCast S1x512 (multiReduction .add [0] S512 (oneHot (F := F) b k) 0x00000000#32 reduces_S128x512_S512 (.inl rfl) rfl)
    shapeCasts_S512_S1x512

/-- How many rows of blocks `0 … k` are in each bucket. -/
def totalTo (b : IVec S2048x1 32) : ℕ → FVec F S1x512 .f32
  | 0 => countBlk b 0
  | k + 1 => addf (totalTo b k) (countBlk b (Fin.ofNat 16 (k + 1)))

/-- How many rows of the blocks before `k` are in each bucket. -/
def accTo (b : IVec S2048x1 32) : ℕ → FVec F S1x512 .f32
  | 0 => broadcast S1x512 (Scalar.ofBits .f32 0x00000000#32)
  | k + 1 => addf (accTo b k) (countBlk b (Fin.ofNat 16 k))

/-- How many rows are in the buckets before each. -/
def exclBlk (b : IVec S2048x1 32) : FVec F S1x512 .f32 :=
  matmul dot_S1x512_S512x512_S1x512_1_0_0_1_n_n (some .fp32) (totalTo b 15)
    (sitofp .f32 (extui 32 (cmpi .slt (iota .tc S512x512 32 [0] iota_S512x512_d0_w32)
      (iota .tc S512x512 32 [1] iota_S512x512_d1_w32)) natLt_1_32)) (constant S1x512 .f32 0x00000000#32)

/-- The strict lower triangle of ones. -/
def lowerBlk : FVec F S128x128 .f32 :=
  sitofp .f32 (extui 32 (cmpi .sgt (iota .tc S128x128 32 [0] iota_S128x128_d0_w32)
    (iota .tc S128x128 32 [1] iota_S128x128_d1_w32)) natLt_1_32)

/-- Per row: the rows in the buckets before its own and the rows of its own bucket in the blocks before. -/
def gatherBlk (b : IVec S2048x1 32) (k : Fin 16) : FVec F S128x1 .f32 :=
  matmul dot_S128x512_S512x1_S128x1_1_0_0_1_n_n (some .fp32) (oneHot b k)
    (shapeCast S512x1 (addf (exclBlk b) (accTo b k.val)) shapeCasts_S1x512_S512x1) (constant S128x1 .f32 0x00000000#32)

/-- Per row: the earlier rows of its own bucket in its block. -/
def earlierBlk (b : IVec S2048x1 32) (k : Fin 16) : FVec F S128x1 .f32 :=
  shapeCast S128x1 (multiReduction .add [1] S128
    (mulf (matmul dot_S128x512_S128x512_S128x128_1_1_0_0_n_n none (truncf .bf16 (oneHot (F := F) b k) bitsLt_bf16_f32)
      (truncf .bf16 (oneHot (F := F) b k) bitsLt_bf16_f32) (constant S128x128 .f32 0x00000000#32)) lowerBlk)
    0x00000000#32 reduces_S128x128_S128 (.inl rfl) rfl) shapeCasts_S128_S128x1

/-- Block `k`'s ranks. -/
def rankBlk (b : IVec S2048x1 32) (k : Fin 16) : IVec S1x128x1 32 :=
  shapeCast S1x128x1 (fptosi 32 (addf (gatherBlk (F := F) b k) (earlierBlk b k))) shapeCasts_S128x1_S1x128x1

/-- The buckets of the block as one column. -/
def bktRows (x : IVec S1x2048x1 32) : IVec S2048x1 32 :=
  shapeCast S2048x1 x shapeCasts_S1x2048x1_S2048x1

/-- The output: the ranks, block after block. -/
def out1_1 (x0 : Vec F S1x2048x1 .i32) : Vec F S1x2048x1 .i32 :=
  View.canon [
    ⟨r1_16, rankBlk (F := F) (bktRows (View.ld x0 r1_0)) 15⟩,
    ⟨r1_15, rankBlk (F := F) (bktRows (View.ld x0 r1_0)) 14⟩,
    ⟨r1_14, rankBlk (F := F) (bktRows (View.ld x0 r1_0)) 13⟩,
    ⟨r1_13, rankBlk (F := F) (bktRows (View.ld x0 r1_0)) 12⟩,
    ⟨r1_12, rankBlk (F := F) (bktRows (View.ld x0 r1_0)) 11⟩,
    ⟨r1_11, rankBlk (F := F) (bktRows (View.ld x0 r1_0)) 10⟩,
    ⟨r1_10, rankBlk (F := F) (bktRows (View.ld x0 r1_0)) 9⟩,
    ⟨r1_9, rankBlk (F := F) (bktRows (View.ld x0 r1_0)) 8⟩,
    ⟨r1_8, rankBlk (F := F) (bktRows (View.ld x0 r1_0)) 7⟩,
    ⟨r1_7, rankBlk (F := F) (bktRows (View.ld x0 r1_0)) 6⟩,
    ⟨r1_6, rankBlk (F := F) (bktRows (View.ld x0 r1_0)) 5⟩,
    ⟨r1_5, rankBlk (F := F) (bktRows (View.ld x0 r1_0)) 4⟩,
    ⟨r1_4, rankBlk (F := F) (bktRows (View.ld x0 r1_0)) 3⟩,
    ⟨r1_3, rankBlk (F := F) (bktRows (View.ld x0 r1_0)) 2⟩,
    ⟨r1_2, rankBlk (F := F) (bktRows (View.ld x0 r1_0)) 1⟩,
    ⟨r1_1, rankBlk (F := F) (bktRows (View.ld x0 r1_0)) 0⟩]

/-- Its stores tile the buffer (checked by evaluation), so they cover it. -/
theorem cover1_1 (p0 : Vec F S1x128x1 .i32) (p1 : Vec F S1x128x1 .i32) (p2 : Vec F S1x128x1 .i32) (p3 : Vec F S1x128x1 .i32) (p4 : Vec F S1x128x1 .i32) (p5 : Vec F S1x128x1 .i32) (p6 : Vec F S1x128x1 .i32) (p7 : Vec F S1x128x1 .i32) (p8 : Vec F S1x128x1 .i32) (p9 : Vec F S1x128x1 .i32) (p10 : Vec F S1x128x1 .i32) (p11 : Vec F S1x128x1 .i32) (p12 : Vec F S1x128x1 .i32) (p13 : Vec F S1x128x1 .i32) (p14 : Vec F S1x128x1 .i32) (p15 : Vec F S1x128x1 .i32) (y : S1x2048x1.Idx) :
    ∃ pc ∈ ([⟨r1_16, p0⟩, ⟨r1_15, p1⟩, ⟨r1_14, p2⟩, ⟨r1_13, p3⟩, ⟨r1_12, p4⟩, ⟨r1_11, p5⟩, ⟨r1_10, p6⟩, ⟨r1_9, p7⟩, ⟨r1_8, p8⟩, ⟨r1_7, p9⟩, ⟨r1_6, p10⟩, ⟨r1_5, p11⟩, ⟨r1_4, p12⟩, ⟨r1_3, p13⟩, ⟨r1_2, p14⟩, ⟨r1_1, p15⟩] : List (View.Piece (Elt F) S1x2048x1 .i32)), y ∈ pc.1.set :=
  View.cover_of_tiled [⟨r1_16, p0⟩, ⟨r1_15, p1⟩, ⟨r1_14, p2⟩, ⟨r1_13, p3⟩, ⟨r1_12, p4⟩, ⟨r1_11, p5⟩, ⟨r1_10, p6⟩, ⟨r1_9, p7⟩, ⟨r1_8, p8⟩, ⟨r1_7, p9⟩, ⟨r1_6, p10⟩, ⟨r1_5, p11⟩, ⟨r1_4, p12⟩, ⟨r1_3, p13⟩, ⟨r1_2, p14⟩, ⟨r1_1, p15⟩] S1x128x1.size (by rfl) y

/-! ## The body's triple -/

set_option maxHeartbeats 1236850 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x2048x1 .i32) (harg1 : arg1.IsWhole) (arg2 : Memref sig .tc .vmem S1x2048x1 .i32) (harg2 : arg2.IsWhole)
    (x0 : Vec F S1x2048x1 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__rank_body i arg1 harg1 arg2 harg2) K := by
  simp only [cc1__rank_body_eq_skeleton]; unfold cc1__rank_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover1_1 _ _ _ _ _ _ _ _ _ _ _ _ _ _ _ _)).trans ?_
  rfl

/-! ## The pipeline's proof data -/

/-- The proof data of the one pipeline on core `c`: the arrays as the region finds them (`W`); after the body at
    point `t` each input's buffer at its block and each output's at `out1_W` of the input blocks; the invariant the
    class's (Frame.lean `ΦA`: the scoped rest and the generator register, untouched); nothing owed;
    full shares. -/
def dat1 (c : Dev nD) : Dat τ (Elt F) Unit ℕ (UR sig nD τ) ℕ cfg1 c where
  A w := W (Proc.devRef .tc (Pipeline.arrRef spec1 w))
  after w t := match w with
    | ⟨0, _⟩ => iblk1 W c 0 t
    | ⟨1, _⟩ => out1_1 (iblk1 W c 0 t)
  Φ _ := Pipeline.ΦA spec1 c
  q _ := fullShare
  owed _ := 0

/-- The proof data's arrays are the region-entry contents: the proof data's definition projected (`dsimp`), so that
    `W`, a fold over the host steps, is never unfolded to check it. -/
theorem A_eq1 (c : Dev nD) (w : Fin cfg1.W) : (dat1 W c).A w = W (Proc.devRef .tc (Pipeline.arrRef spec1 w)) := by
  dsimp only [dat1]

/-- What the body leaves, window by window (the proof data's `match` reduced by `dsimp`, never `rfl`: Lib/Pipeline.lean `Dat`). -/
theorem after1_0 (c : Dev nD) (t : Fin cfg1.N) : (dat1 W c).after 0 t = iblk1 W c 0 t := by dsimp only [dat1]
theorem after1_1 (c : Dev nD) (t : Fin cfg1.N) : (dat1 W c).after 1 t = out1_1 (iblk1 W c 0 t) := by dsimp only [dat1]

/-- Each input's current staging buffer holds its block at every point, fetched there or not (`beforeK_W_of`). -/
theorem before1_0 (c : Dev nD) (t : Fin cfg1.N) (d) : (dat1 W c).before 0 t d = iblk1 W c 0 t :=
  before1_0_of W (dat1 W c) (A_eq1 W c 0) (after1_0 W c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d)))

/-- and what it returns. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t))

/-- The body at any point: the inputs' memrefs hold their blocks (`before1_W`), so `sound_kernel1` applies; the invariant and
    the core's `owes` pass through unread. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0]
  rw [show (dat1 W c).Φ t.succ = (dat1 W c).Φ t.castSucc from rfl,
    show (dat1 W c).owesAt () t.succ = (dat1 W c).owesAt () t.castSucc from rfl,
    after1_0, after1_1]
  iintro ⟨HΦ, Ho, ⟨%d0, H0⟩, ⟨%d1, H1⟩⟩
  iapply (sound_kernel1 c Set.univ (grid1.coords t) _ _ _ _ (iblk1 W c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (FrameBody.lean `triple_restated`). -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end Cert.KernelIdeal.Whole

end
-- ==== Proof.KernelIdeal.Attn.lean ====
/-
  The attention call's body: the rectangles it reads and writes, the values its prologue leaves in the three scratch buffers and
  its 64 trips in the two outputs' buffers.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

abbrev r2_0 : Rect S1x8192x64 := Rect.unit (s := S1x8192x64) ![0, 0, 0] S1x8192x64.size inb_S1x8192x64_S1x8192x64_0_0_0
abbrev r2_0e : Rect S1x8192x64 := Rect.unit (s := S1x8192x64) ![0, 8188, 0] S1x4x64.size inb_S1x8192x64_S1x4x64_0_8188_0
abbrev r2_3 : Rect S1x1x8192 := Rect.unit (s := S1x1x8192) ![0, 0, 0] S1x1x8192.size inb_S1x1x8192_S1x1x8192_0_0_0
abbrev r2_3e : Rect S1x1x8192 := Rect.unit (s := S1x1x8192) ![0, 0, 8188] S1x1x4.size inb_S1x1x8192_S1x1x4_0_0_8188
abbrev r2_7a : Rect S8200x64 := Rect.unit (s := S8200x64) ![0, 0] S4x64.size inb_S8200x64_S4x64_0_0
abbrev r2_7b : Rect S8200x64 := Rect.unit (s := S8200x64) ![4, 0] S8192x64.size inb_S8200x64_S8192x64_4_0
abbrev r2_9a : Rect S8x8200 := Rect.unit (s := S8x8200) ![0, 0] S1x4.size inb_S8x8200_S1x4_0_0
abbrev r2_9b : Rect S8x8200 := Rect.unit (s := S8x8200) ![0, 4] S1x8192.size inb_S8x8200_S1x8192_0_4
abbrev r2_k1 (k : Fin k2_t1_loop.trips) : Rect S1x8192x64 := Rect.unit (s := S1x8192x64) (k2_off1 k) S1x128x64.size (k2_off1_inb k)
abbrev r2_k2 (k : Fin k2_t1_loop.trips) : Rect S8200x64 := Rect.unit (s := S8200x64) (k2_off2 k) S132x64.size (k2_off2_inb k)
abbrev r2_k3 (k : Fin k2_t1_loop.trips) : Rect S1x8192x1 := Rect.unit (s := S1x8192x1) (k2_off3 k) S1x128x1.size (k2_off3_inb k)
abbrev r2_k4 (k : Fin k2_t1_loop.trips) : Rect S8x8200 := Rect.unit (s := S8x8200) (k2_off4 k) S1x132.size (k2_off4_inb k)

/-! ## What the trips' accesses are -/

theorem trips2 : k2_t1_loop.trips = 64 := by decide +kernel
theorem k2_off1_val : ∀ k : Fin k2_t1_loop.trips, k2_off1 k = ![0, 128 * k.val, 0] := by decide +kernel
theorem k2_off2_val : ∀ k : Fin k2_t1_loop.trips, k2_off2 k = ![128 * k.val, 0] := by decide +kernel
theorem k2_off3_val : ∀ k : Fin k2_t1_loop.trips, k2_off3 k = ![0, 128 * k.val, 0] := by decide +kernel
theorem k2_off4_val : ∀ k : Fin k2_t1_loop.trips, k2_off4 k = ![0, 128 * k.val] := by decide +kernel

/-! ## What the prologue leaves in the scratch buffers -/

/-- The normalized keys, the last four rows in front: the pieces. -/
def keyPieces (x0 : Vec F S1x8192x64 .f32) : List (View.Piece (Elt F) S8200x64 .f32) :=
  [⟨r2_7b, k2_pay11 (View.ld x0 r2_0)⟩, ⟨r2_7a, k2_pay10 (View.ld x0 r2_0)⟩]
/-- The values, the last four rows in front: the pieces. -/
def valPieces (x1 : Vec F S1x8192x64 .f32) : List (View.Piece (Elt F) S8200x64 .f32) :=
  [⟨r2_7b, k2_pay13 (View.ld x1 r2_0)⟩, ⟨r2_7a, k2_pay12 (View.ld x1 r2_0e)⟩]
/-- The positions of the keys, the last four in front: the pieces. -/
def posPieces (x3 : Vec F S1x1x8192 .i32) : List (View.Piece (Elt F) S8x8200 .i32) :=
  [⟨r2_9b, k2_pay16 (View.ld x3 r2_3)⟩, ⟨r2_9a, k2_pay15 (k2_pay14 (View.ld x3 r2_3e))⟩]

theorem key_cov (k : Fin k2_t1_loop.trips) (p0 : Vec F S4x64 .f32) (p1 : Vec F S8192x64 .f32) (y : (r2_k2 k).shape.Idx) :
    ∃ p ∈ ([⟨r2_7b, p1⟩, ⟨r2_7a, p0⟩] : List (View.Piece (Elt F) S8200x64 .f32)), (r2_k2 k).idx y ∈ p.1.set := by
  have h0 : (y 0).val < 132 := (y 0).isLt
  have h1 : (y 1).val < 64 := (y 1).isLt
  have hk : k.val < 64 := lt_of_lt_of_le k.isLt (le_of_eq trips2)
  have e0 : ((r2_k2 k).idx y 0).val = 128 * k.val + (y 0).val := by
    show k2_off2 k 0 + 1 * (y 0).val = _
    rw [k2_off2_val]; simp
  have e1 : ((r2_k2 k).idx y 1).val = (y 1).val := by
    show k2_off2 k 1 + 1 * (y 1).val = _
    rw [k2_off2_val]; simp
  by_cases h : 128 * k.val + (y 0).val < 4
  · refine ⟨_, List.mem_cons_of_mem _ List.mem_cons_self, ?_⟩
    refine (Rect.mem_set_unit (inb := inb_S8200x64_S4x64_0_0)).mpr fun a => ?_
    match a with
    | 0 => exact ⟨Nat.zero_le _, by rw [e0]; exact h⟩
    | 1 => exact ⟨Nat.zero_le _, by rw [e1]; exact (show (y 1).val < 0 + 64 by omega)⟩
  · refine ⟨_, List.mem_cons_self, ?_⟩
    refine (Rect.mem_set_unit (inb := inb_S8200x64_S8192x64_4_0)).mpr fun a => ?_
    match a with
    | 0 => exact ⟨by rw [e0]; exact (show 4 ≤ _ by omega), by rw [e0]; exact (show _ < 4 + 8192 by omega)⟩
    | 1 => exact ⟨Nat.zero_le _, by rw [e1]; exact (show (y 1).val < 0 + 64 by omega)⟩

theorem pos_cov (k : Fin k2_t1_loop.trips) (p0 : Vec F S1x4 .i32) (p1 : Vec F S1x8192 .i32) (y : (r2_k4 k).shape.Idx) :
    ∃ p ∈ ([⟨r2_9b, p1⟩, ⟨r2_9a, p0⟩] : List (View.Piece (Elt F) S8x8200 .i32)), (r2_k4 k).idx y ∈ p.1.set := by
  have h0 : (y 0).val < 1 := (y 0).isLt
  have h1 : (y 1).val < 132 := (y 1).isLt
  have hk : k.val < 64 := lt_of_lt_of_le k.isLt (le_of_eq trips2)
  have e0 : ((r2_k4 k).idx y 0).val = (y 0).val := by
    show k2_off4 k 0 + 1 * (y 0).val = _
    rw [k2_off4_val]; simp
  have e1 : ((r2_k4 k).idx y 1).val = 128 * k.val + (y 1).val := by
    show k2_off4 k 1 + 1 * (y 1).val = _
    rw [k2_off4_val]; simp
  by_cases h : 128 * k.val + (y 1).val < 4
  · refine ⟨_, List.mem_cons_of_mem _ List.mem_cons_self, ?_⟩
    refine (Rect.mem_set_unit (inb := inb_S8x8200_S1x4_0_0)).mpr fun a => ?_
    match a with
    | 0 => exact ⟨Nat.zero_le _, by rw [e0]; exact (show _ < 0 + 1 by omega)⟩
    | 1 => exact ⟨Nat.zero_le _, by rw [e1]; exact h⟩
  · refine ⟨_, List.mem_cons_self, ?_⟩
    refine (Rect.mem_set_unit (inb := inb_S8x8200_S1x8192_0_4)).mpr fun a => ?_
    match a with
    | 0 => exact ⟨Nat.zero_le _, by rw [e0]; exact (show _ < 0 + 1 by omega)⟩
    | 1 => exact ⟨by rw [e1]; exact (show 4 ≤ _ by omega), by rw [e1]; exact (show _ < 4 + 8192 by omega)⟩

/-! ## What the trips leave in the outputs' buffers -/

/-- What is added to a block's scores: zero in the band of keys a row attends to, the mask's value off it. -/
def bandBlk : FVec F S128x132 .f32 := k2_pay1 k2_pay17 (Named.named κ "mask" 0xF149F2CA#32) (k2_pay18 (F := F))

/-- A trip's rows, from the contents its loads read. -/
def rowsOf (v70 : IVec S128x132 1) (cst_32 : F .f32) (v71 : FVec F S128x132 .f32) (q : Vec F S1x128x64 .f32) (kn : Vec F S132x64 .f32)
    (v : Vec F S132x64 .f32) (ta : Vec F S1x128x1 .i32) (tb : Vec F S1x132 .i32) : Vec F S1x128x64 .f32 :=
  k2_pay2 (k2_pay8 (k2_pay1 v70 cst_32 v71) q kn v ta tb)
/-- A trip's logits, from the contents its loads read. -/
def logsOf (v70 : IVec S128x132 1) (cst_32 : F .f32) (v71 : FVec F S128x132 .f32) (q : Vec F S1x128x64 .f32) (kn : Vec F S132x64 .f32)
    (ta : Vec F S1x128x1 .i32) (tb : Vec F S1x132 .i32) : Vec F S1x128x1 .f32 :=
  k2_pay3 (k2_pay5 (k2_pay1 v70 cst_32 v71) q kn ta tb) (k2_pay7 (k2_pay1 v70 cst_32 v71) q kn ta tb)

/-- A list of pieces, one per trip before `n`, last first. -/
def piecesTo {s : Shape} {e : EltTy} (R : Fin k2_t1_loop.trips → Rect s) (P : (k : Fin k2_t1_loop.trips) → (R k).shape.Idx → Elt F e) :
    ℕ → List (View.Piece (Elt F) s e)
  | 0 => []
  | k + 1 => if h : k < k2_t1_loop.trips then ⟨R ⟨k, h⟩, P ⟨k, h⟩⟩ :: piecesTo R P k else piecesTo R P k

theorem mem_piecesTo {s : Shape} {e : EltTy} (R : Fin k2_t1_loop.trips → Rect s) (P : (k : Fin k2_t1_loop.trips) → (R k).shape.Idx → Elt F e)
    (k : Fin k2_t1_loop.trips) : ∀ n, k.val < n → (⟨R k, P k⟩ : View.Piece (Elt F) s e) ∈ piecesTo R P n
  | 0, h => absurd h (Nat.not_lt_zero _)
  | n + 1, h => by
    unfold piecesTo
    by_cases hn : n < k2_t1_loop.trips
    · rw [dif_pos hn]
      rcases Nat.lt_succ_iff_lt_or_eq.mp h with h | h
      · exact List.mem_cons_of_mem _ (mem_piecesTo R P k n h)
      · obtain rfl : k = ⟨n, hn⟩ := Fin.ext h
        exact List.mem_cons_self
    · rw [dif_neg hn]
      exact mem_piecesTo R P k n (by have := k.isLt; omega)

/-- The rows of all trips. -/
def out2_4 (x0 : Vec F S1x8192x64 .f32) (x1 : Vec F S1x8192x64 .f32) (x2 : Vec F S1x8192x1 .i32) (x3 : Vec F S1x1x8192 .i32) : Vec F S1x8192x64 .f32 :=
  View.canon (piecesTo r2_k1 (fun k => rowsOf k2_pay17 (Named.named κ "mask" 0xF149F2CA#32) (k2_pay18 (F := F)) (View.ld x0 (r2_k1 k)) (View.ld (View.canon (keyPieces x0)) (r2_k2 k))
    (View.ld (View.canon (valPieces x1)) (r2_k2 k)) (View.ld x2 (r2_k3 k)) (View.ld (View.canon (posPieces x3)) (r2_k4 k))) k2_t1_loop.trips)
/-- The logits of all trips. -/
def out2_5 (x0 : Vec F S1x8192x64 .f32) (x1 : Vec F S1x8192x64 .f32) (x2 : Vec F S1x8192x1 .i32) (x3 : Vec F S1x1x8192 .i32) : Vec F S1x8192x1 .f32 :=
  View.canon (piecesTo r2_k3 (fun k => logsOf k2_pay17 (Named.named κ "mask" 0xF149F2CA#32) (k2_pay18 (F := F)) (View.ld x0 (r2_k1 k)) (View.ld (View.canon (keyPieces x0)) (r2_k2 k))
    (View.ld x2 (r2_k3 k)) (View.ld (View.canon (posPieces x3)) (r2_k4 k))) k2_t1_loop.trips)

theorem cover2_4 (P : (k : Fin k2_t1_loop.trips) → (r2_k1 k).shape.Idx → Elt F .f32) (y : S1x8192x64.Idx) :
    ∃ p ∈ piecesTo r2_k1 P k2_t1_loop.trips, y ∈ p.1.set := by
  have h0 : (y 0).val < 1 := (y 0).isLt
  have h1 : (y 1).val < 8192 := (y 1).isLt
  have h2 : (y 2).val < 64 := (y 2).isLt
  have hk : (y 1).val / 128 < k2_t1_loop.trips := by rw [trips2]; omega
  refine ⟨_, mem_piecesTo r2_k1 P ⟨_, hk⟩ _ hk, ?_⟩
  refine (Rect.mem_set_unit (inb := k2_off1_inb _)).mpr fun a => ?_
  rw [k2_off1_val]
  match a with
  | 0 => exact ⟨Nat.zero_le _, (show _ < 0 + 1 by omega)⟩
  | 1 => exact ⟨(show 128 * ((y 1).val / 128) ≤ _ by omega), (show _ < 128 * ((y 1).val / 128) + 128 by omega)⟩
  | 2 => exact ⟨Nat.zero_le _, (show _ < 0 + 64 by omega)⟩

theorem cover2_5 (P : (k : Fin k2_t1_loop.trips) → (r2_k3 k).shape.Idx → Elt F .f32) (y : S1x8192x1.Idx) :
    ∃ p ∈ piecesTo r2_k3 P k2_t1_loop.trips, y ∈ p.1.set := by
  have h0 : (y 0).val < 1 := (y 0).isLt
  have h1 : (y 1).val < 8192 := (y 1).isLt
  have h2 : (y 2).val < 1 := (y 2).isLt
  have hk : (y 1).val / 128 < k2_t1_loop.trips := by rw [trips2]; omega
  refine ⟨_, mem_piecesTo r2_k3 P ⟨_, hk⟩ _ hk, ?_⟩
  refine (Rect.mem_set_unit (inb := k2_off3_inb _)).mpr fun a => ?_
  rw [k2_off3_val]
  match a with
  | 0 => exact ⟨Nat.zero_le _, (show _ < 0 + 1 by omega)⟩
  | 1 => exact ⟨(show 128 * ((y 1).val / 128) ≤ _ by omega), (show _ < 128 * ((y 1).val / 128) + 128 by omega)⟩
  | 2 => exact ⟨Nat.zero_le _, (show _ < 0 + 1 by omega)⟩

/-- A load inside what a list of writes covers reads the pieces alone. -/
theorem ld_writes {s : Shape} {sp : Space} {e : EltTy} (v : View sig .tc sp s e) (f : v.ty.Contents (Elt F)) (L : List (View.Piece (Elt F) s e)) (r : Rect s)
    (h : ∀ y : r.shape.Idx, ∃ p ∈ L, r.idx y ∈ p.1.set) :
    View.ld (v.read (Elt F) (v.writes (Elt F) f L)) r = View.ld (View.canon L) r :=
  funext fun y => View.read_writes_apply_eq_canon v f _ L (h y)

end Cert.KernelIdeal.Whole

end
-- ==== Proof.KernelIdeal.AttnLoop.lean ====
/-
  The attention call's loop: the pieces its trips write, in closed form.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.Attn
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop's pieces -/

section Loop

variable (c : Dev nD) (i : grid2.Coords) (arg1 : Memref sig .tc .vmem S1x8192x64 .f32) (harg1 : arg1.IsWhole) (arg2 : Memref sig .tc .vmem S1x8192x64 .f32) (harg2 : arg2.IsWhole) (arg3 : Memref sig .tc .vmem S1x8192x1 .i32) (harg3 : arg3.IsWhole) (arg4 : Memref sig .tc .vmem S1x1x8192 .i32) (harg4 : arg4.IsWhole) (arg5 : Memref sig .tc .vmem S1x8192x64 .f32) (harg5 : arg5.IsWhole) (arg6 : Memref sig .tc .vmem S1x8192x1 .f32) (harg6 : arg6.IsWhole) (arg7 : Memref sig .tc .vmem S8200x64 .f32) (harg7 : arg7.IsWhole) (arg8 : Memref sig .tc .vmem S8200x64 .f32) (harg8 : arg8.IsWhole) (arg9 : Memref sig .tc .vmem S8x8200 .i32) (harg9 : arg9.IsWhole) (v70 : IVec S128x132 1) (cst_32 : F .f32) (v71 : FVec F S128x132 .f32)
  (X1 : BufTy.Contents (Elt F) arg1.view.ty) (X3 : BufTy.Contents (Elt F) arg3.view.ty) (X7 : BufTy.Contents (Elt F) arg7.view.ty) (X8 : BufTy.Contents (Elt F) arg8.view.ty) (X9 : BufTy.Contents (Elt F) arg9.view.ty)

theorem trip_rows (k : Fin k2_t1_loop.trips) :
    (tripL_k2_t1 (F := F) Variants.none c none i arg1 harg1 arg2 harg2 arg3 harg3 arg4 harg4 arg5 harg5 arg6 harg6 arg7 harg7 arg8 harg8 arg9 harg9 v70 cst_32 v71 X1 X3 X7 X8 X9 k).1
      = [⟨r2_k1 k, rowsOf v70 cst_32 v71 (View.ld (arg1.view.read (Elt F) X1) (r2_k1 k)) (View.ld (arg7.view.read (Elt F) X7) (r2_k2 k))
          (View.ld (arg8.view.read (Elt F) X8) (r2_k2 k)) (View.ld (arg3.view.read (Elt F) X3) (r2_k3 k)) (View.ld (arg9.view.read (Elt F) X9) (r2_k4 k))⟩] := by
  unfold tripL_k2_t1 trip_k2_t1; rfl

theorem trip_logs (k : Fin k2_t1_loop.trips) :
    (tripL_k2_t1 (F := F) Variants.none c none i arg1 harg1 arg2 harg2 arg3 harg3 arg4 harg4 arg5 harg5 arg6 harg6 arg7 harg7 arg8 harg8 arg9 harg9 v70 cst_32 v71 X1 X3 X7 X8 X9 k).2
      = [⟨r2_k3 k, logsOf v70 cst_32 v71 (View.ld (arg1.view.read (Elt F) X1) (r2_k1 k)) (View.ld (arg7.view.read (Elt F) X7) (r2_k2 k))
          (View.ld (arg3.view.read (Elt F) X3) (r2_k3 k)) (View.ld (arg9.view.read (Elt F) X9) (r2_k4 k))⟩] := by
  unfold tripL_k2_t1 trip_k2_t1; rfl

theorem pb_eq : ∀ (n : ℕ) (h : n ≤ k2_t1_loop.trips),
    pb_k2_t1 (F := F) Variants.none c none i arg1 harg1 arg2 harg2 arg3 harg3 arg4 harg4 arg5 harg5 arg6 harg6 arg7 harg7 arg8 harg8 arg9 harg9 v70 cst_32 v71 X1 X3 X7 X8 X9 n
      = (piecesTo r2_k1 (fun k => rowsOf v70 cst_32 v71 (View.ld (arg1.view.read (Elt F) X1) (r2_k1 k)) (View.ld (arg7.view.read (Elt F) X7) (r2_k2 k))
          (View.ld (arg8.view.read (Elt F) X8) (r2_k2 k)) (View.ld (arg3.view.read (Elt F) X3) (r2_k3 k)) (View.ld (arg9.view.read (Elt F) X9) (r2_k4 k))) n,
        piecesTo r2_k3 (fun k => logsOf v70 cst_32 v71 (View.ld (arg1.view.read (Elt F) X1) (r2_k1 k)) (View.ld (arg7.view.read (Elt F) X7) (r2_k2 k))
          (View.ld (arg3.view.read (Elt F) X3) (r2_k3 k)) (View.ld (arg9.view.read (Elt F) X9) (r2_k4 k))) n)
  | 0, _ => by unfold pb_k2_t1 piecesTo; rfl
  | n + 1, h => by
    have hn : n < k2_t1_loop.trips := h
    have e := pb_k2_t1_succ (F := F) Variants.none c none i arg1 harg1 arg2 harg2 arg3 harg3 arg4 harg4 arg5 harg5 arg6 harg6 arg7 harg7 arg8 harg8 arg9 harg9 v70 cst_32 v71 X1 X3 X7 X8 X9 ⟨n, hn⟩
    refine e.trans ?_
    rw [trip_rows, trip_logs, pb_eq n (Nat.le_of_lt hn)]
    conv_rhs => unfold piecesTo
    rw [dif_pos hn, dif_pos hn]
    rfl

/-- What the loop leaves in the rows' buffer. -/
theorem rows_read (X2 : BufTy.Contents (Elt F) arg2.view.ty) (X4 : BufTy.Contents (Elt F) arg4.view.ty) (f4 : BufTy.Contents (Elt F) arg5.view.ty) :
    View.read (Elt F) arg5.view (arg5.view.writes (Elt F) f4
      (pb_k2_t1 (F := F) Variants.none c none i arg1 harg1 arg2 harg2 arg3 harg3 arg4 harg4 arg5 harg5 arg6 harg6 arg7 harg7 arg8 harg8 arg9 harg9 k2_pay17 (Named.named κ "mask" 0xF149F2CA#32) k2_pay18 X1 X3
        (arg7.view.writes (Elt F) X7 (keyPieces (View.read (Elt F) arg1.view X1))) (arg8.view.writes (Elt F) X8 (valPieces (View.read (Elt F) arg2.view X2)))
        (arg9.view.writes (Elt F) X9 (posPieces (View.read (Elt F) arg4.view X4))) k2_t1_loop.trips).1)
      = out2_4 (View.read (Elt F) arg1.view X1) (View.read (Elt F) arg2.view X2) (View.read (Elt F) arg3.view X3) (View.read (Elt F) arg4.view X4) := by
  rw [pb_eq (h := le_refl _)]
  refine (View.read_writes_eq_canon _ _ _ (cover2_4 _)).trans ?_
  unfold out2_4
  refine congrArg (fun P => View.canon (piecesTo r2_k1 P k2_t1_loop.trips)) (funext fun k => ?_)
  rw [ld_writes _ _ (keyPieces _) _ (key_cov k _ _), ld_writes _ _ (valPieces _) _ (key_cov k _ _), ld_writes _ _ (posPieces _) _ (pos_cov k _ _)]

/-- What the loop leaves in the logits' buffer. -/
theorem logs_read (X4 : BufTy.Contents (Elt F) arg4.view.ty) (f5 : BufTy.Contents (Elt F) arg6.view.ty) (x1 : Vec F S1x8192x64 .f32) :
    View.read (Elt F) arg6.view (arg6.view.writes (Elt F) f5
      (pb_k2_t1 (F := F) Variants.none c none i arg1 harg1 arg2 harg2 arg3 harg3 arg4 harg4 arg5 harg5 arg6 harg6 arg7 harg7 arg8 harg8 arg9 harg9 k2_pay17 (Named.named κ "mask" 0xF149F2CA#32) k2_pay18 X1 X3
        (arg7.view.writes (Elt F) X7 (keyPieces (View.read (Elt F) arg1.view X1))) X8
        (arg9.view.writes (Elt F) X9 (posPieces (View.read (Elt F) arg4.view X4))) k2_t1_loop.trips).2)
      = out2_5 (View.read (Elt F) arg1.view X1) x1 (View.read (Elt F) arg3.view X3) (View.read (Elt F) arg4.view X4) := by
  rw [pb_eq (h := le_refl _)]
  refine (View.read_writes_eq_canon _ _ _ (cover2_5 _)).trans ?_
  unfold out2_5
  refine congrArg (fun P => View.canon (piecesTo r2_k3 P k2_t1_loop.trips)) (funext fun k => ?_)
  rw [ld_writes _ _ (keyPieces _) _ (key_cov k _ _), ld_writes _ _ (posPieces _) _ (pos_cov k _ _)]

end Loop

end Cert.KernelIdeal.Whole

end
-- ==== Proof.KernelIdeal.AttnBody.lean ====
/-
  The attention call's body: its triple.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.AttnLoop
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's triple -/

set_option maxHeartbeats 4000000 in
/-- The kernel body on whole memrefs, the inputs' at read contents `xW`, the outputs' and the scratch buffers' at anything, runs
    to the continuation holding the inputs' as they were, the outputs' at `out2_W` of the inputs' and the scratch buffers'. -/
theorem sound_kernel2 (c : Dev nD) (E : Set ℕ) (i : grid2.Coords) (arg1 : Memref sig .tc .vmem S1x8192x64 .f32) (harg1 : arg1.IsWhole) (arg2 : Memref sig .tc .vmem S1x8192x64 .f32) (harg2 : arg2.IsWhole) (arg3 : Memref sig .tc .vmem S1x8192x1 .i32) (harg3 : arg3.IsWhole) (arg4 : Memref sig .tc .vmem S1x1x8192 .i32) (harg4 : arg4.IsWhole) (arg5 : Memref sig .tc .vmem S1x8192x64 .f32) (harg5 : arg5.IsWhole) (arg6 : Memref sig .tc .vmem S1x8192x1 .f32) (harg6 : arg6.IsWhole) (arg7 : Memref sig .tc .vmem S8200x64 .f32) (harg7 : arg7.IsWhole) (arg8 : Memref sig .tc .vmem S8200x64 .f32) (harg8 : arg8.IsWhole) (arg9 : Memref sig .tc .vmem S8x8200 .i32) (harg9 : arg9.IsWhole)
    (x0 : Vec F S1x8192x64 .f32) (x1 : Vec F S1x8192x64 .f32) (x2 : Vec F S1x8192x1 .i32) (x3 : Vec F S1x1x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)
          ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9) K := by
  simp only [cc2__attn_body_eq_skeleton]; unfold cc2__attn_body_skel
  simp only [k2_part2_eq_skeleton, k2_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact rows_read c i arg1 harg1 arg2 harg2 arg3 harg3 arg4 harg4 arg5 harg5 arg6 harg6 arg7 harg7 arg8 harg8 arg9 harg9 f0 f2 f6 f7 f8 f1 f3 f4
  isplitl [H5]
  · iexists _; isplitr
    swap; · iexact H5
    ipureintro
    exact logs_read c i arg1 harg1 arg2 harg2 arg3 harg3 arg4 harg4 arg5 harg5 arg6 harg6 arg7 harg7 arg8 harg8 arg9 harg9 f0 f2 f6 _ f8 f3 f5 _
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

end Cert.KernelIdeal.Whole

end
-- ==== Proof.KernelIdeal.Region2.lean ====
/-
  Region 2 of the program (the attention), from any contents `W` of the buffers it is entered at: the region's proof data and its
  body obligation.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KernelIdeal.AttnBody
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it (`W`). -/
def iblk2 (c : Dev nD) (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

theorem before2_0_of {c : Dev nD} (dat : Dat τ (Elt F) Unit ℕ (UR sig nD τ) ℕ cfg2 c) (hA : dat.A 0 = W (Proc.devRef .tc (Pipeline.arrRef spec2 0)))
    (hafter : ∀ t, dat.after 0 t = iblk2 W c 0 t) (t : Fin cfg2.N) (d) : dat.before 0 t d = iblk2 W c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = W (Proc.devRef .tc (Pipeline.arrRef spec2 1)))
    (hafter : ∀ t, dat.after 1 t = iblk2 W c 1 t) (t : Fin cfg2.N) (d) : dat.before 1 t d = iblk2 W c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = W (Proc.devRef .tc (Pipeline.arrRef spec2 2)))
    (hafter : ∀ t, dat.after 2 t = iblk2 W c 2 t) (t : Fin cfg2.N) (d) : dat.before 2 t d = iblk2 W c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = W (Proc.devRef .tc (Pipeline.arrRef spec2 3)))
    (hafter : ∀ t, dat.after 3 t = iblk2 W c 3 t) (t : Fin cfg2.N) (d) : dat.before 3 t d = iblk2 W c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data on core `c`: the arrays as the region finds them (`W`); after the body at point `t` each input's buffer at its
    block and each output's at `out2_W` of the input blocks; the invariant the scoped rest and the generator register. -/
def dat2 (c : Dev nD) : Dat τ (Elt F) Unit ℕ (UR sig nD τ) ℕ cfg2 c where
  A w := W (Proc.devRef .tc (Pipeline.arrRef spec2 w))
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => out2_4 (iblk2 W c 0 t) (iblk2 W c 1 t) (iblk2 W c 2 t) (iblk2 W c 3 t)
    | ⟨5, _⟩ => out2_5 (iblk2 W c 0 t) (iblk2 W c 1 t) (iblk2 W c 2 t) (iblk2 W c 3 t)
  Φ _ := Pipeline.ΦA spec2 c
  q _ := fullShare
  owed _ := 0

theorem A_eq2 (c : Dev nD) (w : Fin cfg2.W) : (dat2 W c).A w = W (Proc.devRef .tc (Pipeline.arrRef spec2 w)) := by
  dsimp only [dat2]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = out2_4 (iblk2 W c 0 t) (iblk2 W c 1 t) (iblk2 W c 2 t) (iblk2 W c 3 t) := by dsimp only [dat2]
theorem after2_5 (c : Dev nD) (t : Fin cfg2.N) : (dat2 W c).after 5 t = out2_5 (iblk2 W c 0 t) (iblk2 W c 1 t) (iblk2 W c 2 t) (iblk2 W c 3 t) := by dsimp only [dat2]
theorem before2_0 (c : Dev nD) (t : Fin cfg2.N) (d) : (dat2 W c).before 0 t d = iblk2 W c 0 t :=
  before2_0_of W (dat2 W c) (A_eq2 W c 0) (after2_0 W c) t d
theorem before2_1 (c : Dev nD) (t : Fin cfg2.N) (d) : (dat2 W c).before 1 t d = iblk2 W c 1 t :=
  before2_1_of W (dat2 W c) (A_eq2 W c 1) (after2_1 W c) t d
theorem before2_2 (c : Dev nD) (t : Fin cfg2.N) (d) : (dat2 W c).before 2 t d = iblk2 W c 2 t :=
  before2_2_of W (dat2 W c) (A_eq2 W c 2) (after2_2 W c) t d
theorem before2_3 (c : Dev nD) (t : Fin cfg2.N) (d) : (dat2 W c).before 3 t d = iblk2 W c 3 t :=
  before2_3_of W (dat2 W c) (A_eq2 W c 3) (after2_3 W c) t d

/-! ## The body obligation, at a generic point -/

def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d)))

def bodyPost2 (c : Dev nD) (t : Fin cfg2.N) : sProp 𝕄 :=
  iprop((dat2 W c).Φ t.succ ∗ (dat2 W c).owesAt () t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t)
    ∗ owns (c : Thread nD τ) (st2_5 t) fullShare ((dat2 W c).after 5 t))

/-- The body at any point: the scratch buffers out of the scoped rest, the body's triple, the scratch buffers back. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [show (dat2 W c).Φ t.succ = Pipeline.ΦA spec2 c from rfl, show (dat2 W c).Φ t.castSucc = Pipeline.ΦA spec2 c from rfl,
    show (dat2 W c).owesAt () t.succ = (dat2 W c).owesAt () t.castSucc from rfl,
    after2_0, after2_1, after2_2, after2_3, after2_4, after2_5]
  unfold Pipeline.ΦA
  rw [scopedRest2_split]
  iintro ⟨⟨⟨⟨⟨%s6, S6⟩, ⟨%s7, S7⟩, ⟨%s8, S8⟩⟩, Sr⟩, Hg⟩, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ _ _ _ _ _ _ (iblk2 W c 0 t) (iblk2 W c 1 t) (iblk2 W c 2 t) (iblk2 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [S6]; · iexists s6; rw [owns_whole]; iexact S6
  isplitl [S7]; · iexists s7; rw [owns_whole]; iexact S7
  isplitl [S8]; · iexists s8; rw [owns_whole]; iexact S8
  iintro ⟨H0, H1, H2, H3, H4, H5, ⟨%u6, S6⟩, ⟨%u7, S7⟩, ⟨%u8, S8⟩⟩
  isplitl [S6 S7 S8 Sr Hg]
  · isplitl [S6 S7 S8 Sr]
    · isplitl [S6 S7 S8]
      · isplitl [S6]; · iexists u6; rw [← owns_whole]; iexact S6
        isplitl [S7]; · iexists u7; rw [← owns_whole]; iexact S7
        iexists u8; rw [← owns_whole]; iexact S8
      iexact Sr
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) W c) (defs₀ (F := F)) Variants.none () Set.univ := fun t => by
  rw [bigSep_W2, bigSep_W2, defs₀_row2]
  exact triple_restated (sound_body2 W c t) rfl .rfl fun _ => .rfl

end Cert.KernelIdeal.Whole

end
-- ==== Proof.KernelIdeal.Region3.lean ====
/-
  Region 3 of the program (the combination), from any contents `W` of the buffers it is entered at: what the body leaves in each
  output window's buffer as a function of the input windows' blocks, the body's triple, the region's proof data and its body
  obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Valuation τ sig (Elt F))

/-- Window `w`'s block at point `t`, read off its array as the region finds it (`W`). -/
def iblk3 (c : Dev nD) (w : Fin cfg3.W) (t : Fin cfg3.N) : ((cfg3.win w).xblock (cfg3.grid.coords t)).Idx → Elt F (cfg3.win w).elt :=
  ((cfg3.win w).blk t).view.read (Elt F) (W (Proc.devRef .tc (Pipeline.arrRef spec3 w)))

/-- Input window 0's current staging buffer holds its block at every point, fetched there or not, for ANY proof
    data whose array is `W`'s (`hA`) and whose body leaves the block in place (`hafter`): FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = W (Proc.devRef .tc (Pipeline.arrRef spec3 0)))
    (hafter : ∀ t, dat.after 0 t = iblk3 W c 0 t) (t : Fin cfg3.N) (d) : dat.before 0 t d = iblk3 W c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `W`'s (`hA`) and whose body leaves the block in place (`hafter`): FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = W (Proc.devRef .tc (Pipeline.arrRef spec3 1)))
    (hafter : ∀ t, dat.after 1 t = iblk3 W c 1 t) (t : Fin cfg3.N) (d) : dat.before 1 t d = iblk3 W c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `W`'s (`hA`) and whose body leaves the block in place (`hafter`): FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = W (Proc.devRef .tc (Pipeline.arrRef spec3 2)))
    (hafter : ∀ t, dat.after 2 t = iblk3 W c 2 t) (t : Fin cfg3.N) (d) : dat.before 2 t d = iblk3 W c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `W`'s (`hA`) and whose body leaves the block in place (`hafter`): FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = W (Proc.devRef .tc (Pipeline.arrRef spec3 3)))
    (hafter : ∀ t, dat.after 3 t = iblk3 W c 3 t) (t : Fin cfg3.N) (d) : dat.before 3 t d = iblk3 W c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S128x16x4 := Rect.unit (s := S128x16x4) ![0, 0, 0] S128x16x4.size inb_S128x16x4_S128x16x4_0_0_0
abbrev r3_1 : Rect S128x64x64 := Rect.unit (s := S128x64x64) ![0, 0, 0] S128x64x64.size inb_S128x64x64_S128x64x64_0_0_0
abbrev r3_2 : Rect S1024x1024 := Rect.unit (s := S1024x1024) ![0, 0] S64x1024.size inb_S1024x1024_S64x1024_0_0
abbrev r3_3 : Rect S1024x1024 := Rect.unit (s := S1024x1024) ![64, 0] S64x1024.size inb_S1024x1024_S64x1024_64_0
abbrev r3_4 : Rect S1024x1024 := Rect.unit (s := S1024x1024) ![128, 0] S64x1024.size inb_S1024x1024_S64x1024_128_0
abbrev r3_5 : Rect S1024x1024 := Rect.unit (s := S1024x1024) ![192, 0] S64x1024.size inb_S1024x1024_S64x1024_192_0
abbrev r3_6 : Rect S1024x1024 := Rect.unit (s := S1024x1024) ![256, 0] S64x1024.size inb_S1024x1024_S64x1024_256_0
abbrev r3_7 : Rect S1024x1024 := Rect.unit (s := S1024x1024) ![320, 0] S64x1024.size inb_S1024x1024_S64x1024_320_0
abbrev r3_8 : Rect S1024x1024 := Rect.unit (s := S1024x1024) ![384, 0] S64x1024.size inb_S1024x1024_S64x1024_384_0
abbrev r3_9 : Rect S1024x1024 := Rect.unit (s := S1024x1024) ![448, 0] S64x1024.size inb_S1024x1024_S64x1024_448_0
abbrev r3_10 : Rect S1024x1024 := Rect.unit (s := S1024x1024) ![512, 0] S64x1024.size inb_S1024x1024_S64x1024_512_0
abbrev r3_11 : Rect S1024x1024 := Rect.unit (s := S1024x1024) ![576, 0] S64x1024.size inb_S1024x1024_S64x1024_576_0
abbrev r3_12 : Rect S1024x1024 := Rect.unit (s := S1024x1024) ![640, 0] S64x1024.size inb_S1024x1024_S64x1024_640_0
abbrev r3_13 : Rect S1024x1024 := Rect.unit (s := S1024x1024) ![704, 0] S64x1024.size inb_S1024x1024_S64x1024_704_0
abbrev r3_14 : Rect S1024x1024 := Rect.unit (s := S1024x1024) ![768, 0] S64x1024.size inb_S1024x1024_S64x1024_768_0
abbrev r3_15 : Rect S1024x1024 := Rect.unit (s := S1024x1024) ![832, 0] S64x1024.size inb_S1024x1024_S64x1024_832_0
abbrev r3_16 : Rect S1024x1024 := Rect.unit (s := S1024x1024) ![896, 0] S64x1024.size inb_S1024x1024_S64x1024_896_0
abbrev r3_17 : Rect S1024x1024 := Rect.unit (s := S1024x1024) ![960, 0] S64x1024.size inb_S1024x1024_S64x1024_960_0
abbrev r3_18 : Rect S1x1024 := Rect.unit (s := S1x1024) ![0, 0] S1x1024.size inb_S1x1024_S1x1024_0_0
abbrev r3_19 : Rect S128x1024 := Rect.unit (s := S128x1024) ![0, 0] S128x1024.size inb_S128x1024_S128x1024_0_0

/-! ## What the body leaves in the output window's buffer -/

theorem slices_hd (h : Fin 16) (r : Fin 4) : S128x64x64.Slices ![0, 4 * h.val + r.val, 0] S128x1x64 := by
  revert h r; decide

theorem slices_mix (h : Fin 16) (r : Fin 4) : S128x16x4.Slices ![0, h.val, r.val] S128x1x1 := by
  revert h r; decide

/-- The exponentials of the logits less their row's greatest. -/
def expBlk (l : FVec F S128x16x4 .f32) : FVec F S128x16x4 .f32 :=
  exp (subf (shapeCast S128x16x4 l shapeCasts_S128x16x4_S128x16x4)
    (broadcastTo S128x16x4 (shapeCast S128x16x1 (multiReduction .maximumf [2] S128x16
      (shapeCast S128x16x4 l shapeCasts_S128x16x4_S128x16x4) 0xFF800000#32 reduces_S128x16x4_S128x16 (.inl rfl) rfl)
      shapeCasts_S128x16_S128x16x1) broadcasts_S128x16x1_S128x16x4))

/-- The weight of each hash. -/
def mixBlk (l : FVec F S128x16x4 .f32) : FVec F S128x16x4 .f32 :=
  divf (expBlk l) (broadcastTo S128x16x4 (shapeCast S128x16x1
    (multiReduction .add [2] S128x16 (expBlk l) 0x00000000#32 reduces_S128x16x4_S128x16 (.inl rfl) rfl)
    shapeCasts_S128x16_S128x16x1) broadcasts_S128x16x1_S128x16x4)

/-- One head's rows of one hash, weighted. -/
def termBlk (o : FVec F S128x64x64 .f32) (l : FVec F S128x16x4 .f32) (h : Fin 16) (r : Fin 4) : FVec F S128x64 .f32 :=
  mulf (shapeCast S128x64 (extractStridedSlice S128x1x64 ![0, 4 * h.val + r.val, 0]
      (shapeCast S128x64x64 o shapeCasts_S128x64x64_S128x64x64) (slices_hd h r)) shapeCasts_S128x1x64_S128x64)
    (broadcastTo S128x64 (shapeCast S128x1 (extractStridedSlice S128x1x1 ![0, h.val, r.val] (mixBlk l) (slices_mix h r))
      shapeCasts_S128x1x1_S128x1) broadcasts_S128x1_S128x64)

/-- One head's rows, the four hashes added up. -/
def headBlk (o : FVec F S128x64x64 .f32) (l : FVec F S128x16x4 .f32) (h : Fin 16) : FVec F S128x64 .f32 :=
  addf (addf (addf (addf (broadcast S128x64 (Scalar.ofBits .f32 0x00000000#32)) (termBlk o l h 0)) (termBlk o l h 1))
    (termBlk o l h 2)) (termBlk o l h 3)

theorem inb_rows (h : Fin 16) : ∀ a, (![64 * h.val, 0] : Fin 2 → Nat) a + S64x1024.size a ≤ S1024x1024.size a := by
  revert h; decide

/-- The output projection up to head `h`. -/
def projTo (o : FVec F S128x64x64 .f32) (l : FVec F S128x16x4 .f32) (w : Vec F S1024x1024 .f32) : ℕ → FVec F S128x1024 .f32
  | 0 => broadcast S128x1024 (Scalar.ofBits .f32 0x00000000#32)
  | h + 1 => addf (projTo o l w h) (matmul dot_S128x64_S64x1024_S128x1024_1_0_0_1_n_n none (headBlk o l (Fin.ofNat 16 h))
      (View.ld w (Rect.unit (s := S1024x1024) ![64 * (Fin.ofNat 16 h).val, 0] S64x1024.size (inb_rows (Fin.ofNat 16 h))))
      (constant S128x1024 .f32 0x00000000#32))

/-- The output: the projection of all heads and the bias. -/
def outBlk (o : FVec F S128x64x64 .f32) (l : FVec F S128x16x4 .f32) (w : Vec F S1024x1024 .f32) (b : FVec F S1x1024 .f32) :
    FVec F S128x1024 .f32 :=
  addf (projTo o l w 16) (broadcastTo S128x1024 (shapeCast S1x1024 b shapeCasts_S1x1024_S1x1024) broadcasts_S1x1024_S128x1024)

def out3_4 (x0 : Vec F S128x64x64 .f32) (x1 : Vec F S128x16x4 .f32) (x2 : Vec F S1024x1024 .f32) (x3 : Vec F S1x1024 .f32) : Vec F S128x1024 .f32 :=
  View.canon [⟨r3_19, outBlk (View.ld x0 r3_1) (View.ld x1 r3_0) x2 (View.ld x3 r3_18)⟩]

/-- Its stores tile the buffer (checked by evaluation), so they cover it. -/
theorem cover3_4 (p0 : Vec F S128x1024 .f32) (y : S128x1024.Idx) :
    ∃ pc ∈ ([⟨r3_19, p0⟩] : List (View.Piece (Elt F) S128x1024 .f32)), y ∈ pc.1.set :=
  View.cover_of_tiled [⟨r3_19, p0⟩] S128x1024.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S128x64x64 .f32) (harg1 : arg1.IsWhole) (arg2 : Memref sig .tc .vmem S128x16x4 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S128x1024 .f32) (harg5 : arg5.IsWhole)
    (x0 : Vec F S128x64x64 .f32) (x1 : Vec F S128x16x4 .f32) (x2 : Vec F S1024x1024 .f32) (x3 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_body i arg1 harg1 arg2 harg2 arg3 harg3 arg4 harg4 arg5 harg5) K := by
  simp only [cc3__combine_body_eq_skeleton]; unfold cc3__combine_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover3_4 _)).trans ?_
  rfl

/-! ## The pipeline's proof data -/

/-- The proof data of the one pipeline on core `c`: the arrays as the region finds them (`W`); after the body at
    point `t` each input's buffer at its block and each output's at `out3_W` of the input blocks; the invariant the
    class's (Frame.lean `ΦA`: the scoped rest and the generator register, untouched); nothing owed;
    full shares. -/
def dat3 (c : Dev nD) : Dat τ (Elt F) Unit ℕ (UR sig nD τ) ℕ cfg3 c where
  A w := W (Proc.devRef .tc (Pipeline.arrRef spec3 w))
  after w t := match w with
    | ⟨0, _⟩ => iblk3 W c 0 t
    | ⟨1, _⟩ => iblk3 W c 1 t
    | ⟨2, _⟩ => iblk3 W c 2 t
    | ⟨3, _⟩ => iblk3 W c 3 t
    | ⟨4, _⟩ => out3_4 (iblk3 W c 0 t) (iblk3 W c 1 t) (iblk3 W c 2 t) (iblk3 W c 3 t)
  Φ _ := Pipeline.ΦA spec3 c
  q _ := fullShare
  owed _ := 0

/-- The proof data's arrays are the region-entry contents: the proof data's definition projected (`dsimp`), so that
    `W`, a fold over the host steps, is never unfolded to check it. -/
theorem A_eq3 (c : Dev nD) (w : Fin cfg3.W) : (dat3 W c).A w = W (Proc.devRef .tc (Pipeline.arrRef spec3 w)) := by
  dsimp only [dat3]

/-- What the body leaves, window by window (the proof data's `match` reduced by `dsimp`, never `rfl`: Lib/Pipeline.lean `Dat`). -/
theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = iblk3 W c 2 t := by dsimp only [dat3]
theorem after3_3 (c : Dev nD) (t : Fin cfg3.N) : (dat3 W c).after 3 t = iblk3 W c 3 t := by dsimp only [dat3]
theorem after3_4 (c : Dev nD) (t : Fin cfg3.N) : (dat3 W c).after 4 t = out3_4 (iblk3 W c 0 t) (iblk3 W c 1 t) (iblk3 W c 2 t) (iblk3 W c 3 t) := by dsimp only [dat3]

/-- Each input's current staging buffer holds its block at every point, fetched there or not (`beforeK_W_of`). -/
theorem before3_0 (c : Dev nD) (t : Fin cfg3.N) (d) : (dat3 W c).before 0 t d = iblk3 W c 0 t :=
  before3_0_of W (dat3 W c) (A_eq3 W c 0) (after3_0 W c) t d
theorem before3_1 (c : Dev nD) (t : Fin cfg3.N) (d) : (dat3 W c).before 1 t d = iblk3 W c 1 t :=
  before3_1_of W (dat3 W c) (A_eq3 W c 1) (after3_1 W c) t d
theorem before3_2 (c : Dev nD) (t : Fin cfg3.N) (d) : (dat3 W c).before 2 t d = iblk3 W c 2 t :=
  before3_2_of W (dat3 W c) (A_eq3 W c 2) (after3_2 W c) t d
theorem before3_3 (c : Dev nD) (t : Fin cfg3.N) (d) : (dat3 W c).before 3 t d = iblk3 W c 3 t :=
  before3_3_of W (dat3 W c) (A_eq3 W c 3) (after3_3 W c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 W c).Φ t.castSucc ∗ (dat3 W c).owesAt () t.castSucc
    ∗ (∃ d, owns (c : Thread nD τ) (st3_0 t) fullShare ((dat3 W c).before 0 t d))
    ∗ (∃ d, owns (c : Thread nD τ) (st3_1 t) fullShare ((dat3 W c).before 1 t d))
    ∗ (∃ d, owns (c : Thread nD τ) (st3_2 t) fullShare ((dat3 W c).before 2 t d))
    ∗ (∃ d, owns (c : Thread nD τ) (st3_3 t) fullShare ((dat3 W c).before 3 t d))
    ∗ (∃ d, owns (c : Thread nD τ) (st3_4 t) fullShare ((dat3 W c).before 4 t d)))

/-- and what it returns. -/
def bodyPost3 (c : Dev nD) (t : Fin cfg3.N) : sProp 𝕄 :=
  iprop((dat3 W c).Φ t.succ ∗ (dat3 W c).owesAt () t.succ
    ∗ owns (c : Thread nD τ) (st3_0 t) fullShare ((dat3 W c).after 0 t)
    ∗ owns (c : Thread nD τ) (st3_1 t) fullShare ((dat3 W c).after 1 t)
    ∗ owns (c : Thread nD τ) (st3_2 t) fullShare ((dat3 W c).after 2 t)
    ∗ owns (c : Thread nD τ) (st3_3 t) fullShare ((dat3 W c).after 3 t)
    ∗ owns (c : Thread nD τ) (st3_4 t) fullShare ((dat3 W c).after 4 t))

/-- The body at any point: the inputs' memrefs hold their blocks (`before3_W`), so `sound_kernel3` applies; the invariant and
    the core's `owes` pass through unread. -/
theorem sound_body3 (c : Dev nD) (t : Fin cfg3.N) :
    bodyPre3 W c t ⊢ wp frame (wpE (defs₀ (F := F)) Variants.none c none) Set.univ (bodyAt3 t) (fun _ => bodyPost3 W c t) := by
  unfold bodyPre3 bodyPost3 bodyAt3
  simp only [before3_0, before3_1, before3_2, before3_3]
  rw [show (dat3 W c).Φ t.succ = (dat3 W c).Φ t.castSucc from rfl,
    show (dat3 W c).owesAt () t.succ = (dat3 W c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 W c 0 t) (iblk3 W c 1 t) (iblk3 W c 2 t) (iblk3 W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (FrameBody.lean `triple_restated`). -/
theorem body_obligation3 (c : Dev nD) : BodyObligation (dat3 (F := F) W c) (defs₀ (F := F)) Variants.none () Set.univ := fun t => by
  rw [bigSep_W3, bigSep_W3, defs₀_row3]
  exact triple_restated (sound_body3 W c t) rfl .rfl fun _ => .rfl

end Cert.KernelIdeal.Whole

end
-- ==== Proof.KernelIdeal.Run.lean ====
/-
  The whole program: the contents of its buffers after every item of @main, the four kernel calls as segments over them, and the
  run: from any memory with every semaphore counter at zero it ends, the arguments as they were, the counters at zero, and every
  buffer that outlives the calls at the contents followed here.
-/
module

public import proofs.«01_k».proof.Proof.Gen.KernelIdeal.Launch
public import proofs.«01_k».proof.Proof.Gen.KernelIdeal.Regions
public import proofs.«01_k».proof.Proof.KernelIdeal.Region0
public import proofs.«01_k».proof.Proof.KernelIdeal.Region1
public import proofs.«01_k».proof.Proof.KernelIdeal.Region2
public import proofs.«01_k».proof.Proof.KernelIdeal.Region3
public import Idealize.ShloMosaic.Lib.Pipeline.Frame
public import Idealize.ShloMosaic.Lib.Pipeline.FrameTail
public import Idealize.ShloMosaic.Lib.Pipeline.RegionArraysS
public import Idealize.ShloMosaic.Lib.Pipeline.Regions
public import Idealize.ShloMosaic.Lib.StableHlo.RunHlo

@[expose] public section

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What every buffer holds after each item -/

/-- At launch. -/
def W0 (c : Dev nD) : Valuation τ sig (Elt F) := fun b => m (c, b)
/-- After the host stretch `hostOps0`. -/
def W1 (c : Dev nD) : Valuation τ sig (Elt F) := StableHlo.after hostOps0 (W0 m c)
/-- After kernel call 0. -/
def W2 (c : Dev nD) : Valuation τ sig (Elt F) := Pipeline.afterRegion (dat0 (W1 m c) c) (W1 m c)
/-- After the host stretch `hostOps1`. -/
def W3 (c : Dev nD) : Valuation τ sig (Elt F) := StableHlo.after hostOps1 (W2 m c)
/-- After kernel call 1. -/
def W4 (c : Dev nD) : Valuation τ sig (Elt F) := Pipeline.afterRegion (dat1 (W3 m c) c) (W3 m c)
/-- After the host stretch `hostOps2`. -/
def W5 (c : Dev nD) : Valuation τ sig (Elt F) := StableHlo.after hostOps2 (W4 m c)
/-- After the host stretch `hostOps2_1`. -/
def W6 (c : Dev nD) : Valuation τ sig (Elt F) := StableHlo.after hostOps2_1 (W5 m c)
/-- After the host stretch `hostOps2_2`. -/
def W7 (c : Dev nD) : Valuation τ sig (Elt F) := StableHlo.after hostOps2_2 (W6 m c)
/-- After the host stretch `hostOps2_3`. -/
def W8 (c : Dev nD) : Valuation τ sig (Elt F) := StableHlo.after hostOps2_3 (W7 m c)
/-- After the host stretch `hostOps2_4`. -/
def W9 (c : Dev nD) : Valuation τ sig (Elt F) := StableHlo.after hostOps2_4 (W8 m c)
/-- After the host stretch `hostOps2_5`. -/
def W10 (c : Dev nD) : Valuation τ sig (Elt F) := StableHlo.after hostOps2_5 (W9 m c)
/-- After the host stretch `hostOps2_6`. -/
def W11 (c : Dev nD) : Valuation τ sig (Elt F) := StableHlo.after hostOps2_6 (W10 m c)
/-- After kernel call 2. -/
def W12 (c : Dev nD) : Valuation τ sig (Elt F) := Pipeline.afterRegion (dat2 (W11 m c) c) (W11 m c)
/-- After the host stretch `hostOps3`. -/
def W13 (c : Dev nD) : Valuation τ sig (Elt F) := StableHlo.after hostOps3 (W12 m c)
/-- After the host stretch `hostOps3_1`. -/
def W14 (c : Dev nD) : Valuation τ sig (Elt F) := StableHlo.after hostOps3_1 (W13 m c)
/-- After the host stretch `hostOps3_2`. -/
def W15 (c : Dev nD) : Valuation τ sig (Elt F) := StableHlo.after hostOps3_2 (W14 m c)
/-- After the host stretch `hostOps3_3`. -/
def W16 (c : Dev nD) : Valuation τ sig (Elt F) := StableHlo.after hostOps3_3 (W15 m c)
/-- After the host stretch `hostOps3_4`. -/
def W17 (c : Dev nD) : Valuation τ sig (Elt F) := StableHlo.after hostOps3_4 (W16 m c)
/-- After kernel call 3. -/
def W18 (c : Dev nD) : Valuation τ sig (Elt F) := Pipeline.afterRegion (dat3 (W17 m c) c) (W17 m c)
/-- After the host stretch `hostOps4`. -/
def W19 (c : Dev nD) : Valuation τ sig (Elt F) := StableHlo.after hostOps4 (W18 m c)

/-! ## What an item leaves alone -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, Pipeline.arrRef spec0 w = r → (cfg0.win w).isOut = false) : W2 m c r = W1 m c r :=
  Pipeline.afterRegion_keeps (dat0 (W1 m c) c) (W1 m c) launch0.win.arr_inj (fun _ => rfl) r h
theorem W2_arr (c : Dev nD) (w : Fin cfg0.W) : W2 m c (Pipeline.arrRef spec0 w) = (dat0 (W1 m c) c).arrAt w cfg0.N :=
  Pipeline.afterRegion_arr (dat0 (W1 m c) c) (W1 m c) launch0.win.arr_inj w
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, Pipeline.arrRef spec1 w = r → (cfg1.win w).isOut = false) : W4 m c r = W3 m c r :=
  Pipeline.afterRegion_keeps (dat1 (W3 m c) c) (W3 m c) launch1.win.arr_inj (fun _ => rfl) r h
theorem W4_arr (c : Dev nD) (w : Fin cfg1.W) : W4 m c (Pipeline.arrRef spec1 w) = (dat1 (W3 m c) c).arrAt w cfg1.N :=
  Pipeline.afterRegion_arr (dat1 (W3 m c) c) (W3 m c) launch1.win.arr_inj w
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ hostOps2_1_W) : W6 m c r = W5 m c r :=
  StableHlo.after_of_writes_sub hostOps2_1 _ hostOps2_1_writes h
theorem W7_of (c : Dev nD) (r : Ref sig .tc) (h : r ∉ hostOps2_2_W) : W7 m c r = W6 m c r :=
  StableHlo.after_of_writes_sub hostOps2_2 _ hostOps2_2_writes h
theorem W8_of (c : Dev nD) (r : Ref sig .tc) (h : r ∉ hostOps2_3_W) : W8 m c r = W7 m c r :=
  StableHlo.after_of_writes_sub hostOps2_3 _ hostOps2_3_writes h
theorem W9_of (c : Dev nD) (r : Ref sig .tc) (h : r ∉ hostOps2_4_W) : W9 m c r = W8 m c r :=
  StableHlo.after_of_writes_sub hostOps2_4 _ hostOps2_4_writes h
theorem W10_of (c : Dev nD) (r : Ref sig .tc) (h : r ∉ hostOps2_5_W) : W10 m c r = W9 m c r :=
  StableHlo.after_of_writes_sub hostOps2_5 _ hostOps2_5_writes h
theorem W11_of (c : Dev nD) (r : Ref sig .tc) (h : r ∉ hostOps2_6_W) : W11 m c r = W10 m c r :=
  StableHlo.after_of_writes_sub hostOps2_6 _ hostOps2_6_writes h
theorem W12_of (c : Dev nD) (r : Ref sig .tc) (h : ∀ w, Pipeline.arrRef spec2 w = r → (cfg2.win w).isOut = false) : W12 m c r = W11 m c r :=
  Pipeline.afterRegion_keeps (dat2 (W11 m c) c) (W11 m c) launch2.win.arr_inj (fun _ => rfl) r h
theorem W12_arr (c : Dev nD) (w : Fin cfg2.W) : W12 m c (Pipeline.arrRef spec2 w) = (dat2 (W11 m c) c).arrAt w cfg2.N :=
  Pipeline.afterRegion_arr (dat2 (W11 m c) c) (W11 m c) launch2.win.arr_inj w
theorem W13_of (c : Dev nD) (r : Ref sig .tc) (h : r ∉ hostOps3_W) : W13 m c r = W12 m c r :=
  StableHlo.after_of_writes_sub hostOps3 _ hostOps3_writes h
theorem W14_of (c : Dev nD) (r : Ref sig .tc) (h : r ∉ hostOps3_1_W) : W14 m c r = W13 m c r :=
  StableHlo.after_of_writes_sub hostOps3_1 _ hostOps3_1_writes h
theorem W15_of (c : Dev nD) (r : Ref sig .tc) (h : r ∉ hostOps3_2_W) : W15 m c r = W14 m c r :=
  StableHlo.after_of_writes_sub hostOps3_2 _ hostOps3_2_writes h
theorem W16_of (c : Dev nD) (r : Ref sig .tc) (h : r ∉ hostOps3_3_W) : W16 m c r = W15 m c r :=
  StableHlo.after_of_writes_sub hostOps3_3 _ hostOps3_3_writes h
theorem W17_of (c : Dev nD) (r : Ref sig .tc) (h : r ∉ hostOps3_4_W) : W17 m c r = W16 m c r :=
  StableHlo.after_of_writes_sub hostOps3_4 _ hostOps3_4_writes h
theorem W18_of (c : Dev nD) (r : Ref sig .tc) (h : ∀ w, Pipeline.arrRef spec3 w = r → (cfg3.win w).isOut = false) : W18 m c r = W17 m c r :=
  Pipeline.afterRegion_keeps (dat3 (W17 m c) c) (W17 m c) launch3.win.arr_inj (fun _ => rfl) r h
theorem W18_arr (c : Dev nD) (w : Fin cfg3.W) : W18 m c (Pipeline.arrRef spec3 w) = (dat3 (W17 m c) c).arrAt w cfg3.N :=
  Pipeline.afterRegion_arr (dat3 (W17 m c) c) (W17 m c) launch3.win.arr_inj w
theorem W19_of (c : Dev nD) (r : Ref sig .tc) (h : r ∉ hostOps4_W) : W19 m c r = W18 m c r :=
  StableHlo.after_of_writes_sub hostOps4 _ hostOps4_writes h
theorem W19_main_arg0 (c : Dev nD) : W19 m c main_arg0 = m ((c : Thread nD τ).loc main_arg0) :=
  (W19_of m c main_arg0 (by decide)).trans <| (W18_of m c main_arg0 (by decide)).trans <| (W17_of m c main_arg0 (by decide)).trans <| (W16_of m c main_arg0 (by decide)).trans <| (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| W1_of m c main_arg0 (by decide)
theorem W19_main_arg1 (c : Dev nD) : W19 m c main_arg1 = m ((c : Thread nD τ).loc main_arg1) :=
  (W19_of m c main_arg1 (by decide)).trans <| (W18_of m c main_arg1 (by decide)).trans <| (W17_of m c main_arg1 (by decide)).trans <| (W16_of m c main_arg1 (by decide)).trans <| (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| W1_of m c main_arg1 (by decide)
theorem W19_main_arg2 (c : Dev nD) : W19 m c main_arg2 = m ((c : Thread nD τ).loc main_arg2) :=
  (W19_of m c main_arg2 (by decide)).trans <| (W18_of m c main_arg2 (by decide)).trans <| (W17_of m c main_arg2 (by decide)).trans <| (W16_of m c main_arg2 (by decide)).trans <| (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| W1_of m c main_arg2 (by decide)
theorem W19_main_arg3 (c : Dev nD) : W19 m c main_arg3 = m ((c : Thread nD τ).loc main_arg3) :=
  (W19_of m c main_arg3 (by decide)).trans <| (W18_of m c main_arg3 (by decide)).trans <| (W17_of m c main_arg3 (by decide)).trans <| (W16_of m c main_arg3 (by decide)).trans <| (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| W1_of m c main_arg3 (by decide)
theorem W19_main_arg4 (c : Dev nD) : W19 m c main_arg4 = m ((c : Thread nD τ).loc main_arg4) :=
  (W19_of m c main_arg4 (by decide)).trans <| (W18_of m c main_arg4 (by decide)).trans <| (W17_of m c main_arg4 (by decide)).trans <| (W16_of m c main_arg4 (by decide)).trans <| (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| W1_of m c main_arg4 (by decide)
theorem W19_main_arg5 (c : Dev nD) : W19 m c main_arg5 = m ((c : Thread nD τ).loc main_arg5) :=
  (W19_of m c main_arg5 (by decide)).trans <| (W18_of m c main_arg5 (by decide)).trans <| (W17_of m c main_arg5 (by decide)).trans <| (W16_of m c main_arg5 (by decide)).trans <| (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| W1_of m c main_arg5 (by decide)
theorem W19_main_arg6 (c : Dev nD) : W19 m c main_arg6 = m ((c : Thread nD τ).loc main_arg6) :=
  (W19_of m c main_arg6 (by decide)).trans <| (W18_of m c main_arg6 (by decide)).trans <| (W17_of m c main_arg6 (by decide)).trans <| (W16_of m c main_arg6 (by decide)).trans <| (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| W1_of m c main_arg6 (by decide)
theorem W19_main_arg7 (c : Dev nD) : W19 m c main_arg7 = m ((c : Thread nD τ).loc main_arg7) :=
  (W19_of m c main_arg7 (by decide)).trans <| (W18_of m c main_arg7 (by decide)).trans <| (W17_of m c main_arg7 (by decide)).trans <| (W16_of m c main_arg7 (by decide)).trans <| (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| W1_of m c main_arg7 (by decide)
theorem W19_main_arg8 (c : Dev nD) : W19 m c main_arg8 = m ((c : Thread nD τ).loc main_arg8) :=
  (W19_of m c main_arg8 (by decide)).trans <| (W18_of m c main_arg8 (by decide)).trans <| (W17_of m c main_arg8 (by decide)).trans <| (W16_of m c main_arg8 (by decide)).trans <| (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| W1_of m c main_arg8 (by decide)

/-! ## The segments -/

/-- The proof data of the four calls. -/
def pdats : (p : Fin 4) → (c : Dev nD) → Dat τ (Elt F) Unit ℕ (UR sig nD τ) ℕ (cfgs p) c
  | ⟨0, _⟩ => fun c => dat0 (W1 m c) c
  | ⟨1, _⟩ => fun c => dat1 (W3 m c) c
  | ⟨2, _⟩ => fun c => dat2 (W11 m c) c
  | ⟨3, _⟩ => fun c => dat3 (W17 m c) c

/-- Every counter of a TensorCore may be waited on, all at one level. -/
def lvls : GSem nD τ sig → Finset Unit := fun g => if g.1.2 = .tc then {()} else ∅
theorem lvls_off : ∀ g : GSem nD τ sig, g.1.2 ≠ .tc → lvls g = ∅ := fun g h => if_neg h
abbrev lv : GSem nD τ sig → Unit → ℕ := fun _ _ => 0

/-- What rides along beside the buffers: the core owes nothing, and its generator's register. -/
abbrev Side (c : Dev nD) : sProp 𝕄 :=
  iprop((∃ Wd, owes (c : Thread nD τ) (0 : CellTallies nD τ sig Unit) Wd) ∗ (∃ r, prngReg c r) ∗ (BI.emp : sProp 𝕄))

theorem cut (p : Fin 4) : Pipeline.LevelCut (nD := nD) (pcfgs (F := F)) adm () lvls lv p (fun _ => 0) (fun _ => 0) where
  hι c w s := by show () ∈ lvls _; unfold lvls; rw [if_pos rfl]; exact Finset.mem_singleton_self _
  hιb c w s := le_refl 0
  hD c g i h := absurd h (Nat.lt_irrefl 0)

set_option backward.isDefEq.respectTransparency.types false in
/-- Kernel call 0, over all the buffers. -/
def reg0 : RegionSeg (pcfgs (F := F)) adm (pdats m) () (defs₀ (F := F)) Variants.none lvls lv 0 :=
  RegionSeg.ofHeldIn (pcfgs (F := F)) adm (pdats m) () (defs₀ (F := F)) Variants.none lvls lv 0 (fun _ => 0) (Pipeline.ucRefs τ sig)
    (fun c => iprop(∃ r, prngReg c r)) (fun c => iprop(∃ r, prngReg c r)) launch0.toP rfl
    (fun c => (body_obligation0 (W1 m c) c).loose) (fun _ _ => rfl) (fun _ => rfl) (fun c => (pdats m 0 c).share_full fun _ => rfl)
    (fun c => .rfl) (fun c => .rfl) (fun _ => 0) (cut 0) (fun _ => BI.emp) (W1 m) (fun c w => rfl)
set_option backward.isDefEq.respectTransparency.types false in
theorem reg0_pre (c : Dev nD) : iprop(StableHlo.held (c : Thread nD τ) (Pipeline.ucRefs τ sig) (W1 m c) ∗ Side (F := F) c) ⊢ (reg0 m).pre c := by
  unfold reg0 Side
  exact RegionSeg.ofHeldIn_pre (D := fun _ => 0) (X := fun c => iprop(∃ r, prngReg c r)) (R := fun _ => BI.emp) (W := W1 m) (Pipeline.arrRefs_sub_ucRefs _ launch0.win.arr_unscoped) c
set_option backward.isDefEq.respectTransparency.types false in
theorem reg0_post (c : Dev nD) : (reg0 m).post c ⊢ iprop(StableHlo.held (c : Thread nD τ) (Pipeline.ucRefs τ sig) (W2 m c) ∗ Side (F := F) c) :=
  RegionSeg.ofHeldIn_post (Pipeline.arrRefs_sub_ucRefs _ launch0.win.arr_unscoped) c

set_option backward.isDefEq.respectTransparency.types false in
/-- Kernel call 1, over all the buffers. -/
def reg1 : RegionSeg (pcfgs (F := F)) adm (pdats m) () (defs₀ (F := F)) Variants.none lvls lv 1 :=
  RegionSeg.ofHeldIn (pcfgs (F := F)) adm (pdats m) () (defs₀ (F := F)) Variants.none lvls lv 1 (fun _ => 0) (Pipeline.ucRefs τ sig)
    (fun c => iprop(∃ r, prngReg c r)) (fun c => iprop(∃ r, prngReg c r)) launch1.toP rfl
    (fun c => (body_obligation1 (W3 m c) c).loose) (fun _ _ => rfl) (fun _ => rfl) (fun c => (pdats m 1 c).share_full fun _ => rfl)
    (fun c => .rfl) (fun c => .rfl) (fun _ => 0) (cut 1) (fun _ => BI.emp) (W3 m) (fun c w => rfl)
set_option backward.isDefEq.respectTransparency.types false in
theorem reg1_pre (c : Dev nD) : iprop(StableHlo.held (c : Thread nD τ) (Pipeline.ucRefs τ sig) (W3 m c) ∗ Side (F := F) c) ⊢ (reg1 m).pre c := by
  unfold reg1 Side
  exact RegionSeg.ofHeldIn_pre (D := fun _ => 0) (X := fun c => iprop(∃ r, prngReg c r)) (R := fun _ => BI.emp) (W := W3 m) (Pipeline.arrRefs_sub_ucRefs _ launch1.win.arr_unscoped) c
set_option backward.isDefEq.respectTransparency.types false in
theorem reg1_post (c : Dev nD) : (reg1 m).post c ⊢ iprop(StableHlo.held (c : Thread nD τ) (Pipeline.ucRefs τ sig) (W4 m c) ∗ Side (F := F) c) :=
  RegionSeg.ofHeldIn_post (Pipeline.arrRefs_sub_ucRefs _ launch1.win.arr_unscoped) c

set_option backward.isDefEq.respectTransparency.types false in
/-- Kernel call 2, over all the buffers. -/
def reg2 : RegionSeg (pcfgs (F := F)) adm (pdats m) () (defs₀ (F := F)) Variants.none lvls lv 2 :=
  RegionSeg.ofHeldIn (pcfgs (F := F)) adm (pdats m) () (defs₀ (F := F)) Variants.none lvls lv 2 (fun _ => 0) (Pipeline.ucRefs τ sig)
    (fun c => iprop(∃ r, prngReg c r)) (fun c => iprop(∃ r, prngReg c r)) launch2.toP rfl
    (fun c => (body_obligation2 (W11 m c) c).loose) (fun _ _ => rfl) (fun _ => rfl) (fun c => (pdats m 2 c).share_full fun _ => rfl)
    (fun c => .rfl) (fun c => .rfl) (fun _ => 0) (cut 2) (fun _ => BI.emp) (W11 m) (fun c w => rfl)
set_option backward.isDefEq.respectTransparency.types false in
theorem reg2_pre (c : Dev nD) : iprop(StableHlo.held (c : Thread nD τ) (Pipeline.ucRefs τ sig) (W11 m c) ∗ Side (F := F) c) ⊢ (reg2 m).pre c := by
  unfold reg2 Side
  exact RegionSeg.ofHeldIn_pre (D := fun _ => 0) (X := fun c => iprop(∃ r, prngReg c r)) (R := fun _ => BI.emp) (W := W11 m) (Pipeline.arrRefs_sub_ucRefs _ launch2.win.arr_unscoped) c
set_option backward.isDefEq.respectTransparency.types false in
theorem reg2_post (c : Dev nD) : (reg2 m).post c ⊢ iprop(StableHlo.held (c : Thread nD τ) (Pipeline.ucRefs τ sig) (W12 m c) ∗ Side (F := F) c) :=
  RegionSeg.ofHeldIn_post (Pipeline.arrRefs_sub_ucRefs _ launch2.win.arr_unscoped) c

set_option backward.isDefEq.respectTransparency.types false in
/-- Kernel call 3, over all the buffers. -/
def reg3 : RegionSeg (pcfgs (F := F)) adm (pdats m) () (defs₀ (F := F)) Variants.none lvls lv 3 :=
  RegionSeg.ofHeldIn (pcfgs (F := F)) adm (pdats m) () (defs₀ (F := F)) Variants.none lvls lv 3 (fun _ => 0) (Pipeline.ucRefs τ sig)
    (fun c => iprop(∃ r, prngReg c r)) (fun c => iprop(∃ r, prngReg c r)) launch3.toP rfl
    (fun c => (body_obligation3 (W17 m c) c).loose) (fun _ _ => rfl) (fun _ => rfl) (fun c => (pdats m 3 c).share_full fun _ => rfl)
    (fun c => .rfl) (fun c => .rfl) (fun _ => 0) (cut 3) (fun _ => BI.emp) (W17 m) (fun c w => rfl)
set_option backward.isDefEq.respectTransparency.types false in
theorem reg3_pre (c : Dev nD) : iprop(StableHlo.held (c : Thread nD τ) (Pipeline.ucRefs τ sig) (W17 m c) ∗ Side (F := F) c) ⊢ (reg3 m).pre c := by
  unfold reg3 Side
  exact RegionSeg.ofHeldIn_pre (D := fun _ => 0) (X := fun c => iprop(∃ r, prngReg c r)) (R := fun _ => BI.emp) (W := W17 m) (Pipeline.arrRefs_sub_ucRefs _ launch3.win.arr_unscoped) c
set_option backward.isDefEq.respectTransparency.types false in
theorem reg3_post (c : Dev nD) : (reg3 m).post c ⊢ iprop(StableHlo.held (c : Thread nD τ) (Pipeline.ucRefs τ sig) (W18 m c) ∗ Side (F := F) c) :=
  RegionSeg.ofHeldIn_post (Pipeline.arrRefs_sub_ucRefs _ launch3.win.arr_unscoped) c

/-- The host stretch `hostOps0`, over all the buffers. -/
def host0 : HostSeg (Ix := Unit) (Name := ℕ) (U := UR sig nD τ) (Lvl := ℕ) (pcfgs (F := F)) defs₀ Variants.none lvls lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Side
/-- The host stretch `hostOps1`, over all the buffers. -/
def host2 : HostSeg (Ix := Unit) (Name := ℕ) (U := UR sig nD τ) (Lvl := ℕ) (pcfgs (F := F)) defs₀ Variants.none lvls lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Side
/-- The host stretch `hostOps2`, over all the buffers. -/
def host4 : HostSeg (Ix := Unit) (Name := ℕ) (U := UR sig nD τ) (Lvl := ℕ) (pcfgs (F := F)) defs₀ Variants.none lvls lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Side
/-- The host stretch `hostOps2_1`, over all the buffers. -/
def host5 : HostSeg (Ix := Unit) (Name := ℕ) (U := UR sig nD τ) (Lvl := ℕ) (pcfgs (F := F)) defs₀ Variants.none lvls lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (W5 m) Side
/-- The host stretch `hostOps2_2`, over all the buffers. -/
def host6 : HostSeg (Ix := Unit) (Name := ℕ) (U := UR sig nD τ) (Lvl := ℕ) (pcfgs (F := F)) defs₀ Variants.none lvls lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (W6 m) Side
/-- The host stretch `hostOps2_3`, over all the buffers. -/
def host7 : HostSeg (Ix := Unit) (Name := ℕ) (U := UR sig nD τ) (Lvl := ℕ) (pcfgs (F := F)) defs₀ Variants.none lvls lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (W7 m) Side
/-- The host stretch `hostOps2_4`, over all the buffers. -/
def host8 : HostSeg (Ix := Unit) (Name := ℕ) (U := UR sig nD τ) (Lvl := ℕ) (pcfgs (F := F)) defs₀ Variants.none lvls lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (W8 m) Side
/-- The host stretch `hostOps2_5`, over all the buffers. -/
def host9 : HostSeg (Ix := Unit) (Name := ℕ) (U := UR sig nD τ) (Lvl := ℕ) (pcfgs (F := F)) defs₀ Variants.none lvls lv :=
  HostSeg.ofOps _ _ _ _ _ (Pipeline.ucRefs τ sig) hostOps2_5
    (fun op h => Pipeline.sub_ucRefs op ((List.forall_iff_forall_mem.mp hostOps2_5_sub) op h))
    (fun op h => (List.forall_iff_forall_mem.mp hostOps2_5_fresh) op h) (W9 m) Side
/-- The host stretch `hostOps2_6`, over all the buffers. -/
def host10 : HostSeg (Ix := Unit) (Name := ℕ) (U := UR sig nD τ) (Lvl := ℕ) (pcfgs (F := F)) defs₀ Variants.none lvls lv :=
  HostSeg.ofOps _ _ _ _ _ (Pipeline.ucRefs τ sig) hostOps2_6
    (fun op h => Pipeline.sub_ucRefs op ((List.forall_iff_forall_mem.mp hostOps2_6_sub) op h))
    (fun op h => (List.forall_iff_forall_mem.mp hostOps2_6_fresh) op h) (W10 m) Side
/-- The host stretch `hostOps3`, over all the buffers. -/
def host12 : HostSeg (Ix := Unit) (Name := ℕ) (U := UR sig nD τ) (Lvl := ℕ) (pcfgs (F := F)) defs₀ Variants.none lvls lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W12 m) Side
/-- The host stretch `hostOps3_1`, over all the buffers. -/
def host13 : HostSeg (Ix := Unit) (Name := ℕ) (U := UR sig nD τ) (Lvl := ℕ) (pcfgs (F := F)) defs₀ Variants.none lvls lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (W13 m) Side
/-- The host stretch `hostOps3_2`, over all the buffers. -/
def host14 : HostSeg (Ix := Unit) (Name := ℕ) (U := UR sig nD τ) (Lvl := ℕ) (pcfgs (F := F)) defs₀ Variants.none lvls lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (W14 m) Side
/-- The host stretch `hostOps3_3`, over all the buffers. -/
def host15 : HostSeg (Ix := Unit) (Name := ℕ) (U := UR sig nD τ) (Lvl := ℕ) (pcfgs (F := F)) defs₀ Variants.none lvls lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (W15 m) Side
/-- The host stretch `hostOps3_4`, over all the buffers. -/
def host16 : HostSeg (Ix := Unit) (Name := ℕ) (U := UR sig nD τ) (Lvl := ℕ) (pcfgs (F := F)) defs₀ Variants.none lvls lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (W16 m) Side
/-- The host stretch `hostOps4`, over all the buffers. -/
def host18 : HostSeg (Ix := Unit) (Name := ℕ) (U := UR sig nD τ) (Lvl := ℕ) (pcfgs (F := F)) defs₀ Variants.none lvls lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W18 m) Side

/-- @main's items. -/
def items (c : Dev nD) : List (Seg (pcfgs (F := F)) adm (pdats m) () defs₀ Variants.none lvls lv) :=
  [.host (host0 m), .region (reg0 m), .host (host2 m), .region (reg1 m), .host (host4 m), .host (host5 m), .host (host6 m), .host (host7 m), .host (host8 m), .host (host9 m), .host (host10 m), .region (reg2 m), .host (host12 m), .host (host13 m), .host (host14 m), .host (host15 m), .host (host16 m), .region (reg3 m), .host (host18 m)]

theorem side_end (c : Dev nD) : Side (F := F) c ⊢ (iprop(∃ Wd, owes (c : Thread nD τ) (0 : CellTallies nD τ sig Unit) Wd) : sProp 𝕄) := by
  iintro ⟨H, -, -⟩; iexact H

theorem start (c : Dev nD) (r : PrngReg) :
    iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c r ∗ BI.emp)
    ⊢ (iprop(StableHlo.held (c : Thread nD τ) (Pipeline.ucRefs τ sig) (W0 m c) ∗ Side (F := F) c) : sProp 𝕄) := by
  rw [show (unscopedBufs c (fun b => m ((c.tc : Thread nD τ).loc b)) : sProp 𝕄) = StableHlo.held (c : Thread nD τ) (Pipeline.ucRefs τ sig) (W0 m c) from
    Pipeline.unscopedBufs_held (Ix := Unit) (Name := ℕ) (U := UR sig nD τ) (Lvl := ℕ) c (W0 m c)]
  iintro ⟨Hh, -, HO, -, Hp, -⟩
  isplitl [Hh]; · iexact Hh
  isplitl [HO]; · iexists _; iexact HO
  isplitl [Hp]; · iexists _; iexact Hp
  iempintro

/-- The launch element: the calls' staging cells. -/
def u₀ : UR sig nD τ := initOf (Pipeline.cells cfgs cellOf_inj) (Pipeline.launchToks cfgs cellOf_inj)

set_option backward.isDefEq.respectTransparency.types false in
/-- THE RUN: every weakly fair execution from a memory with zero counters ends, each buffer that outlives the calls at `W19` and every
    counter at zero. -/
theorem run_all (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W19 m c b)
      ∧ r.2.sem = fun _ => 0) := by
  refine Pipeline.θ_run_regions_kit_dev_sems (pcfgs (F := F)) adm (pdats m) () cellOf_inj emb₁ defs₀ Variants.none lvls lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide) (fun _ => 0) lvls_off (fun _ => BI.emp) u₀
    (by
      iintro Hu; imodintro
      isplitl [Hu]; · iapply (show (ownU u₀ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Side (F := F) c))
    (Tₙ := fun c => StableHlo.held (c : Thread nD τ) (Pipeline.ucRefs τ sig) (W19 m c))
    (hch := fun c => ⟨.rfl, reg0_pre m c, reg0_post m c, reg1_pre m c, reg1_post m c, .rfl, .rfl, .rfl, .rfl, .rfl, .rfl, reg2_pre m c, reg2_post m c, .rfl, .rfl, .rfl, .rfl, reg3_pre m c, reg3_post m c, sep_mono .rfl (side_end c)⟩)
    (hinit := ?_) (QY := fun c s => ∀ b : Ref sig .tc, b.isScoped = false → s.mem ((c.tc : Thread nD τ).loc b) = W19 m c b)
    (hfin := fun c s' => ?_) (hQ := fun _ h hz => ⟨h, funext fun g => hz g (.inr (regions_no_unscoped g.2))⟩)
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (W0 m c) ∗ Side (F := F) c) : sProp 𝕄) from
      bigSep_mono fun c _ => start m c (ρ c))
    iexact H
  · unfold StableHlo.held
    iintro ⟨Hh, HSI⟩
    ihave Hr := (pointsTo_read_all (Pipeline.ucRefs τ sig) (fun b => ((c : Thread nD τ).1, b)) (W19 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

/-- The run read off at the arguments and at the result. -/
theorem run_io (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
∧ r.2.mem ((c.tc : Thread nD τ).loc main_arg1) = m ((c.tc : Thread nD τ).loc main_arg1)
∧ r.2.mem ((c.tc : Thread nD τ).loc main_arg2) = m ((c.tc : Thread nD τ).loc main_arg2)
∧ r.2.mem ((c.tc : Thread nD τ).loc main_arg3) = m ((c.tc : Thread nD τ).loc main_arg3)
∧ r.2.mem ((c.tc : Thread nD τ).loc main_arg4) = m ((c.tc : Thread nD τ).loc main_arg4)
∧ r.2.mem ((c.tc : Thread nD τ).loc main_arg5) = m ((c.tc : Thread nD τ).loc main_arg5)
∧ r.2.mem ((c.tc : Thread nD τ).loc main_arg6) = m ((c.tc : Thread nD τ).loc main_arg6)
∧ r.2.mem ((c.tc : Thread nD τ).loc main_arg7) = m ((c.tc : Thread nD τ).loc main_arg7)
∧ r.2.mem ((c.tc : Thread nD τ).loc main_arg8) = m ((c.tc : Thread nD τ).loc main_arg8)
      ∧ r.2.mem ((c.tc : Thread nD τ).loc main_v43) = W19 m c main_v43)
      ∧ r.2.sem = fun _ => 0) :=
  θ_run_mono (run_all m ρ) fun r h => ⟨fun c => ⟨(h.1 c main_arg0 (by decide)).trans (W19_main_arg0 m c), (h.1 c main_arg1 (by decide)).trans (W19_main_arg1 m c), (h.1 c main_arg2 (by decide)).trans (W19_main_arg2 m c), (h.1 c main_arg3 (by decide)).trans (W19_main_arg3 m c), (h.1 c main_arg4 (by decide)).trans (W19_main_arg4 m c), (h.1 c main_arg5 (by decide)).trans (W19_main_arg5 m c), (h.1 c main_arg6 (by decide)).trans (W19_main_arg6 m c), (h.1 c main_arg7 (by decide)).trans (W19_main_arg7 m c), (h.1 c main_arg8 (by decide)).trans (W19_main_arg8 m c), h.1 c main_v43 (by decide)⟩, h.2⟩

end Cert.KernelIdeal.Whole

end
-- ==== Proof.Frames.lean ====
/- The frames: each program runs to its end, its arguments unchanged and its semaphores at zero; and the named
   mask constant's statement. -/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Whole

open Idealize.ShloMosaic Idealize.SL.Sem

/-- The kernel as printed: its run, read at its arguments. -/
theorem frame_kernel : Cert.quiescent_Kernel := fun m ρ _ =>
  θ_run_mono (Cert.Kernel.Whole.run_io (F := Bits) m ρ) fun _ h => ⟨fun c =>
    ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2.1, (h.1 c).2.2.2.2.2.2.2.2.1⟩, h.2⟩

/-- The idealized kernel: the same, with no condition on its arguments. -/
theorem frame_kernelIdeal : Cert.quiescent_KernelIdeal := fun m ρ _ =>
  θ_run_mono (Cert.KernelIdeal.Whole.run_io (F := Ideal) m ρ) fun _ h => ⟨fun c =>
    ⟨(h.1 c).1, (h.1 c).2.1, (h.1 c).2.2.1, (h.1 c).2.2.2.1, (h.1 c).2.2.2.2.1, (h.1 c).2.2.2.2.2.1,
      (h.1 c).2.2.2.2.2.2.1, (h.1 c).2.2.2.2.2.2.2.1, (h.1 c).2.2.2.2.2.2.2.2.1⟩, h.2⟩

/-- The reference: host operations only, and no semaphore. -/
theorem frame_referenceIdeal : Cert.quiescent_ReferenceIdeal := fun m ρ _ =>
  θ_run_mono (Cert.ReferenceIdeal.Value.run (F := Ideal) m ρ) fun r h => ⟨fun c => (h c).2, sem_eq_zero_of_no_sems rfl _⟩

/-- The mask's name stands for the printed constant. -/
theorem preserves : Cert.preserves_Kernel_KernelIdeal :=
  IdealRules.named_const.statement Cert.KernelIdeal.κ "mask" .f32 0xF149F2CA#32 ⊥ rfl

end Cert.Whole

end
-- ==== Proof.Order.lean ====
/- Ranks, sorted orders and the positions along the four sorted rounds: facts about natural numbers, and what a printed
   argsort of a row leaves. -/
module

public import Idealize.ShloMosaic.Lib.SortFacts
public import Idealize.ShloMosaic.Lib.Pointwise
public import Mathlib.Order.Fin.Basic
public import Mathlib.Data.Fintype.EquivFin
public import Mathlib.Algebra.Order.BigOperators.Group.Finset

@[expose] public section

set_option maxRecDepth 16384

noncomputable section

namespace Cert.Order

open Idealize.ShloMosaic

/-! ## The rank of a token -/

section rank
variable {n : ℕ} (b : Fin n → ℕ)

/-- `u` comes before `t`: a smaller bucket, or the same one and an earlier place. -/
def Before (u t : Fin n) : Prop := b u < b t ∨ b u = b t ∧ u < t

instance (u t : Fin n) : Decidable (Before b u t) := by unfold Before; infer_instance

/-- How many tokens come before `t`. -/
def rankOf (t : Fin n) : ℕ := (Finset.univ.filter fun u => Before b u t).card

theorem Before.trans {u v t : Fin n} (h : Before b u v) (h' : Before b v t) : Before b u t := by
  unfold Before at *; simp only [Fin.lt_def] at *; omega

theorem Before.irrefl (t : Fin n) : ¬ Before b t t := by
  unfold Before; simp

theorem Before.total {u v : Fin n} (h : u ≠ v) : Before b u v ∨ Before b v u := by
  have h' : u.val ≠ v.val := fun e => h (Fin.ext e)
  unfold Before; simp only [Fin.lt_def]; omega

theorem rankOf_lt_of_before {u v : Fin n} (h : Before b u v) : rankOf b u < rankOf b v := by
  refine Finset.card_lt_card ⟨fun w hw => ?_, fun hs => ?_⟩
  · simp only [Finset.mem_filter, Finset.mem_univ, true_and] at hw ⊢
    exact Before.trans b hw h
  · have : u ∈ Finset.univ.filter fun w => Before b w u := hs (by simpa using h)
    exact Before.irrefl b u (by simpa using this)

theorem rankOf_lt (t : Fin n) : rankOf b t < n := by
  have : rankOf b t < (Finset.univ : Finset (Fin n)).card :=
    Finset.card_lt_card ⟨Finset.filter_subset _ _, fun hs => Before.irrefl b t (by simpa using hs (Finset.mem_univ t))⟩
  simpa using this

theorem rankOf_injective : Function.Injective (rankOf b) := fun u v h => by
  by_contra hne
  rcases Before.total b hne with h' | h'
  · exact absurd h (rankOf_lt_of_before b h').ne
  · exact absurd h (rankOf_lt_of_before b h').ne'

/-- The ranks are a rearrangement of the places. -/
def rankPerm : Equiv.Perm (Fin n) :=
  Equiv.ofBijective (fun t => ⟨rankOf b t, rankOf_lt b t⟩)
    (Finite.injective_iff_bijective.mp fun u v h => rankOf_injective b (by simpa using h))

theorem rankPerm_val (t : Fin n) : (rankPerm b t).val = rankOf b t := rfl

/-- The token at sorted place `p`. -/
def tokenAt (p : Fin n) : Fin n := (rankPerm b).symm p

theorem rankOf_tokenAt (p : Fin n) : rankOf b (tokenAt b p) = p.val := by
  rw [← rankPerm_val]; unfold tokenAt; rw [Equiv.apply_symm_apply]

theorem before_tokenAt {p q : Fin n} (h : p < q) : Before b (tokenAt b p) (tokenAt b q) := by
  have hne : tokenAt b p ≠ tokenAt b q := fun e => h.ne ((rankPerm b).symm.injective e)
  rcases Before.total b hne with h' | h'
  · exact h'
  · have := rankOf_lt_of_before b h'
    rw [rankOf_tokenAt, rankOf_tokenAt] at this
    exact absurd this (by rw [Fin.lt_def] at h; omega)

/-- The same count in two parts: the smaller buckets, and the earlier places of the same bucket. -/
theorem rankOf_eq_add (t : Fin n) : rankOf b t
    = (Finset.univ.filter fun u => b u < b t).card + (Finset.univ.filter fun u : Fin n => b u = b t ∧ u < t).card := by
  unfold rankOf Before
  rw [Finset.filter_or, Finset.card_union_of_disjoint]
  rw [Finset.disjoint_filter]
  intro u _ h; omega

end rank

/-! ## A stable sort of distinct keys -/

/-- A row of distinct keys has one sorting rearrangement. -/
theorem sortedFrom_eq {n : ℕ} (before : Fin n → Fin n → Bool) (key : Fin n → ℕ)
    (hb : ∀ k k', before k k' = decide (key k < key k')) (τ : Equiv.Perm (Fin n)) (hτ : StrictMono fun j => key (τ j))
    (j : Fin n) : sortedFrom before j = τ j := by
  have hinj : Function.Injective key := fun u v h => by
    have : τ.symm u = τ.symm v := hτ.injective (by simpa using h)
    simpa using this
  have hmono : StrictMono fun j => key (sortedFrom before j) := fun i j hij => by
    have h := sortedFrom_noInversion before before (fun a b h => by simp_all; omega) (fun a b h => h)
      (fun a b c h h' => by simp_all; omega) i j hij
    rw [hb, decide_eq_false_iff_not] at h
    exact lt_of_le_of_ne (not_lt.mp h) fun e => hij.ne (sortedFrom_injective before (hinj e))
  have hid : StrictMono fun j => τ.symm (sortedFrom before j) := fun i j hij => by
    have h1 := hmono hij
    by_contra hle
    have h2 := hτ.monotone (not_lt.mp hle)
    simp only [Equiv.apply_symm_apply] at h1 h2
    omega
  have h1 : (fun j => τ.symm (sortedFrom before j)) = id := by
    refine (hid.range_inj strictMono_id).mp ?_
    rw [Set.range_id]
    exact (τ.symm.surjective.comp (sortedFrom_surjective before)).range_eq
  have := congrFun h1 j
  simp only [id] at this
  rw [← Equiv.apply_symm_apply τ (sortedFrom before j), this]

/-- A small number's word reads back as the number, -/
theorem toNat_small {n : ℕ} (h : n < 2147483648) : (BitVec.ofNat 32 n).toNat = n := by
  rw [BitVec.toNat_ofNat]; omega

/-- signed as well. -/
theorem toInt_small {n : ℕ} (h : n < 2147483648) : (BitVec.ofNat 32 n).toInt = n := by
  rw [BitVec.toInt_eq_toNat_of_lt (by rw [toNat_small h]; omega), toNat_small h]

/-- What the printed argsort of a row of distinct small keys holds at place `j`: the place the sorting rearrangement takes. -/
theorem argsort_row {m n : ℕ} (x : IVec ⟨2, ![m, n]⟩ 32) (i : Fin m) (key : Fin n → ℕ) (τ : Equiv.Perm (Fin n))
    (cmp : BitVec 32 × BitVec 32 → BitVec 32 × BitVec 32 → BitVec 1) (hcmp : ∀ l r, cmp l r = IntOp.cmpi .slt l.1 r.1)
    (hx : ∀ k, x (ix2 i k) = BitVec.ofNat 32 (key k)) (hk : ∀ k, key k < 2147483648)
    (hτ : StrictMono fun j => key (τ j)) (j : Fin n) :
    (Host.sort2 ⟨2, ![m, n]⟩ 1 cmp x (iotaInDim ⟨2, ![m, n]⟩ 32 1)).2 (ix2 i j) = BitVec.ofNat 32 (τ j).val := by
  have hal : ∀ (h1 : 1 < 2) (k : Fin n), (ix2 i j : (⟨2, ![m, n]⟩ : Shape).Idx).along ⟨1, h1⟩ k = ix2 i k := fun h1 k => by
    funext a; unfold Shape.Idx.along
    match a with
    | ⟨0, _⟩ => rfl
    | ⟨1, _⟩ => rfl
  unfold Host.sort2
  rw [dif_pos (by decide : 1 < 2)]
  show BitVec.ofNat 32 _ = _
  have hs := sortedFrom_eq (fun k k' : Fin n => cmp (x (ix2 i k), iotaInDim ⟨2, ![m, n]⟩ 32 1 (ix2 i k))
        (x (ix2 i k'), iotaInDim ⟨2, ![m, n]⟩ 32 1 (ix2 i k')) == 1#1) key (fun k k' => by
      rw [hcmp, hx, hx]
      have h1 := hk k; have h2 := hk k'
      unfold IntOp.cmpi
      have e1 : (BitVec.ofNat 32 (key k)).toInt = key k := toInt_small (hk _)
      have e2 : (BitVec.ofNat 32 (key k')).toInt = key k' := toInt_small (hk _)
      simp only [BitVec.slt, e1, e2]
      by_cases h : key k < key k'
      · simp [h]
      · have h' : ¬ ((key k : ℤ) < key k') := by omega
        simp [h, h']) τ hτ j
  have h12 : 1 < 2 := by decide
  have hal' : (fun k : Fin n => (ix2 i j : (⟨2, ![m, n]⟩ : Shape).Idx).along ⟨1, h12⟩ k) = fun k => ix2 i k :=
    funext fun k => hal _ k
  rw [← hs]
  show (fun al : Fin n → (⟨2, ![m, n]⟩ : Shape).Idx => BitVec.ofNat 32 (al (sortedFrom (fun k k' : Fin n =>
    cmp (x (al k), iotaInDim ⟨2, ![m, n]⟩ 32 1 (al k)) (x (al k'), iotaInDim ⟨2, ![m, n]⟩ 32 1 (al k')) == 1#1) j) 1).val)
    (fun k : Fin n => (ix2 i j : (⟨2, ![m, n]⟩ : Shape).Idx).along ⟨1, h12⟩ k) = _
  rw [hal']
  rfl

/-! ## The four sorted rounds in a line -/

/-- Round `j / 2048`, place `j % 2048`. -/
def rnd (j : Fin 8192) : Fin 4 := ⟨j.val / 2048, by have := j.isLt; omega⟩
def plc (j : Fin 8192) : Fin 2048 := ⟨j.val % 2048, Nat.mod_lt _ (by omega)⟩
/-- The place `p` of round `r`. -/
def at_ (r : Fin 4) (p : Fin 2048) : Fin 8192 := ⟨r.val * 2048 + p.val, by have := r.isLt; have := p.isLt; omega⟩

theorem rnd_at (r : Fin 4) (p : Fin 2048) : rnd (at_ r p) = r := by
  apply Fin.ext; have := r.isLt; have := p.isLt; simp only [rnd, at_]; omega
theorem plc_at (r : Fin 4) (p : Fin 2048) : plc (at_ r p) = p := by
  apply Fin.ext; have := r.isLt; have := p.isLt; simp only [plc, at_]; omega
theorem at_rnd_plc (j : Fin 8192) : at_ (rnd j) (plc j) = j := by
  apply Fin.ext; simp only [rnd, plc, at_]; omega
theorem rnd_val (j : Fin 8192) : (rnd j).val = j.val / 2048 := rfl
theorem plc_val (j : Fin 8192) : (plc j).val = j.val % 2048 := rfl
theorem at_val (r : Fin 4) (p : Fin 2048) : (at_ r p).val = r.val * 2048 + p.val := rfl

/-- Each round rearranged on its own. -/
def rounds (σ : Fin 4 → Equiv.Perm (Fin 2048)) : Equiv.Perm (Fin 8192) where
  toFun j := at_ (rnd j) (σ (rnd j) (plc j))
  invFun j := at_ (rnd j) ((σ (rnd j)).symm (plc j))
  left_inv j := by simp only [rnd_at, plc_at, Equiv.symm_apply_apply, at_rnd_plc]
  right_inv j := by simp only [rnd_at, plc_at, Equiv.apply_symm_apply, at_rnd_plc]

theorem rounds_apply (σ : Fin 4 → Equiv.Perm (Fin 2048)) (j : Fin 8192) :
    rounds σ j = at_ (rnd j) (σ (rnd j) (plc j)) := rfl
theorem rounds_symm_apply (σ : Fin 4 → Equiv.Perm (Fin 2048)) (j : Fin 8192) :
    (rounds σ).symm j = at_ (rnd j) ((σ (rnd j)).symm (plc j)) := rfl

/-- The one key of all four rounds: the round's buckets are lifted above the earlier rounds', the token breaks ties. -/
def lineKey (b : Fin 4 → Fin 2048 → ℕ) (j : Fin 8192) : ℕ := 2048 * (b (rnd j) (plc j) + 512 * (rnd j).val) + (plc j).val

theorem lineKey_lt (b : Fin 4 → Fin 2048 → ℕ) (hb : ∀ r t, b r t < 512) (j : Fin 8192) : lineKey b j < 4194304 := by
  have h1 := hb (rnd j) (plc j); have h2 := (rnd j).isLt; have h3 := (plc j).isLt
  unfold lineKey; omega

/-- Sorting all four rounds by the one key sorts each round by bucket and token. -/
theorem lineKey_rounds (b : Fin 4 → Fin 2048 → ℕ) (hb : ∀ r t, b r t < 512) :
    StrictMono fun j => lineKey b (rounds (fun r => (rankPerm (b r)).symm) j) := fun i j hij => by
  simp only [lineKey, rounds_apply, rnd_at, plc_at]
  have hbi := hb (rnd i) ((rankPerm (b (rnd i))).symm (plc i))
  have hbj := hb (rnd j) ((rankPerm (b (rnd j))).symm (plc j))
  have hpi := ((rankPerm (b (rnd i))).symm (plc i)).isLt
  have hpj := ((rankPerm (b (rnd j))).symm (plc j)).isLt
  have hr : (rnd i).val ≤ (rnd j).val := by simp only [rnd_val]; rw [Fin.lt_def] at hij; omega
  rcases hr.lt_or_eq with h | h
  · omega
  · have he : rnd i = rnd j := Fin.ext h
    have hp : plc i < plc j := by
      rw [Fin.lt_def] at hij ⊢; simp only [plc_val]; simp only [rnd_val] at h; omega
    have hB := before_tokenAt (b (rnd j)) hp
    unfold Before tokenAt at hB
    rw [he] at hbi hpi ⊢
    rw [Fin.lt_def] at hB
    omega

end Cert.Order

end
-- ==== Proof.Take.lean ====
/- Reading rows of an array at given places: the printed `take_along_axis`, whose places are in range. -/
module

public import proofs.«01_k».proof.Proof.Order
public import Idealize.ShloMosaic.Lib.Pointwise

@[expose] public section

set_option maxRecDepth 16384

noncomputable section

namespace Cert.Take

open Idealize.ShloMosaic Cert.Order

/-- The printed gather of rows `idx` of axis 1, axis 0 shared, axis 2 whole. -/
abbrev dims3 {n N m k : ℕ}
    (wf : GatherDims.WF ⟨3, ![n, N, k]⟩ ⟨3, ![n, m, 1]⟩ ⟨3, ![n, m, k]⟩ [2] [1] [0] [1] [0] 2 ![1, 1, k]) :
    GatherDims ⟨3, ![n, N, k]⟩ ⟨3, ![n, m, 1]⟩ ⟨3, ![n, m, k]⟩ where
  offsetDims := [2]
  collapsedSliceDims := [1]
  operandBatchingDims := [0]
  startIndicesBatchingDims := [0]
  startIndexMap := [1]
  indexVectorDim := 2
  sliceSizes := ![1, 1, k]
  wf := wf

/-- The printed gather of entries `idx` of axis 1, axis 0 shared. -/
abbrev dims2 {n N m : ℕ} (wf : GatherDims.WF ⟨2, ![n, N]⟩ ⟨3, ![n, m, 1]⟩ ⟨2, ![n, m]⟩ [] [1] [0] [1] [0] 2 ![1, 1]) :
    GatherDims ⟨2, ![n, N]⟩ ⟨3, ![n, m, 1]⟩ ⟨2, ![n, m]⟩ where
  offsetDims := []
  collapsedSliceDims := [1]
  operandBatchingDims := [0]
  startIndicesBatchingDims := [0]
  startIndexMap := [1]
  indexVectorDim := 2
  sliceSizes := ![1, 1]
  wf := wf

theorem gather3_apply {α : Type} {n N m k : ℕ} (hN : N < 2147483648)
    (wf : GatherDims.WF ⟨3, ![n, N, k]⟩ ⟨3, ![n, m, 1]⟩ ⟨3, ![n, m, k]⟩ [2] [1] [0] [1] [0] 2 ![1, 1, k])
    (x : (⟨3, ![n, N, k]⟩ : Shape).Idx → α) (idx : IVec ⟨3, ![n, m, 1]⟩ 32) (i : Fin n) (j : Fin m) (e : Fin k) (v : Fin N)
    (hv : idx (ix3 i j 0) = BitVec.ofNat 32 v.val) :
    Host.gather (dims3 wf) x idx (ix3 i j e) = x (ix3 i v e) := by
  unfold Host.gather
  refine congrArg x (funext fun a => Fin.ext ?_)
  match a with
  | ⟨0, _⟩ => show 0 + i.val + 0 = i.val; omega
  | ⟨1, _⟩ =>
    have hs : GatherDims.siIdx (dims3 wf) (ix3 i j e) ⟨0, Nat.one_pos⟩ = ix3 i j 0 := by
      funext b; apply Fin.ext
      match b with
      | ⟨0, _⟩ => rfl
      | ⟨1, _⟩ => rfl
      | ⟨2, _⟩ => rfl
    show min (idx (GatherDims.siIdx (dims3 wf) (ix3 i j e) ⟨0, Nat.one_pos⟩)).toInt.toNat (N - 1) + 0 + 0 = v.val
    have := v.isLt
    rw [hs, hv, toInt_small (by omega)]
    omega
  | ⟨2, _⟩ => show 0 + 0 + e.val = e.val; omega

theorem gather2_apply {α : Type} {n N m : ℕ} (hN : N < 2147483648)
    (wf : GatherDims.WF ⟨2, ![n, N]⟩ ⟨3, ![n, m, 1]⟩ ⟨2, ![n, m]⟩ [] [1] [0] [1] [0] 2 ![1, 1])
    (x : (⟨2, ![n, N]⟩ : Shape).Idx → α) (idx : IVec ⟨3, ![n, m, 1]⟩ 32) (i : Fin n) (j : Fin m) (v : Fin N)
    (hv : idx (ix3 i j 0) = BitVec.ofNat 32 v.val) :
    Host.gather (dims2 wf) x idx (ix2 i j) = x (ix2 i v) := by
  unfold Host.gather
  refine congrArg x (funext fun a => Fin.ext ?_)
  match a with
  | ⟨0, _⟩ => show 0 + i.val + 0 = i.val; omega
  | ⟨1, _⟩ =>
    have hs : GatherDims.siIdx (dims2 wf) (ix2 i j) ⟨0, Nat.one_pos⟩ = ix3 i j 0 := by
      funext b; apply Fin.ext
      match b with
      | ⟨0, _⟩ => rfl
      | ⟨1, _⟩ => rfl
      | ⟨2, _⟩ => rfl
    show min (idx (GatherDims.siIdx (dims2 wf) (ix2 i j) ⟨0, Nat.one_pos⟩)).toInt.toNat (N - 1) + 0 + 0 = v.val
    have := v.isLt
    rw [hs, hv, toInt_small (by omega)]
    omega

/-- A place in range is kept as it is. -/
theorem wrap_small {v N : ℕ} (hv : v < N) (hN : N < 1073741824) :
    Scalar.select (IntOp.cmpi .slt (BitVec.ofNat 32 v) 0#32) (IntOp.addi (BitVec.ofNat 32 v) (BitVec.ofNat 32 N)) (BitVec.ofNat 32 v)
      = BitVec.ofNat 32 v := by
  have h : (BitVec.ofNat 32 v).slt 0#32 = false := by
    unfold BitVec.slt; rw [toInt_small (by omega)]; simp
  show (if BitVec.ofBool ((BitVec.ofNat 32 v).slt 0#32) = 1#1 then _ else _) = _
  rw [h]; rfl

/-- and passes the test of its range. -/
theorem inRange_small {v N : ℕ} (hv : v < N + 1) (hN : N < 1073741824) :
    IntOp.andi (IntOp.cmpi .sge (BitVec.ofNat 32 v) 0#32) (IntOp.cmpi .sle (BitVec.ofNat 32 v) (BitVec.ofNat 32 N)) = 1#1 := by
  have h1 : (0#32).sle (BitVec.ofNat 32 v) = true := by
    unfold BitVec.sle; rw [toInt_small (n := v) (by omega)]; simp
  have h2 : (BitVec.ofNat 32 v).sle (BitVec.ofNat 32 N) = true := by
    unfold BitVec.sle; rw [toInt_small (by omega), toInt_small (by omega)]; simp; omega
  show IntOp.andi (BitVec.ofBool ((0#32).sle (BitVec.ofNat 32 v))) (BitVec.ofBool ((BitVec.ofNat 32 v).sle (BitVec.ofNat 32 N))) = 1#1
  rw [h1, h2]; rfl

/-- The printed read of a place in range keeps the value read. -/
theorem take_point {α : Type} {x y z : α} (h : x = y) {f : Fin 1 → BitVec 1} (hf : f 0 = 1#1) :
    Scalar.select (Finset.fold IntOp.andi 1#1 f Finset.univ) x z = y := by
  rw [show f = fun _ => 1#1 from funext fun k => by rw [Subsingleton.elim k 0, hf], h]; rfl

end Cert.Take

end
-- ==== Proof.Bucket.lean ====
/- The bucket of a token: the least index at which a row takes its largest value. -/
module

public import Idealize.ShloMosaic.Lib.Pointwise
public import Mathlib.Data.EReal.Basic
public import Mathlib.Data.Finset.Fold

@[expose] public section

set_option maxRecDepth 16384

noncomputable section

namespace Cert.Bucket

open Idealize.ShloMosaic

/-- `k` is the least index at which `f` is largest. -/
def First {n : ℕ} (f : Fin n → EReal) (k : Fin n) : Prop := (∀ j, f j ≤ f k) ∧ ∀ j, j < k → f j < f k

theorem exists_first {n : ℕ} (f : Fin (n + 1) → EReal) : ∃ k, First f k := by
  obtain ⟨m, -, hm⟩ := Finset.exists_max_image Finset.univ f ⟨0, Finset.mem_univ _⟩
  let S := Finset.univ.filter fun k => f k = f m
  have hS : S.Nonempty := ⟨m, by simp [S]⟩
  have hk : f (S.min' hS) = f m := by simpa [S] using S.min'_mem hS
  refine ⟨S.min' hS, fun j => hk ▸ hm j (Finset.mem_univ _), fun j hj => ?_⟩
  rw [hk]
  refine lt_of_le_of_ne (hm j (Finset.mem_univ _)) fun e => ?_
  have : S.min' hS ≤ j := S.min'_le j (by simp [S, e])
  exact absurd hj (not_lt.mpr this)

theorem First.unique {n : ℕ} {f : Fin n → EReal} {k k' : Fin n} (h : First f k) (h' : First f k') : k = k' := by
  rcases lt_trichotomy k k' with hl | hl | hl
  · exact absurd (h'.2 k hl) (not_lt.mpr (h.1 k'))
  · exact hl
  · exact absurd (h.2 k' hl) (not_lt.mpr (h'.1 k))

/-- The bucket that a row of 512 values names. -/
def bucketOf (f : Fin 512 → EReal) : Fin 512 := (exists_first (n := 511) f).choose

theorem bucketOf_first (f : Fin 512 → EReal) : First f (bucketOf f) := (exists_first (n := 511) f).choose_spec

theorem bucketOf_eq {f : Fin 512 → EReal} {k : Fin 512} (h : First f k) : bucketOf f = k := (bucketOf_first f).unique h

/-- A running maximum from −∞ is the value at the first largest. -/
theorem fold_max_eq {n : ℕ} {f : Fin n → EReal} {k : Fin n} (h : First f k) :
    Finset.fold max ⊥ f Finset.univ = f k := by
  refine le_antisymm ?_ ?_
  · rw [Finset.fold_max_le]; exact ⟨bot_le, fun j _ => h.1 j⟩
  · rw [Finset.le_fold_max]; exact Or.inr ⟨k, Finset.mem_univ _, le_refl _⟩

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The running least index at which a row is largest, every other place standing for a large number. -/
theorem fold_min_eq {n : ℕ} (hn : n ≤ 512) {f : Fin n → EReal} {k : Fin n} (h : First f k) (big : ℕ) (hbig : 512 ≤ big)
    (hbig' : big < 2147483648) (M : EReal) (hM : M = f k) (p : Fin n → Prop) [DecidablePred p] (hp : ∀ x, p x ↔ f x = M) :
    Finset.fold IntOp.minsi (2147483647#32) (fun x : Fin n => if p x then BitVec.ofNat 32 x.val else BitVec.ofNat 32 big)
      Finset.univ = BitVec.ofNat 32 k.val := by
  subst hM
  have small : ∀ m : ℕ, m < 2147483648 → (BitVec.ofNat 32 m).toInt = m := fun m hm => by
    rw [BitVec.toInt_eq_toNat_of_lt (by rw [BitVec.toNat_ofNat]; omega), BitVec.toNat_ofNat]; omega
  apply BitVec.eq_of_toInt_eq
  rw [← Finset.fold_hom (op' := min) (m := BitVec.toInt) toInt_minsi, small k.val (by have := k.isLt; omega)]
  refine le_antisymm ?_ ?_
  · rw [Finset.fold_min_le]
    refine Or.inr ⟨k, Finset.mem_univ _, ?_⟩
    rw [if_pos ((hp k).mpr rfl), small _ (by have := k.isLt; omega)]
  · rw [Finset.le_fold_min]
    refine ⟨?_, fun x _ => ?_⟩
    · have := k.isLt
      rw [show (2147483647#32).toInt = 2147483647 from by decide]; omega
    · by_cases hx : p x
      · rw [if_pos hx, small _ (by have := x.isLt; omega)]
        have : ¬ x < k := fun hlt => absurd ((hp x).mp hx) (h.2 x hlt).ne
        rw [Fin.lt_def] at this; omega
      · rw [if_neg hx, small _ hbig']
        have := k.isLt; omega

/-- A row and its negation side by side. -/
def both (f : Fin 256 → EReal) (k : Fin 512) : EReal :=
  if h : k.val < 256 then f ⟨k.val, h⟩ else -f ⟨k.val - 256, by have := k.isLt; omega⟩

/-- The first largest of a row and its negation, from the two rows' own. -/
theorem first_both {f : Fin 256 → EReal} {a b : Fin 256} (ha : First f a) (hb : First (fun j => -f j) b) :
    bucketOf (both f) = if -f b ≤ f a then ⟨a.val, by have := a.isLt; omega⟩ else ⟨b.val + 256, by have := b.isLt; omega⟩ := by
  refine bucketOf_eq ?_
  by_cases hc : -f b ≤ f a
  · rw [if_pos hc]
    refine ⟨fun j => ?_, fun j hj => ?_⟩
    · unfold both
      rw [dif_pos (show a.val < 256 from a.isLt)]
      split
      · exact ha.1 _
      · exact (hb.1 _).trans hc
    · have hj' : j.val < a.val := hj
      have := a.isLt
      unfold both
      rw [dif_pos (show a.val < 256 from a.isLt), dif_pos (by omega)]
      exact ha.2 _ hj'
  · rw [if_neg hc]
    have hlt := not_le.mp hc
    have e : ∀ h, (⟨b.val + 256 - 256, h⟩ : Fin 256) = b := fun _ => Fin.ext (by simp)
    refine ⟨fun j => ?_, fun j hj => ?_⟩
    · unfold both
      rw [dif_neg (show ¬ b.val + 256 < 256 by omega)]
      simp only [e]
      split
      · exact (ha.1 _).trans hlt.le
      · exact hb.1 _
    · have hj' : j.val < b.val + 256 := hj
      unfold both
      rw [dif_neg (show ¬ b.val + 256 < 256 by omega)]
      simp only [e]
      split
      · exact (ha.1 _).trans_lt hlt
      · exact hb.2 _ (show j.val - 256 < b.val by omega)

end Cert.Bucket

end
-- ==== Proof.Value.Stage1.lean ====
/- What the first call leaves: the two products, and the buckets over the product with the rotations. -/
module

public import proofs.«01_k».proof.Proof.KernelIdeal.Region0
public import proofs.«01_k».proof.Proof.Bucket
public import Idealize.ShloMosaic.Lib.Pipeline.ValueKit
public import Idealize.ShloMosaic.Lib.Pointwise

@[expose] public section

set_option maxRecDepth 16384

noncomputable section

namespace Cert.Stage1

open Cert.KernelIdeal Cert.KernelIdeal.Gen Cert.KernelIdeal.Whole
open Idealize.ShloMosaic Idealize.ShloMosaic.TcCoe Idealize.SL.Sem
open Idealize.ShloMosaic.Pipeline (Dat)

variable (W : Valuation τ sig (Elt Ideal)) (c : Dev nD)

/-- One row of the product of the flattened queries with a weight matrix. -/
def prod (x : FVec Ideal S4096x1024 .f32) (w : FVec Ideal S1024x1024 .f32) (i : S4096x1024.Idx) : EReal :=
  ∑ k : Fin 1024, x (ix2 (i 0) k) * w (ix2 k (i 1))

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0, 0] :=
  (by decide +kernel : ∀ t : Fin grid0.N, _)

theorem prodBlk_apply (x : FVec Ideal S256x1024 .f32) (w : FVec Ideal S1024x1024 .f32) (y : S256x1024.Idx) :
    prodBlk x w y = ∑ k : Fin 1024, x (ix2 (y 0) k) * w (ix2 k (y 1)) := by
  pointwise! [prodBlk]

theorem qk_point (t : Fin cfg0.N) (y) : prodBlk (F := Ideal) (iblk0 W c 0 t) (iblk0 W c 1 t) y
    = prod (W (Proc.devRef .tc main_v0)) (W (Proc.devRef .tc main_arg4)) (((cfg0.win 4).blk t).view.emb y) := by
  rw [prodBlk_apply]; unfold prod
  blk_point [iblk0, idx0 t]

theorem qk_final : (dat0 W c).arrAt 4 cfg0.N = prod (W (Proc.devRef .tc main_v0)) (W (Proc.devRef .tc main_arg4)) := by
  refine (dat0 W c).arrAt_eq_of_covers 4 _ (by decide +kernel) fun t _ y => ?_
  blk_simp
  rw [after0_4]
  unfold out0_4
  rw [View.canon_cons_unit_zero (by decide), View.ld_unit_zero (by decide), View.ld_unit_zero (by decide)]
  exact qk_point W c t y

theorem v_point (t : Fin cfg0.N) (y) : prodBlk (F := Ideal) (iblk0 W c 0 t) (iblk0 W c 2 t) y
    = prod (W (Proc.devRef .tc main_v0)) (W (Proc.devRef .tc main_arg5)) (((cfg0.win 5).blk t).view.emb y) := by
  rw [prodBlk_apply]; unfold prod
  blk_point [iblk0, idx0 t]

theorem v_final : (dat0 W c).arrAt 5 cfg0.N = prod (W (Proc.devRef .tc main_v0)) (W (Proc.devRef .tc main_arg5)) := by
  refine (dat0 W c).arrAt_eq_of_covers 5 _ (by decide +kernel) fun t _ y => ?_
  blk_simp
  rw [after0_5]
  unfold out0_5
  rw [View.canon_cons_unit_zero (by decide), View.ld_unit_zero (by decide), View.ld_unit_zero (by decide)]
  exact v_point W c t y

/-! ## The buckets -/

open Cert.Bucket

theorem negInf : (Ideal.ofBits .f32 4286578688#32 : EReal) = ⊥ := by
  simp [Ideal.ofBits, Ideal.ieee]

theorem rowMax_apply (v : FVec Ideal S256x256 .f32) (r k : Fin 256) (h : First (fun j => v (ix2 r j)) k) :
    rowMax v (ix2 r 0) = v (ix2 r k) := by
  pointwise [rowMax]
  rw [negInf]
  exact fold_max_eq h

theorem rowArg_apply (v : FVec Ideal S256x256 .f32) (r k : Fin 256) (h : First (fun j => v (ix2 r j)) k) :
    rowArg v (ix2 r 0) = BitVec.ofNat 32 k.val := by
  pointwise [rowArg]
  exact fold_min_eq (by decide) h 1073741824 (by decide) (by decide) _ (rowMax_apply v r k h) _ fun _ => Iff.rfl

theorem negBlk_apply (v : FVec Ideal S256x256 .f32) (r j : Fin 256) : negBlk v (ix2 r j) = -v (ix2 r j) := by
  pointwise [negBlk]
  simp

theorem bktCol_apply (v : FVec Ideal S256x256 .f32) (r : Fin 256) :
    bktCol v (ix2 r 0) = BitVec.ofNat 32 (bucketOf (both fun j => v (ix2 r j))).val := by
  obtain ⟨a, ha⟩ := exists_first (n := 255) fun j => v (ix2 r j)
  obtain ⟨b, hb⟩ := exists_first (n := 255) fun j => -v (ix2 r j)
  have hb' : First (fun j => negBlk v (ix2 r j)) b := by simpa only [negBlk_apply] using hb
  rw [first_both ha hb]
  have e1 := rowMax_apply v r a ha
  have e2 := (rowMax_apply (negBlk v) r b hb').trans (negBlk_apply v r b)
  have e3 := rowArg_apply v r a ha
  have e4 := rowArg_apply (negBlk v) r b hb'
  pointwise [bktCol]
  rw [e1, e2, e3, e4]
  split
  · rfl
  · show BitVec.ofNat 32 b.val + 256#32 = _
    rw [BitVec.ofNat_add]

theorem bktHash_apply (qk : FVec Ideal S256x1024 .f32) (rot : FVec Ideal S64x1024 .f32) (h : Fin 16) (k : Fin 4) (r : Fin 256) :
    bktHash qk rot h k (ix2 r 0) = BitVec.ofNat 32 (bucketOf (both fun j =>
      ∑ x : Fin 64, qk (ix2 r ⟨64 * h.val + x.val, by omega⟩) * rot (ix2 x ⟨256 * k.val + j.val, by omega⟩))).val := by
  unfold bktHash
  rw [bktCol_apply]
  have e : ∀ j : Fin 256, extractStridedSlice S256x256 ![0, 256 * k.val] (rotBlk qk rot h) (slices_hash k) (ix2 r j)
      = ∑ x : Fin 64, qk (ix2 r ⟨64 * h.val + x.val, by omega⟩) * rot (ix2 x ⟨256 * k.val + j.val, by omega⟩) := fun j => by
    pointwise [rotBlk]
  simp only [e]

theorem bktHead_apply (qk : FVec Ideal S256x1024 .f32) (rot : FVec Ideal S64x1024 .f32) (h : Fin 16) (k : Fin 4) (r : Fin 256) :
    bktHead qk rot h (ix3 r 0 k) = bktHash qk rot h k (ix2 r 0) := by
  fin_cases k <;> pointwise [bktHead]

/-- The bucket of row `i 0` for head `i 1` and hash `i 2`. -/
def bkt (x : FVec Ideal S4096x1024 .f32) (w : FVec Ideal S1024x1024 .f32) (rot : FVec Ideal S64x1024 .f32) (i : S4096x16x4.Idx) : BitVec 32 :=
  BitVec.ofNat 32 (bucketOf (both fun j => ∑ d : Fin 64,
    prod x w (ix2 (i 0) ⟨64 * (i 1).val + d.val, by have : (i 1).val < 16 := (i 1).isLt; omega⟩)
      * rot (ix2 d ⟨256 * (i 2).val + j.val, by have : (i 2).val < 4 := (i 2).isLt; omega⟩))).val

theorem bkt_point (t : Fin cfg0.N) (a : Fin 256) (b : Fin 16) (d : Fin 4) :
    bktHash (F := Ideal) (prodBlk (iblk0 W c 0 t) (iblk0 W c 1 t)) (iblk0 W c 3 t) b d (ix2 a 0)
    = bkt (W (Proc.devRef .tc main_v0)) (W (Proc.devRef .tc main_arg4)) (W (Proc.devRef .tc main_v1)) (((cfg0.win 6).blk t).view.emb (ix3 a b d)) := by
  rw [bktHash_apply]
  unfold bkt
  congr 3
  refine congrArg both (funext fun j => Finset.sum_congr rfl fun d _ => ?_)
  refine congrArg₂ (· * ·) ?_ ?_
  · rw [prodBlk_apply]; unfold prod
    blk_point [iblk0, idx0 t]
  · blk_point [iblk0, idx0 t]

theorem piece_eq (f : Fin 16 → IVec S256x1x4 32) (n : Fin 16) (a : Fin 256) (b : Fin 16) (d : Fin 4) (x : S256x1x4.Idx)
    (h0 : a.val = (x 0).val) (h1 : b.val = n.val + (x 1).val) (h2 : d.val = (x 2).val) : f n x = f b (ix3 a 0 d) := by
  idx_vars x
  have hq : x1.val = 0 := by have : x1.val < 1 := x1.isLt; omega
  obtain rfl : a = x0 := Fin.ext h0
  obtain rfl : d = x2 := Fin.ext h2
  obtain rfl : b = n := Fin.ext (h1.trans (by show n.val + x1.val = n.val; omega))
  obtain rfl : x1 = 0 := Fin.ext hq
  rfl

theorem out0_6_apply (x0 : FVec Ideal S256x1024 .f32) (x1 : FVec Ideal S1024x1024 .f32) (x2 : FVec Ideal S1024x1024 .f32)
    (x3 : FVec Ideal S64x1024 .f32) (a : Fin 256) (b : Fin 16) (d : Fin 4) :
    out0_6 (F := Ideal) x0 x1 x2 x3 (ix3 a b d) = bktHash (prodBlk x0 x1) x3 b d (ix2 a 0) := by
  rw [← bktHead_apply]
  unfold out0_6
  rw [View.ld_unit_zero (by decide), View.ld_unit_zero (by decide), View.ld_unit_zero (by decide)]
  canon_tiles x h
  all_goals first
    | exact piece_eq (fun n => bktHead (prodBlk x0 x1) x3 n) _ a b d x h0 h1 h2
    | exact piece_eq (fun n => bktHead (prodBlk x0 x1) x3 n) _ a b d x h0 (h1.trans (Nat.zero_add _).symm) h2

theorem bkt_final : (dat0 W c).arrAt 6 cfg0.N = bkt (W (Proc.devRef .tc main_v0)) (W (Proc.devRef .tc main_arg4)) (W (Proc.devRef .tc main_v1)) := by
  refine (dat0 W c).arrAt_eq_of_covers 6 _ (by decide +kernel) fun t _ y => ?_
  blk_simp
  rw [after0_6]
  idx_vars y
  exact (out0_6_apply _ _ _ _ _ _ _).trans (bkt_point W c t _ _ _)

end Cert.Stage1

end
-- ==== Proof.Value.RankBlock.lean ====
/- The rank call's blocks: every row's place in the order by bucket and then by row. -/
module

public import proofs.«01_k».proof.Proof.KernelIdeal.Region1
public import proofs.«01_k».proof.Proof.Order
public import Idealize.ShloMosaic.Lib.Pipeline.ValueKit
public import Idealize.ShloMosaic.Lib.Pointwise

@[expose] public section

set_option maxRecDepth 16384

noncomputable section

namespace Cert.Rank

open Cert.KernelIdeal Cert.KernelIdeal.Gen Cert.KernelIdeal.Whole Cert.Order
open Idealize.ShloMosaic Idealize.ShloMosaic.TcCoe Idealize.SL.Sem
open Idealize.ShloMosaic.Pipeline (Dat)

variable (W : Valuation τ sig (Elt Ideal)) (c : Dev nD)

section Block
variable (b : IVec S2048x1 32) (β : Fin 2048 → ℕ) (hb : ∀ t, b (ix2 t 0) = BitVec.ofNat 32 (β t)) (hβ : ∀ t, β t < 512) (k : Fin 16)

/-- Row `r` of block `k`. -/
def at' (k : Fin 16) (r : Fin 128) : Fin 2048 := ⟨128 * k.val + r.val, by omega⟩

/-- One where the row is in bucket `u`. -/
def hot (k : Fin 16) (r : Fin 128) (u : ℕ) : ℕ := if β (at' k r) = u then 1 else 0

/-- The block's rows in bucket `u`. -/
def cnt (u : ℕ) (k : Fin 16) : ℕ := ∑ r : Fin 128, hot β k r u

/-- The rows in bucket `u` of the first `n` blocks. -/
def cntTo (n u : ℕ) : ℕ := ∑ k : Fin 16, if k.val < n then cnt β u k else 0

theorem sitofp_bit (p : Prop) [Decidable p] (x : BitVec 1) (hx : x = if p then 1#1 else 0#1) :
    (FloatOps.sitofp .f32 (BitVec.setWidth 32 x) : Ideal .f32) = ((if p then 1 else 0 : ℕ) : EReal) := by
  subst hx
  show (((BitVec.setWidth 32 (if p then 1#1 else 0#1)).toInt : ℝ) : EReal) = _
  by_cases h : p
  · simp [h]
  · simp [h]

theorem ofNat_inj {m n : ℕ} (hm : m < 2147483648) (hn : n < 2147483648) : BitVec.ofNat 32 m = BitVec.ofNat 32 n ↔ m = n := by
  constructor
  · intro h
    have := congrArg BitVec.toNat h
    rw [BitVec.toNat_ofNat, BitVec.toNat_ofNat] at this
    omega
  · rintro rfl; rfl

theorem cmpi_eq (x y : BitVec 32) (p : Prop) [Decidable p] (h : x = y ↔ p) : IntOp.cmpi .eq x y = if p then 1#1 else 0#1 := by
  by_cases hp : p
  · rw [if_pos hp, h.mpr hp]; simp [IntOp.cmpi]
  · have hb : (x == y) = false := beq_eq_false_iff_ne.mpr fun e => hp (h.mp e)
    rw [if_neg hp]; simp [IntOp.cmpi, hb]

theorem cmpi_slt {m n : ℕ} (hm : m < 2147483648) (hn : n < 2147483648) :
    IntOp.cmpi .slt (BitVec.ofNat 32 m) (BitVec.ofNat 32 n) = if m < n then 1#1 else 0#1 := by
  have : (BitVec.ofNat 32 m).slt (BitVec.ofNat 32 n) = decide (m < n) := by
    unfold BitVec.slt; rw [toInt_small hm, toInt_small hn]; simp
  show BitVec.ofBool ((BitVec.ofNat 32 m).slt (BitVec.ofNat 32 n)) = _
  rw [this]; by_cases h : m < n <;> simp [h]

include hb hβ in
theorem oneHot_apply (r : Fin 128) (u : Fin 512) : oneHot (F := Ideal) b k (ix2 r u) = ((hot β k r u.val : ℕ) : EReal) := by
  have h : b (ix2 ⟨128 * k.val + r.val, by omega⟩ 0) = BitVec.ofNat 32 (β (at' k r)) := hb (at' k r)
  pointwise [oneHot]
  refine sitofp_bit (β (at' k r) = u.val) _ ?_
  rw [h]
  exact cmpi_eq _ _ _ (ofNat_inj (by have := hβ (at' k r); omega) (by have := u.isLt; omega))

theorem lowerBlk_apply (r j : Fin 128) : lowerBlk (F := Ideal) (ix2 r j) = ((if j.val < r.val then 1 else 0 : ℕ) : EReal) := by
  pointwise [lowerBlk]
  refine sitofp_bit (j.val < r.val) _ ?_
  exact cmpi_slt (by have := j.isLt; omega) (by have := r.isLt; omega)

include hb hβ in
theorem countBlk_apply (u : Fin 512) : countBlk (F := Ideal) b k (ix2 0 u) = ((cnt β u.val k : ℕ) : EReal) := by
  pointwise [countBlk]
  unfold cnt
  rw [Nat.cast_sum]
  exact Finset.sum_congr rfl fun r _ => oneHot_apply b β hb hβ k r u

theorem cntTo_succ {n u : ℕ} (hn : n < 16) : cntTo β (n + 1) u = cntTo β n u + cnt β u (Fin.ofNat 16 n) := by
  unfold cntTo
  have e : cnt β u (Fin.ofNat 16 n) = ∑ k : Fin 16, if k = Fin.ofNat 16 n then cnt β u k else 0 := by
    rw [Finset.sum_ite_eq']; simp
  rw [e, ← Finset.sum_add_distrib]
  refine Finset.sum_congr rfl fun k _ => ?_
  have hk : k = Fin.ofNat 16 n ↔ k.val = n := by
    rw [Fin.ext_iff]; show k.val = n % 16 ↔ _; rw [Nat.mod_eq_of_lt hn]
  by_cases h1 : k.val < n
  · rw [if_pos (by omega), if_pos h1, if_neg (by rw [hk]; omega), add_zero]
  · by_cases h2 : k.val = n
    · rw [if_pos (by omega), if_neg h1, if_pos (hk.mpr h2), zero_add]
    · rw [if_neg (by omega), if_neg h1, if_neg (by rw [hk]; exact h2)]

include hb hβ in
theorem accTo_apply (u : Fin 512) : ∀ n, n ≤ 16 → accTo (F := Ideal) b n (ix2 0 u) = ((cntTo β n u.val : ℕ) : EReal)
  | 0, _ => by
    unfold cntTo
    simp only [Nat.not_lt_zero, if_false, Finset.sum_const_zero, Nat.cast_zero]
    pointwise [accTo]
  | n + 1, h => by
    rw [cntTo_succ β (by omega), Nat.cast_add, ← accTo_apply u n (by omega), ← countBlk_apply b β hb hβ (Fin.ofNat 16 n) u]
    rfl

include hb hβ in
theorem totalTo_apply (u : Fin 512) : ∀ n, n < 16 → totalTo (F := Ideal) b n (ix2 0 u) = ((cntTo β (n + 1) u.val : ℕ) : EReal)
  | 0, _ => by
    rw [cntTo_succ β (by omega)]
    have : cntTo β 0 u.val = 0 := by
      unfold cntTo
      simp only [Nat.not_lt_zero, if_false, Finset.sum_const_zero]
    rw [this, zero_add, ← countBlk_apply b β hb hβ (Fin.ofNat 16 0) u]
    rfl
  | n + 1, h => by
    rw [cntTo_succ β (by omega), Nat.cast_add, ← totalTo_apply u n (by omega), ← countBlk_apply b β hb hβ (Fin.ofNat 16 (n + 1)) u]
    rfl

/-- The rows in the buckets before `u`. -/
def excl (u : ℕ) : ℕ := ∑ x : Fin 512, cntTo β 16 x.val * (if x.val < u then 1 else 0)

theorem excl_apply (T : FVec Ideal S1x512 .f32) (g : Fin 512 → ℕ) (h : ∀ x, T (ix2 0 x) = ((g x : ℕ) : EReal)) (u : Fin 512) :
    matmul dot_S1x512_S512x512_S1x512_1_0_0_1_n_n (some .fp32) T
      (sitofp .f32 (extui 32 (cmpi .slt (iota .tc S512x512 32 [0] iota_S512x512_d0_w32)
        (iota .tc S512x512 32 [1] iota_S512x512_d1_w32)) natLt_1_32)) (constant S1x512 .f32 0x00000000#32) (ix2 0 u)
    = ((∑ x : Fin 512, g x * (if x.val < u.val then 1 else 0) : ℕ) : EReal) := by
  pointwise
  rw [Nat.cast_sum]
  refine Finset.sum_congr rfl fun x _ => ?_
  rw [h, EReal.natCast_mul]
  refine congrArg (_ * ·) (sitofp_bit (x.val < u.val) _ ?_)
  exact cmpi_slt (by have := x.isLt; omega) (by have := u.isLt; omega)

theorem exclBlk_of (T : FVec Ideal S1x512 .f32) (hT : T = totalTo (F := Ideal) b 15)
    (h1 : ∀ x : Fin 512, T (ix2 0 x) = ((cntTo β 16 x.val : ℕ) : EReal)) (u : Fin 512) :
    exclBlk (F := Ideal) b (ix2 0 u) = ((excl β u.val : ℕ) : EReal) := by
  unfold exclBlk
  rw [← hT]
  exact excl_apply T _ h1 u

include hb hβ in
theorem exclBlk_apply (u : Fin 512) : exclBlk (F := Ideal) b (ix2 0 u) = ((excl β u.val : ℕ) : EReal) := by
  obtain ⟨T, hT⟩ : ∃ T, T = totalTo (F := Ideal) b 15 := ⟨_, rfl⟩
  refine exclBlk_of b β T hT (fun x => ?_) u
  subst hT
  exact totalTo_apply b β hb hβ x 15 (by omega)

include hβ in
theorem gather_apply (H : FVec Ideal S128x512 .f32) (E A : FVec Ideal S1x512 .f32) (r : Fin 128)
    (h3 : ∀ u, H (ix2 r u) = ((hot β k r u.val : ℕ) : EReal)) (h1 : ∀ u, E (ix2 0 u) = ((excl β u.val : ℕ) : EReal))
    (h2 : ∀ u, A (ix2 0 u) = ((cntTo β k.val u.val : ℕ) : EReal)) :
    matmul dot_S128x512_S512x1_S128x1_1_0_0_1_n_n (some .fp32) H
      (shapeCast S512x1 (addf E A) shapeCasts_S1x512_S512x1) (constant S128x1 .f32 0x00000000#32) (ix2 r 0)
    = ((excl β (β (at' k r)) + cntTo β k.val (β (at' k r)) : ℕ) : EReal) := by
  pointwise
  have e : (excl β (β (at' k r)) + cntTo β k.val (β (at' k r)) : ℕ)
      = ∑ u : Fin 512, hot β k r u.val * (excl β u.val + cntTo β k.val u.val) := by
    rw [Finset.sum_eq_single ⟨β (at' k r), hβ _⟩]
    · unfold hot; rw [if_pos rfl, one_mul]
    · intro u _ hu
      unfold hot
      rw [if_neg fun e => hu (Fin.ext e.symm), zero_mul]
    · intro h; exact absurd (Finset.mem_univ _) h
  rw [e, Nat.cast_sum]
  refine Finset.sum_congr rfl fun u _ => ?_
  rw [h1, h2, h3, EReal.natCast_mul, Nat.cast_add]

theorem gatherBlk_of (E A : FVec Ideal S1x512 .f32) (hE : E = exclBlk (F := Ideal) b) (hA : A = accTo (F := Ideal) b k.val)
    (r : Fin 128) (v : EReal) (h : matmul dot_S128x512_S512x1_S128x1_1_0_0_1_n_n (some .fp32) (oneHot (F := Ideal) b k)
      (shapeCast S512x1 (addf E A) shapeCasts_S1x512_S512x1) (constant S128x1 .f32 0x00000000#32) (ix2 r 0) = v) :
    gatherBlk (F := Ideal) b k (ix2 r 0) = v := by
  unfold gatherBlk
  rw [← hE, ← hA]
  exact h

include hb hβ in
theorem gatherBlk_apply (r : Fin 128) : gatherBlk (F := Ideal) b k (ix2 r 0)
    = ((excl β (β (at' k r)) + cntTo β k.val (β (at' k r)) : ℕ) : EReal) := by
  obtain ⟨E, hE⟩ : ∃ E, E = exclBlk (F := Ideal) b := ⟨_, rfl⟩
  obtain ⟨A, hA⟩ : ∃ A, A = accTo (F := Ideal) b k.val := ⟨_, rfl⟩
  refine gatherBlk_of b k E A hE hA r _ (gather_apply β hβ k _ E A r (oneHot_apply b β hb hβ k r) (fun u => ?_) fun u => ?_)
  · rw [hE]; exact exclBlk_apply b β hb hβ u
  · rw [hA]; exact accTo_apply b β hb hβ u k.val (by omega)

/-- The earlier rows of the block in the row's bucket. -/
def early (r : Fin 128) : ℕ := ∑ x : Fin 128, (if β (at' k x) = β (at' k r) then 1 else 0) * (if x.val < r.val then 1 else 0)

include hb hβ in
theorem earlierBlk_apply (r : Fin 128) : earlierBlk (F := Ideal) b k (ix2 r 0) = ((early β k r : ℕ) : EReal) := by
  have h3 := oneHot_apply b β hb hβ k
  have h4 := lowerBlk_apply
  unfold earlierBlk
  generalize oneHot (F := Ideal) b k = H at h3 ⊢
  generalize lowerBlk (F := Ideal) = L at h4 ⊢
  pointwise
  unfold early
  rw [Nat.cast_sum]
  refine Finset.sum_congr rfl fun x _ => ?_
  rw [h4, EReal.natCast_mul]
  refine congrArg (· * _) ?_
  have e : (if β (at' k x) = β (at' k r) then 1 else 0 : ℕ) = ∑ u : Fin 512, hot β k r u.val * hot β k x u.val := by
    rw [Finset.sum_eq_single ⟨β (at' k r), hβ _⟩]
    · unfold hot; rw [if_pos rfl, one_mul]
    · intro u _ hu
      unfold hot
      rw [if_neg fun e => hu (Fin.ext e.symm), zero_mul]
    · intro h; exact absurd (Finset.mem_univ _) h
  rw [e, Nat.cast_sum]
  refine Finset.sum_congr rfl fun u _ => ?_
  rw [h3, h3, EReal.natCast_mul]

theorem sum_rows {M : Type} [AddCommMonoid M] (f : Fin 2048 → M) : ∑ t, f t = ∑ k : Fin 16, ∑ r : Fin 128, f (at' k r) := by
  rw [← Fintype.sum_prod_type' (f := fun k r => f (at' k r))]
  refine (Fintype.sum_equiv (finProdFinEquiv (m := 16) (n := 128)) _ _ fun x => ?_).symm
  exact congrArg f (Fin.ext (by show 128 * x.1.val + x.2.val = x.2.val + 128 * x.1.val; omega))

theorem excl_eq (B : ℕ) (hB : B < 512) (hβ : ∀ t, β t < 512) : excl β B = (Finset.univ.filter fun u => β u < B).card := by
  rw [Finset.card_filter, sum_rows]
  unfold excl cntTo cnt
  simp only [Fin.is_lt, if_true, Finset.sum_mul]
  rw [Finset.sum_comm]
  refine Finset.sum_congr rfl fun k _ => ?_
  rw [Finset.sum_comm]
  refine Finset.sum_congr rfl fun r _ => ?_
  rw [Finset.sum_eq_single ⟨β (at' k r), hβ _⟩]
  · unfold hot; rw [if_pos rfl, one_mul]
  · intro u _ hu
    unfold hot
    rw [if_neg fun e => hu (Fin.ext e.symm), zero_mul]
  · intro h; exact absurd (Finset.mem_univ _) h

theorem within_eq (r : Fin 128) : cntTo β k.val (β (at' k r)) + early β k r
    = (Finset.univ.filter fun u => β u = β (at' k r) ∧ u < at' k r).card := by
  rw [Finset.card_filter, sum_rows]
  have e : early β k r = ∑ k' : Fin 16, if k' = k then early β k r else 0 := by
    rw [Finset.sum_ite_eq']; simp
  rw [e]
  unfold cntTo
  rw [← Finset.sum_add_distrib]
  refine Finset.sum_congr rfl fun k' _ => ?_
  by_cases h1 : k'.val < k.val
  · rw [if_pos h1, if_neg (by rw [Fin.ext_iff]; omega), add_zero]
    unfold cnt hot
    refine Finset.sum_congr rfl fun x _ => ?_
    have hl : at' k' x < at' k r := by
      show 128 * k'.val + x.val < 128 * k.val + r.val
      omega
    simp only [hl, and_true]
  · rw [if_neg h1, zero_add]
    by_cases h2 : k' = k
    · subst h2
      rw [if_pos rfl]
      unfold early
      refine Finset.sum_congr rfl fun x _ => ?_
      have hl : at' k' x < at' k' r ↔ x.val < r.val := by
        show 128 * k'.val + x.val < 128 * k'.val + r.val ↔ _
        omega
      by_cases h3 : x.val < r.val <;> by_cases h4 : β (at' k' x) = β (at' k' r) <;> simp [h3, h4, hl]
    · rw [if_neg h2]
      refine (Finset.sum_eq_zero fun x _ => if_neg fun h => ?_).symm
      have hl : 128 * k'.val + x.val < 128 * k.val + r.val := h.2
      have : k'.val ≠ k.val := fun e => h2 (Fin.ext e)
      omega

theorem fptosi_nat {n : ℕ} (hn : n < 2147483648) : Ideal.fptosi 32 ((n : ℕ) : EReal) = BitVec.ofNat 32 n := by
  rw [show ((n : ℕ) : EReal) = (((n : ℝ)) : EReal) from rfl]
  show BitVec.ofInt 32 (max (-((2 ^ (32 - 1) : ℕ) : ℤ)) (min (((2 ^ (32 - 1) : ℕ) : ℤ) - 1)
    (if (0 : ℝ) ≤ (n : ℝ) then ⌊(n : ℝ)⌋ else ⌈(n : ℝ)⌉))) = _
  rw [if_pos (Nat.cast_nonneg n), Int.floor_natCast]
  rw [show max (-((2 ^ (32 - 1) : ℕ) : ℤ)) (min (((2 ^ (32 - 1) : ℕ) : ℤ) - 1) (n : ℤ)) = (n : ℤ) by omega]
  exact BitVec.ofInt_natCast 32 n

theorem rankBlk_of (G E : FVec Ideal S128x1 .f32) (hG : G = gatherBlk (F := Ideal) b k) (hE : E = earlierBlk (F := Ideal) b k)
    (r : Fin 128) : rankBlk (F := Ideal) b k (ix3 0 r 0) = Ideal.fptosi 32 (G (ix2 r 0) + E (ix2 r 0)) := by
  unfold rankBlk
  rw [← hG, ← hE]
  pointwise
  rfl

include hb hβ in
theorem rankBlk_apply (r : Fin 128) : rankBlk (F := Ideal) b k (ix3 0 r 0) = BitVec.ofNat 32 (rankOf β (at' k r)) := by
  obtain ⟨G, hG⟩ : ∃ G, G = gatherBlk (F := Ideal) b k := ⟨_, rfl⟩
  obtain ⟨E, hE⟩ : ∃ E, E = earlierBlk (F := Ideal) b k := ⟨_, rfl⟩
  have h1 : G (ix2 r 0) = ((excl β (β (at' k r)) + cntTo β k.val (β (at' k r)) : ℕ) : EReal) := by
    rw [hG]; exact gatherBlk_apply b β hb hβ k r
  have h2 : E (ix2 r 0) = ((early β k r : ℕ) : EReal) := by
    rw [hE]; exact earlierBlk_apply b β hb hβ k r
  rw [rankBlk_of b k G E hG hE r, h1, h2, ← Nat.cast_add, add_assoc, within_eq, excl_eq β _ (hβ _) hβ, ← rankOf_eq_add]
  exact fptosi_nat (by have := rankOf_lt β (at' k r); omega)

end Block
end Cert.Rank
end
-- ==== Proof.Value.Rank.lean ====
/- What the rank call leaves: every row's place in the order by bucket and then by row. -/
module

public import proofs.«01_k».proof.Proof.Value.RankBlock
public import Idealize.ShloMosaic.Lib.Pipeline.ValueKit
public import Idealize.ShloMosaic.Lib.Pointwise

@[expose] public section

set_option maxRecDepth 16384

noncomputable section

namespace Cert.Rank

open Cert.KernelIdeal Cert.KernelIdeal.Gen Cert.KernelIdeal.Whole Cert.Order
open Idealize.ShloMosaic Idealize.ShloMosaic.TcCoe Idealize.SL.Sem
open Idealize.ShloMosaic.Pipeline (Dat)

variable (W : Valuation τ sig (Elt Ideal)) (c : Dev nD)

/-! ## The array -/

theorem piece_eq (f : Fin 16 → IVec S1x128x1 32) (g : Fin 2048 → BitVec 32) (hf : ∀ k r, f k (ix3 0 r 0) = g (at' k r)) (n : Fin 16) (t : Fin 2048)
    (x : S1x128x1.Idx) (h1 : t.val = 128 * n.val + (x 1).val) : f n x = g t := by
  idx_vars x
  obtain rfl : x0 = 0 := Subsingleton.elim _ _
  obtain rfl : x2 = 0 := Subsingleton.elim _ _
  obtain rfl : t = at' n x1 := Fin.ext h1
  exact hf n x1

theorem out1_1_apply (X : IVec S1x2048x1 32) (β : Fin 2048 → ℕ) (hb : ∀ t, X (ix3 0 t 0) = BitVec.ofNat 32 (β t)) (hβ : ∀ t, β t < 512)
    (t : Fin 2048) : out1_1 (F := Ideal) X (ix3 0 t 0) = BitVec.ofNat 32 (rankOf β t) := by
  have hf : ∀ k r, rankBlk (F := Ideal) (bktRows X) k (ix3 0 r 0) = BitVec.ofNat 32 (rankOf β (at' k r)) := fun k r =>
    rankBlk_apply (bktRows X) β (fun t => by rw [← hb]; pointwise [bktRows]) hβ k r
  unfold out1_1
  rw [View.ld_unit_zero (by decide)]
  generalize rankBlk (F := Ideal) (bktRows X) = f at hf ⊢
  canon_tiles x h
  all_goals first
    | exact piece_eq (f) (fun t => BitVec.ofNat 32 (rankOf β t)) hf _ t x h1
    | exact piece_eq (f) (fun t => BitVec.ofNat 32 (rankOf β t)) hf _ t x (h1.trans (Nat.zero_add _).symm)

theorem idx1 : ∀ t : Fin cfg1.N, win1_0.index t = ![t.val, 0, 0] ∧ win1_1.index t = ![t.val, 0, 0] :=
  (by decide +kernel : ∀ t : Fin grid1.N, _)

theorem rank_final (β : Fin 128 → Fin 2048 → ℕ)
    (hb : ∀ n t, (W (Proc.devRef .tc main_v5) : IVec S128x2048x1 32) (ix3 n t 0) = BitVec.ofNat 32 (β n t)) (hβ : ∀ n t, β n t < 512) :
    (dat1 W c).arrAt 1 cfg1.N = fun i : S128x2048x1.Idx => BitVec.ofNat 32 (rankOf (β (i 0)) (i 1)) := by
  refine (dat1 W c).arrAt_eq_of_covers 1 _ (by decide +kernel) fun t _ y => ?_
  blk_simp
  rw [after1_1]
  idx_vars y
  obtain rfl : y0 = 0 := Subsingleton.elim _ _
  obtain rfl : y2 = 0 := Subsingleton.elim _ _
  have ht : t.val < 128 := t.isLt
  have hX : ∀ p : Fin 2048, (iblk1 W c 0 t : IVec S1x2048x1 32) (ix3 0 p 0) = BitVec.ofNat 32 (β ⟨t.val, ht⟩ p) := fun p => by
    refine Eq.trans (b := (W (Proc.devRef .tc main_v5) : IVec S128x2048x1 32) (ix3 ⟨t.val, ht⟩ p 0)) ?_ (hb _ _)
    blk_point [iblk1, idx1 t]
  refine (out1_1_apply (iblk1 W c 0 t) (β ⟨t.val, ht⟩) hX (hβ _) y1).trans ?_
  congr 2
  · congr 1
    refine Fin.ext ?_
    blk_simp [idx1 t]
    rfl
  · refine Fin.ext ?_
    blk_simp [idx1 t]

end Cert.Rank

end
-- ==== Proof.Layer.lean ====
/- The attention of one sequence in its sorted order, each position over the eight keys of its chunk and the chunk before. -/
module

public import Idealize.ShloMosaic.Lib.Pointwise
public import Mathlib.Data.EReal.Basic
public import Mathlib.Data.Finset.Fold

@[expose] public section

set_option maxRecDepth 16384

noncomputable section

namespace Cert.Layer

open Idealize.ShloMosaic

/-- A row divided by its length, the length kept away from zero. -/
def keyNorm (q : Fin 8192 → Fin 64 → EReal) (p : Fin 8192) (d : Fin 64) : EReal :=
  Ideal.div (q p d) (max (Ideal.sqrt (∑ e : Fin 64, q p e * q p e)) (Ideal.ofBits .f32 0x2B8CBCCC#32))

/-- The place of position `p`'s key number `x`: the chunk before in `0 … 3`, its own in `4 … 7`. -/
def keyAt (p : Fin 8192) (x : Fin 8) : Fin 8192 := ⟨(4 * (p.val / 4) + 8188 + x.val) % 8192, Nat.mod_lt _ (by decide)⟩

/-- The score of the key at `j` for position `p`. -/
def score (q : Fin 8192 → Fin 64 → EReal) (pos : Fin 8192 → BitVec 32) (p j : Fin 8192) : EReal :=
  if pos p = pos j then Ideal.ofBits .f32 0xC7435000#32 else (∑ e : Fin 64, q p e * keyNorm q j e) * Ideal.ofBits .f32 0x3E000000#32

/-- The largest score of a position. -/
def top (q : Fin 8192 → Fin 64 → EReal) (pos : Fin 8192 → BitVec 32) (p : Fin 8192) : EReal :=
  Finset.fold max ⊥ (fun x => score q pos p (keyAt p x)) Finset.univ

/-- The sum of the exponentials about it. -/
def mass (q : Fin 8192 → Fin 64 → EReal) (pos : Fin 8192 → BitVec 32) (p : Fin 8192) : EReal :=
  ∑ x : Fin 8, Ideal.exp (score q pos p (keyAt p x) - top q pos p)

/-- One entry of a position's mean of the values. -/
def row (q v : Fin 8192 → Fin 64 → EReal) (pos : Fin 8192 → BitVec 32) (p : Fin 8192) (d : Fin 64) : EReal :=
  Ideal.div (∑ x : Fin 8, Ideal.exp (score q pos p (keyAt p x) - top q pos p) * v (keyAt p x) d) (mass q pos p)

/-- The logarithm of a position's mass. -/
def logit (q : Fin 8192 → Fin 64 → EReal) (pos : Fin 8192 → BitVec 32) (p : Fin 8192) : EReal :=
  top q pos p + Ideal.log (mass q pos p)

/-- A sum that lives on a band of eight columns. -/
theorem sum_band (c : ℕ) (hc : c + 8 ≤ 132) (f : Fin 132 → EReal) (hz : ∀ j, ¬ (c ≤ j.val ∧ j.val < c + 8) → f j = 0) :
    ∑ j, f j = ∑ x : Fin 8, f ⟨c + x.val, by omega⟩ := by
  refine (Fintype.sum_of_injective (fun x : Fin 8 => (⟨c + x.val, by omega⟩ : Fin 132)) (fun a b h => ?_) _ f (fun j hj => hz j fun h => hj ?_) fun _ => rfl).symm
  · have := congrArg Fin.val h; simp only at this; exact Fin.ext (by omega)
  · exact ⟨⟨j.val - c, by omega⟩, Fin.ext (by show c + (j.val - c) = j.val; omega)⟩

/-- A running maximum whose other entries are −∞. -/
theorem max_band (c : ℕ) (hc : c + 8 ≤ 132) (f : Fin 132 → EReal) (hz : ∀ j, ¬ (c ≤ j.val ∧ j.val < c + 8) → f j = ⊥) :
    Finset.fold max ⊥ f Finset.univ = Finset.fold max ⊥ (fun x : Fin 8 => f ⟨c + x.val, by omega⟩) Finset.univ := by
  refine le_antisymm ?_ ?_
  · rw [Finset.fold_max_le]
    refine ⟨bot_le, fun j _ => ?_⟩
    by_cases h : c ≤ j.val ∧ j.val < c + 8
    · rw [Finset.le_fold_max]
      refine Or.inr ⟨⟨j.val - c, by omega⟩, Finset.mem_univ _, le_of_eq (congrArg f (Fin.ext ?_))⟩
      show j.val = c + (j.val - c); omega
    · rw [hz j h]; exact bot_le
  · rw [Finset.fold_max_le]
    exact ⟨bot_le, fun x _ => by rw [Finset.le_fold_max]; exact Or.inr ⟨_, Finset.mem_univ _, le_refl _⟩⟩

end Cert.Layer

end
-- ==== Proof.Value.Band.lean ====
/- The band of keys that a block's rows attend to: eight columns per chunk of four rows. -/
module

public import proofs.«01_k».proof.Proof.KernelIdeal.Attn
public import Idealize.ShloMosaic.Lib.Pipeline.ValueKit
public import Idealize.ShloMosaic.Lib.Pointwise

@[expose] public section

set_option maxRecDepth 16384

noncomputable section

namespace Cert.Attention

open Cert.KernelIdeal Cert.KernelIdeal.Gen Cert.KernelIdeal.Whole
open Idealize.ShloMosaic Idealize.ShloMosaic.TcCoe Idealize.SL.Sem
open Idealize.ShloMosaic.Pipeline (Dat)

theorem band : ∀ (i : Fin 128) (j : Fin 132), k2_pay17 (ix2 i j) = if 4 * (i.val / 4) ≤ j.val ∧ j.val < 4 * (i.val / 4) + 8 then 1#1 else 0#1 := by
  intro i j
  pointwise [k2_pay17]
  revert i j
  decide +kernel

end Cert.Attention

end
-- ==== Proof.Value.Attention.lean ====
/- What the attention call leaves: every position's mean of the values and its logit. -/
module

public import proofs.«01_k».proof.Proof.KernelIdeal.Region2
public import proofs.«01_k».proof.Proof.Layer
public import proofs.«01_k».proof.Proof.Value.Band
public import Idealize.ShloMosaic.Lib.Pipeline.ValueKit
public import Idealize.ShloMosaic.Lib.Pointwise

@[expose] public section

set_option maxRecDepth 16384

noncomputable section

namespace Cert.Attention

open Cert.KernelIdeal Cert.KernelIdeal.Gen Cert.KernelIdeal.Whole Cert.Layer
open Idealize.ShloMosaic Idealize.ShloMosaic.TcCoe Idealize.SL.Sem
open Idealize.ShloMosaic.Pipeline (Dat)

variable (W : Valuation τ sig (Elt Ideal)) (c : Dev nD)

theorem mask_eq : (Named.named κ "mask" 0xF149F2CA#32 : Ideal .f32) = (⊥ : EReal) := by
  rfl

theorem negInf : (Ideal.ofBits .f32 4286578688#32 : EReal) = ⊥ := by
  simp [Ideal.ofBits, Ideal.ieee]

/-- The mask as a block. -/
abbrev msk : FVec Ideal S128x132 .f32 := k2_pay1 (F := Ideal) k2_pay17 (Named.named κ "mask" 0xF149F2CA#32) k2_pay18

theorem bandBlk_apply (i : Fin 128) (j : Fin 132) : msk (ix2 i j)
    = if 4 * (i.val / 4) ≤ j.val ∧ j.val < 4 * (i.val / 4) + 8 then (0 : EReal) else ⊥ := by
  pointwise [msk, k2_pay1, k2_pay18]
  rw [band, mask_eq]
  split <;> rfl

section Trip
variable (q kn v : FVec Ideal S132x64 .f32)
variable (v77 : FVec Ideal S1x128x64 .f32) (v81 v84 : FVec Ideal S132x64 .f32) (v87 : IVec S1x128x1 32) (v91 : IVec S1x132 32)
variable (Q V : Fin 8192 → Fin 64 → EReal) (pos : Fin 8192 → BitVec 32) (i : Fin 128) (p : Fin 8192) (key : Fin 132 → Fin 8192)

theorem band_le (i : Fin 128) : 4 * (i.val / 4) + 8 ≤ 132 := by omega

theorem pay4_apply (h77 : ∀ e, v77 (ix3 0 i e) = Q p e) (h81 : ∀ j e, v81 (ix2 j e) = keyNorm Q (key j) e)
    (h87 : v87 (ix3 0 i 0) = pos p) (h91 : ∀ j, v91 (ix2 0 j) = pos (key j)) (j : Fin 132) :
    k2_pay4 (F := Ideal) msk v77 v81 v87 v91 (ix2 i j)
      = if 4 * (i.val / 4) ≤ j.val ∧ j.val < 4 * (i.val / 4) + 8 then score Q pos p (key j) else ⊥ := by
  pointwise [k2_pay4]
  rw [bandBlk_apply, h87, h91]
  simp only [h77, h81]
  split
  · rw [add_zero]
    unfold score
    by_cases h : pos p = pos (key j)
    · rw [if_pos h, h]; simp [Scalar.select, IntOp.cmpi]
    · rw [if_neg h]
      have hb : (pos p == pos (key j)) = false := beq_eq_false_iff_ne.mpr h
      simp [Scalar.select, IntOp.cmpi, hb]
  · exact EReal.add_bot _

theorem pay5_apply (h77 : ∀ e, v77 (ix3 0 i e) = Q p e) (h81 : ∀ j e, v81 (ix2 j e) = keyNorm Q (key j) e)
    (h87 : v87 (ix3 0 i 0) = pos p) (h91 : ∀ j, v91 (ix2 0 j) = pos (key j))
    (hkey : ∀ x : Fin 8, key ⟨4 * (i.val / 4) + x.val, by omega⟩ = keyAt p x) :
    k2_pay5 (F := Ideal) msk v77 v81 v87 v91 (ix2 i 0) = top Q pos p := by
  pointwise [k2_pay5]
  simp only [pay4_apply v77 v81 v87 v91 Q pos i p key h77 h81 h87 h91]
  rw [negInf, max_band (4 * (i.val / 4)) (band_le i) _ fun j hj => if_neg hj]
  unfold top
  congr 1
  funext x
  rw [if_pos (by constructor <;> simp), hkey]

theorem pay6_apply (h77 : ∀ e, v77 (ix3 0 i e) = Q p e) (h81 : ∀ j e, v81 (ix2 j e) = keyNorm Q (key j) e)
    (h87 : v87 (ix3 0 i 0) = pos p) (h91 : ∀ j, v91 (ix2 0 j) = pos (key j))
    (hkey : ∀ x : Fin 8, key ⟨4 * (i.val / 4) + x.val, by omega⟩ = keyAt p x) (j : Fin 132) :
    k2_pay6 (F := Ideal) msk v77 v81 v87 v91 (ix2 i j)
      = if 4 * (i.val / 4) ≤ j.val ∧ j.val < 4 * (i.val / 4) + 8 then Ideal.exp (score Q pos p (key j) - top Q pos p) else 0 := by
  pointwise [k2_pay6]
  rw [pay4_apply v77 v81 v87 v91 Q pos i p key h77 h81 h87 h91, pay5_apply v77 v81 v87 v91 Q pos i p key h77 h81 h87 h91 hkey]
  split
  · rfl
  · rw [show (⊥ : EReal) - top Q pos p = ⊥ from EReal.bot_sub _]; rfl

theorem pay7_apply (h77 : ∀ e, v77 (ix3 0 i e) = Q p e) (h81 : ∀ j e, v81 (ix2 j e) = keyNorm Q (key j) e)
    (h87 : v87 (ix3 0 i 0) = pos p) (h91 : ∀ j, v91 (ix2 0 j) = pos (key j))
    (hkey : ∀ x : Fin 8, key ⟨4 * (i.val / 4) + x.val, by omega⟩ = keyAt p x) :
    k2_pay7 (F := Ideal) msk v77 v81 v87 v91 (ix2 i 0) = mass Q pos p := by
  pointwise [k2_pay7]
  simp only [pay6_apply v77 v81 v87 v91 Q pos i p key h77 h81 h87 h91 hkey]
  rw [sum_band (4 * (i.val / 4)) (band_le i) _ fun j hj => if_neg hj]
  unfold mass
  refine Finset.sum_congr rfl fun x _ => ?_
  rw [if_pos (by constructor <;> simp), hkey]

theorem rows_apply (h77 : ∀ e, v77 (ix3 0 i e) = Q p e) (h81 : ∀ j e, v81 (ix2 j e) = keyNorm Q (key j) e)
    (h84 : ∀ j e, v84 (ix2 j e) = V (key j) e)
    (h87 : v87 (ix3 0 i 0) = pos p) (h91 : ∀ j, v91 (ix2 0 j) = pos (key j))
    (hkey : ∀ x : Fin 8, key ⟨4 * (i.val / 4) + x.val, by omega⟩ = keyAt p x) (d : Fin 64) :
    rowsOf (F := Ideal) k2_pay17 (Named.named κ "mask" 0xF149F2CA#32) k2_pay18 v77 v81 v84 v87 v91 (ix3 0 i d) = row Q V pos p d := by
  have h7 := pay7_apply v77 v81 v87 v91 Q pos i p key h77 h81 h87 h91 hkey
  pointwise [rowsOf, k2_pay2, k2_pay8]
  rw [h7]
  unfold row
  congr 1
  simp only [pay6_apply v77 v81 v87 v91 Q pos i p key h77 h81 h87 h91 hkey, h84]
  rw [sum_band (4 * (i.val / 4)) (band_le i) _ fun j hj => by rw [if_neg hj, zero_mul]]
  refine Finset.sum_congr rfl fun x _ => ?_
  rw [if_pos (by constructor <;> simp), hkey]

theorem logs_apply (h77 : ∀ e, v77 (ix3 0 i e) = Q p e) (h81 : ∀ j e, v81 (ix2 j e) = keyNorm Q (key j) e)
    (h87 : v87 (ix3 0 i 0) = pos p) (h91 : ∀ j, v91 (ix2 0 j) = pos (key j))
    (hkey : ∀ x : Fin 8, key ⟨4 * (i.val / 4) + x.val, by omega⟩ = keyAt p x) :
    logsOf (F := Ideal) k2_pay17 (Named.named κ "mask" 0xF149F2CA#32) k2_pay18 v77 v81 v87 v91 (ix3 0 i 0) = logit Q pos p := by
  have h5 := pay5_apply v77 v81 v87 v91 Q pos i p key h77 h81 h87 h91 hkey
  have h7 := pay7_apply v77 v81 v87 v91 Q pos i p key h77 h81 h87 h91 hkey
  pointwise [logsOf, k2_pay3]
  rw [h5, h7]
  rfl

end Trip

/-! ## The scratch buffers -/

/-- The place that row `j` of block `k`'s keys comes from. -/
def keyOf (k : ℕ) (j : Fin 132) : Fin 8192 := ⟨(128 * k + j.val + 8188) % 8192, Nat.mod_lt _ (by decide)⟩

theorem pay9_apply (x0 : FVec Ideal S1x8192x64 .f32) (p : Fin 8192) (d : Fin 64) :
    k2_pay9 (F := Ideal) x0 (ix2 p d) = keyNorm (fun p e => x0 (ix3 0 p e)) p d := by
  pointwise [k2_pay9]
  rfl

theorem keyOf_lo {k : ℕ} (hk : k < 64) {j : Fin 132} (h : 128 * k + j.val < 4) : (keyOf k j).val = 8188 + (128 * k + j.val) := by
  show (128 * k + j.val + 8188) % 8192 = _
  omega
theorem keyOf_hi {k : ℕ} (hk : k < 64) {j : Fin 132} (h : 4 ≤ 128 * k + j.val) : 4 + (keyOf k j).val = 128 * k + j.val := by
  have := j.isLt
  show 4 + (128 * k + j.val + 8188) % 8192 = _
  omega

theorem keys_apply (X : FVec Ideal S1x8192x64 .f32) (k : Fin k2_t1_loop.trips) (j : Fin 132) (d : Fin 64) :
    View.ld (View.canon (keyPieces (F := Ideal) X)) (r2_k2 k) (ix2 j d) = keyNorm (fun p e => X (ix3 0 p e)) (keyOf k.val j) d := by
  have hk : k.val < 64 := lt_of_lt_of_le k.isLt (le_of_eq trips2)
  have hj := j.isLt
  have e0 : ((r2_k2 k).idx (ix2 j d) 0).val = 128 * k.val + j.val := by
    show k2_off2 k 0 + 1 * j.val = _
    rw [k2_off2_val]; simp
  have e1 : ((r2_k2 k).idx (ix2 j d) 1).val = d.val := by
    show k2_off2 k 1 + 1 * d.val = _
    rw [k2_off2_val]; simp
  rw [View.ld_apply]
  refine View.canon_eq_of_allAt _ _ _ (key_cov k _ _ _) ?_
  unfold keyPieces
  rw [View.ld_unit_zero (by decide)]
  generalize (r2_k2 k).idx (ix2 j d) = y at e0 e1
  refine View.allAt_cons_unit _ _ _ _ _ (fun x h => ?_) (View.allAt_cons_unit _ _ _ _ _ (fun x h => ?_) (View.allAt_nil _ _))
  · have h0 : (y 0).val = 4 + (x 0).val := h 0
    have h1 : (y 1).val = 0 + (x 1).val := h 1
    have ek := keyOf_hi hk (j := j) (by omega)
    obtain rfl : x = ix2 (keyOf k.val j) d := by
      idx_vars x
      exact congrArg₂ ix2 (Fin.ext (show x0.val = _ by have : (y 0).val = 4 + x0.val := h0; omega)) (Fin.ext (show x1.val = _ by have : (y 1).val = 0 + x1.val := h1; omega))
    refine Eq.trans ?_ (pay9_apply X (keyOf k.val j) d)
    pointwise [k2_pay11]
  · have h0 : (y 0).val = 0 + (x 0).val := h 0
    have h1 : (y 1).val = 0 + (x 1).val := h 1
    have hx : (x 0).val < 4 := (x 0).isLt
    have hlt : 128 * k.val + j.val < 4 := by omega
    have ek := keyOf_lo hk hlt
    obtain rfl : x = ix2 ⟨128 * k.val + j.val, hlt⟩ d := by
      idx_vars x
      exact congrArg₂ ix2 (Fin.ext (show x0.val = _ by have : (y 0).val = 0 + x0.val := h0; show x0.val = 128 * k.val + j.val; omega)) (Fin.ext (show x1.val = _ by have : (y 1).val = 0 + x1.val := h1; omega))
    refine Eq.trans ?_ (pay9_apply X (keyOf k.val j) d)
    pointwise [k2_pay10]
    blk_ext

theorem vals_apply (X : FVec Ideal S1x8192x64 .f32) (k : Fin k2_t1_loop.trips) (j : Fin 132) (d : Fin 64) :
    View.ld (View.canon (valPieces (F := Ideal) X)) (r2_k2 k) (ix2 j d) = X (ix3 0 (keyOf k.val j) d) := by
  have hk : k.val < 64 := lt_of_lt_of_le k.isLt (le_of_eq trips2)
  have hj := j.isLt
  have e0 : ((r2_k2 k).idx (ix2 j d) 0).val = 128 * k.val + j.val := by
    show k2_off2 k 0 + 1 * j.val = _
    rw [k2_off2_val]; simp
  have e1 : ((r2_k2 k).idx (ix2 j d) 1).val = d.val := by
    show k2_off2 k 1 + 1 * d.val = _
    rw [k2_off2_val]; simp
  rw [View.ld_apply]
  refine View.canon_eq_of_allAt _ _ _ (key_cov k _ _ _) ?_
  unfold valPieces
  rw [View.ld_unit_zero (by decide)]
  generalize (r2_k2 k).idx (ix2 j d) = y at e0 e1
  refine View.allAt_cons_unit _ _ _ _ _ (fun x h => ?_) (View.allAt_cons_unit _ _ _ _ _ (fun x h => ?_) (View.allAt_nil _ _))
  · have h0 : (y 0).val = 4 + (x 0).val := h 0
    have h1 : (y 1).val = 0 + (x 1).val := h 1
    have ek := keyOf_hi hk (j := j) (by omega)
    obtain rfl : x = ix2 (keyOf k.val j) d := by
      idx_vars x
      exact congrArg₂ ix2 (Fin.ext (show x0.val = _ by have : (y 0).val = 4 + x0.val := h0; omega)) (Fin.ext (show x1.val = _ by have : (y 1).val = 0 + x1.val := h1; omega))
    pointwise [k2_pay13]
  · have h0 : (y 0).val = 0 + (x 0).val := h 0
    have h1 : (y 1).val = 0 + (x 1).val := h 1
    have hx : (x 0).val < 4 := (x 0).isLt
    have hlt : 128 * k.val + j.val < 4 := by omega
    have ek := keyOf_lo hk hlt
    obtain rfl : x = ix2 ⟨128 * k.val + j.val, hlt⟩ d := by
      idx_vars x
      exact congrArg₂ ix2 (Fin.ext (show x0.val = _ by have : (y 0).val = 0 + x0.val := h0; show x0.val = 128 * k.val + j.val; omega)) (Fin.ext (show x1.val = _ by have : (y 1).val = 0 + x1.val := h1; omega))
    pointwise [k2_pay12]
    blk_ext

theorem poss_apply (X : IVec S1x1x8192 32) (k : Fin k2_t1_loop.trips) (j : Fin 132) :
    View.ld (View.canon (posPieces (F := Ideal) X)) (r2_k4 k) (ix2 0 j) = X (ix3 0 0 (keyOf k.val j)) := by
  have hk : k.val < 64 := lt_of_lt_of_le k.isLt (le_of_eq trips2)
  have hj := j.isLt
  have e0 : ((r2_k4 k).idx (ix2 0 j) 0).val = 0 := by
    show k2_off4 k 0 + 1 * 0 = _
    rw [k2_off4_val]; simp
  have e1 : ((r2_k4 k).idx (ix2 0 j) 1).val = 128 * k.val + j.val := by
    show k2_off4 k 1 + 1 * j.val = _
    rw [k2_off4_val]; simp
  rw [View.ld_apply]
  refine View.canon_eq_of_allAt _ _ _ (pos_cov k _ _ _) ?_
  unfold posPieces
  rw [View.ld_unit_zero (by decide)]
  generalize (r2_k4 k).idx (ix2 0 j) = y at e0 e1
  refine View.allAt_cons_unit _ _ _ _ _ (fun x h => ?_) (View.allAt_cons_unit _ _ _ _ _ (fun x h => ?_) (View.allAt_nil _ _))
  · have h0 : (y 0).val = 0 + (x 0).val := h 0
    have h1 : (y 1).val = 4 + (x 1).val := h 1
    have ek := keyOf_hi hk (j := j) (by omega)
    obtain rfl : x = ix2 0 (keyOf k.val j) := by
      idx_vars x
      exact congrArg₂ ix2 (Fin.ext (show x0.val = 0 by have : (y 0).val = 0 + x0.val := h0; omega)) (Fin.ext (show x1.val = _ by have : (y 1).val = 4 + x1.val := h1; omega))
    pointwise [k2_pay16]
  · have h0 : (y 0).val = 0 + (x 0).val := h 0
    have h1 : (y 1).val = 0 + (x 1).val := h 1
    have hx : (x 1).val < 4 := (x 1).isLt
    have hlt : 128 * k.val + j.val < 4 := by omega
    have ek := keyOf_lo hk hlt
    obtain rfl : x = ix2 0 ⟨128 * k.val + j.val, hlt⟩ := by
      idx_vars x
      exact congrArg₂ ix2 (Fin.ext (show x0.val = 0 by have : (y 0).val = 0 + x0.val := h0; omega)) (Fin.ext (show x1.val = _ by have : (y 1).val = 0 + x1.val := h1; show x1.val = 128 * k.val + j.val; omega))
    pointwise [k2_pay15, k2_pay14]
    blk_ext

/-! ## All trips -/

theorem allAt_piecesTo {s : Shape} {e : EltTy} (R : Fin k2_t1_loop.trips → Rect s) (P : (k : Fin k2_t1_loop.trips) → (R k).shape.Idx → Elt Ideal e)
    (y : s.Idx) (v : Elt Ideal e) (h : ∀ k, View.RectAt y (R k) (P k) v) : ∀ n, View.AllAt (piecesTo R P n) y v
  | 0 => View.allAt_nil _ _
  | n + 1 => by
    unfold piecesTo
    split
    · exact View.allAt_cons _ _ _ (h _) (allAt_piecesTo R P y v h n)
    · exact allAt_piecesTo R P y v h n

theorem hkey (k : ℕ) (i : Fin 128) (p : Fin 8192) (hp : p.val = 128 * k + i.val) (x : Fin 8) :
    keyOf k ⟨4 * (i.val / 4) + x.val, by omega⟩ = keyAt p x := by
  refine Fin.ext ?_
  show (128 * k + (4 * (i.val / 4) + x.val) + 8188) % 8192 = (4 * (p.val / 4) + 8188 + x.val) % 8192
  rw [hp]; congr 1; omega

variable (X0 X1 : FVec Ideal S1x8192x64 .f32) (X2 : IVec S1x8192x1 32) (X3 : IVec S1x1x8192 32)

theorem out2_4_apply (h3 : ∀ p, X3 (ix3 0 0 p) = X2 (ix3 0 p 0)) (p : Fin 8192) (d : Fin 64) :
    out2_4 (F := Ideal) X0 X1 X2 X3 (ix3 0 p d) = row (fun p e => X0 (ix3 0 p e)) (fun p e => X1 (ix3 0 p e)) (fun p => X2 (ix3 0 p 0)) p d := by
  unfold out2_4
  refine View.canon_eq_of_allAt _ _ _ (cover2_4 _ _) (allAt_piecesTo _ _ _ _ (fun k x hx => ?_) _)
  have hk : k.val < 64 := lt_of_lt_of_le k.isLt (le_of_eq trips2)
  obtain ⟨a, i, e, rfl⟩ : ∃ (a : Fin 1) (i : Fin 128) (e : Fin 64), x = ix3 a i e := ⟨x 0, x 1, x 2, by idx_vars x⟩
  obtain rfl : a = 0 := Subsingleton.elim _ _
  have e1 : 128 * k.val + i.val = p.val := by
    have : ((r2_k1 k).idx (ix3 0 i e) 1).val = p.val := congrArg (fun z : S1x8192x64.Idx => (z 1).val) hx
    have h' : k2_off1 k 1 + 1 * i.val = p.val := this
    rw [k2_off1_val] at h'; simpa using h'
  have e2 : e = d := by
    have : ((r2_k1 k).idx (ix3 0 i e) 2).val = d.val := congrArg (fun z : S1x8192x64.Idx => (z 2).val) hx
    have h' : k2_off1 k 2 + 1 * e.val = d.val := this
    rw [k2_off1_val] at h'; exact Fin.ext (by simpa using h')
  subst e2
  refine rows_apply _ _ _ _ _ _ _ _ i p (keyOf k.val) (fun e => ?_) (fun j e => keys_apply X0 k j e) (fun j e => vals_apply X1 k j e) ?_ (fun j => ?_) (hkey k.val i p e1.symm) e
  · refine View.ld_unit_apply_of _ _ _ _ _ _ fun a => ?_
    refine Eq.trans ?_ (congrArg (· + _) (congrFun (k2_off1_val k) a).symm)
    match a with
    | 0 => rfl
    | 1 => exact e1.symm
    | 2 => exact (Nat.zero_add _).symm
  · refine View.ld_unit_apply_of _ _ _ _ _ _ fun a => ?_
    refine Eq.trans ?_ (congrArg (· + _) (congrFun (k2_off3_val k) a).symm)
    match a with
    | 0 => rfl
    | 1 => exact e1.symm
    | 2 => rfl
  · exact (poss_apply X3 k j).trans (h3 _)

theorem out2_5_apply (h3 : ∀ p, X3 (ix3 0 0 p) = X2 (ix3 0 p 0)) (p : Fin 8192) :
    out2_5 (F := Ideal) X0 X1 X2 X3 (ix3 0 p 0) = logit (fun p e => X0 (ix3 0 p e)) (fun p => X2 (ix3 0 p 0)) p := by
  unfold out2_5
  refine View.canon_eq_of_allAt _ _ _ (cover2_5 _ _) (allAt_piecesTo _ _ _ _ (fun k x hx => ?_) _)
  have hk : k.val < 64 := lt_of_lt_of_le k.isLt (le_of_eq trips2)
  obtain ⟨a, i, e, rfl⟩ : ∃ (a : Fin 1) (i : Fin 128) (e : Fin 1), x = ix3 a i e := ⟨x 0, x 1, x 2, by idx_vars x⟩
  obtain rfl : a = 0 := Subsingleton.elim _ _
  obtain rfl : e = 0 := Subsingleton.elim _ _
  have e1 : 128 * k.val + i.val = p.val := by
    have : ((r2_k3 k).idx (ix3 0 i 0) 1).val = p.val := congrArg (fun z : S1x8192x1.Idx => (z 1).val) hx
    have h' : k2_off3 k 1 + 1 * i.val = p.val := this
    rw [k2_off3_val] at h'; simpa using h'
  refine logs_apply _ _ _ _ _ _ i p (keyOf k.val) (fun e => ?_) (fun j e => keys_apply X0 k j e) ?_ (fun j => ?_) (hkey k.val i p e1.symm)
  · refine View.ld_unit_apply_of _ _ _ _ _ _ fun a => ?_
    refine Eq.trans ?_ (congrArg (· + _) (congrFun (k2_off1_val k) a).symm)
    match a with
    | 0 => rfl
    | 1 => exact e1.symm
    | 2 => exact (Nat.zero_add _).symm
  · refine View.ld_unit_apply_of _ _ _ _ _ _ fun a => ?_
    refine Eq.trans ?_ (congrArg (· + _) (congrFun (k2_off3_val k) a).symm)
    match a with
    | 0 => rfl
    | 1 => exact e1.symm
    | 2 => rfl
  · exact (poss_apply X3 k j).trans (h3 _)

/-! ## The arrays -/

theorem idx2 : ∀ t : Fin cfg2.N, win2_0.index t = ![t.val, 0, 0] ∧ win2_1.index t = ![t.val, 0, 0] ∧ win2_2.index t = ![t.val, 0, 0]
    ∧ win2_3.index t = ![t.val, 0, 0] ∧ win2_4.index t = ![t.val, 0, 0] ∧ win2_5.index t = ![t.val, 0, 0] :=
  (by decide +kernel : ∀ t : Fin grid2.N, _)

/-- The rows of all sequences. -/
def rows (q v : FVec Ideal S32x8192x64 .f32) (pos : IVec S32x8192x1 32) (i : S32x8192x64.Idx) : EReal :=
  row (fun p e => q (ix3 (i 0) p e)) (fun p e => v (ix3 (i 0) p e)) (fun p => pos (ix3 (i 0) p 0)) (i 1) (i 2)

/-- The logits of all sequences. -/
def logits (q : FVec Ideal S32x8192x64 .f32) (pos : IVec S32x8192x1 32) (i : S32x8192x1.Idx) : EReal :=
  logit (fun p e => q (ix3 (i 0) p e)) (fun p => pos (ix3 (i 0) p 0)) (i 1)

theorem pos_point (hW : ∀ n p, (W (Proc.devRef .tc main_v21) : IVec S32x1x8192 32) (ix3 n 0 p) = (W (Proc.devRef .tc main_v20) : IVec S32x8192x1 32) (ix3 n p 0))
    (t : Fin cfg2.N) (p : Fin 8192) : (iblk2 W c 3 t : IVec S1x1x8192 32) (ix3 0 0 p) = (iblk2 W c 2 t : IVec S1x8192x1 32) (ix3 0 p 0) := by
  have ht : t.val < 32 := t.isLt
  have h := hW ⟨t.val, ht⟩ p
  refine Eq.trans (b := (W (Proc.devRef .tc main_v21) : IVec S32x1x8192 32) (ix3 ⟨t.val, ht⟩ 0 p)) ?_ (h.trans (b := (W (Proc.devRef .tc main_v20) : IVec S32x8192x1 32) (ix3 ⟨t.val, ht⟩ p 0)) ?_)
  all_goals blk_point [iblk2, idx2 t]

theorem row_congr {q q' v v' : Fin 8192 → Fin 64 → EReal} {pos pos' : Fin 8192 → BitVec 32} {p p' : Fin 8192} {d d' : Fin 64}
    (hq : ∀ p e, q p e = q' p e) (hv : ∀ p e, v p e = v' p e) (hpos : ∀ p, pos p = pos' p) (hp : p = p') (hd : d = d') :
    row q v pos p d = row q' v' pos' p' d' := by
  obtain rfl : q = q' := funext fun p => funext (hq p)
  obtain rfl : v = v' := funext fun p => funext (hv p)
  obtain rfl : pos = pos' := funext hpos
  rw [hp, hd]

theorem logit_congr {q q' : Fin 8192 → Fin 64 → EReal} {pos pos' : Fin 8192 → BitVec 32} {p p' : Fin 8192}
    (hq : ∀ p e, q p e = q' p e) (hpos : ∀ p, pos p = pos' p) (hp : p = p') : logit q pos p = logit q' pos' p' := by
  obtain rfl : q = q' := funext fun p => funext (hq p)
  obtain rfl : pos = pos' := funext hpos
  rw [hp]

theorem rows_final (hW : ∀ n p, (W (Proc.devRef .tc main_v21) : IVec S32x1x8192 32) (ix3 n 0 p) = (W (Proc.devRef .tc main_v20) : IVec S32x8192x1 32) (ix3 n p 0)) :
    (dat2 W c).arrAt 4 cfg2.N = rows (W (Proc.devRef .tc main_v17)) (W (Proc.devRef .tc main_v19)) (W (Proc.devRef .tc main_v20)) := by
  refine (dat2 W c).arrAt_eq_of_covers 4 _ (by decide +kernel) fun t _ y => ?_
  blk_simp
  rw [after2_4]
  idx_vars y
  obtain rfl : y0 = 0 := Subsingleton.elim _ _
  refine (out2_4_apply (iblk2 W c 0 t) (iblk2 W c 1 t) (iblk2 W c 2 t) (iblk2 W c 3 t) (pos_point W c hW t) y1 y2).trans ?_
  unfold rows
  refine row_congr (fun p e => ?_) (fun p e => ?_) (fun p => ?_) ?_ ?_
  all_goals first | (refine Fin.ext ?_; blk_simp [idx2 t]; done) | skip
  all_goals blk_point [iblk2, idx2 t]

theorem logits_final (hW : ∀ n p, (W (Proc.devRef .tc main_v21) : IVec S32x1x8192 32) (ix3 n 0 p) = (W (Proc.devRef .tc main_v20) : IVec S32x8192x1 32) (ix3 n p 0)) :
    (dat2 W c).arrAt 5 cfg2.N = logits (W (Proc.devRef .tc main_v17)) (W (Proc.devRef .tc main_v20)) := by
  refine (dat2 W c).arrAt_eq_of_covers 5 _ (by decide +kernel) fun t _ y => ?_
  blk_simp
  rw [after2_5]
  idx_vars y
  obtain rfl : y0 = 0 := Subsingleton.elim _ _
  obtain rfl : y2 = 0 := Subsingleton.elim _ _
  refine (out2_5_apply (iblk2 W c 0 t) (iblk2 W c 1 t) (iblk2 W c 2 t) (iblk2 W c 3 t) (pos_point W c hW t) y1).trans ?_
  unfold logits
  refine logit_congr (fun p e => ?_) (fun p => ?_) ?_
  all_goals first | (refine Fin.ext ?_; blk_simp [idx2 t]; done) | skip
  all_goals blk_point [iblk2, idx2 t]

end Cert.Attention

end
-- ==== Proof.Value.Combine.lean ====
/- What the last call leaves: the heads mixed over the hashes, times the output weights, plus the bias. -/
module

public import proofs.«01_k».proof.Proof.KernelIdeal.Region3
public import Idealize.ShloMosaic.Lib.Pipeline.ValueKit
public import Idealize.ShloMosaic.Lib.Pointwise

@[expose] public section

set_option maxRecDepth 16384

noncomputable section

namespace Cert.Combine

open Cert.KernelIdeal Cert.KernelIdeal.Gen Cert.KernelIdeal.Whole
open Idealize.ShloMosaic Idealize.ShloMosaic.TcCoe Idealize.SL.Sem
open Idealize.ShloMosaic.Pipeline (Dat)

variable (W : Valuation τ sig (Elt Ideal)) (c : Dev nD)

/-- The weight of each of four numbers: its exponential about their largest, over the sum of these. -/
def weight (l : Fin 4 → EReal) (r : Fin 4) : EReal :=
  Ideal.div (Ideal.exp (l r - Finset.fold max ⊥ l Finset.univ)) (∑ s : Fin 4, Ideal.exp (l s - Finset.fold max ⊥ l Finset.univ))

/-- One entry of the mixed heads: token `t`, head `h`, lane `d`. -/
def mixed {n : ℕ} (o : FVec Ideal ⟨3, ![n, 64, 64]⟩ .f32) (l : FVec Ideal ⟨3, ![n, 16, 4]⟩ .f32) (t : Fin n) (h : Fin 16) (d : Fin 64) : EReal :=
  ∑ r : Fin 4, o (ix3 t ⟨4 * h.val + r.val, by omega⟩ d) * weight (fun s => l (ix3 t h s)) r

/-- One entry of the result. -/
def entry {n : ℕ} (o : FVec Ideal ⟨3, ![n, 64, 64]⟩ .f32) (l : FVec Ideal ⟨3, ![n, 16, 4]⟩ .f32) (w : FVec Ideal S1024x1024 .f32) (b : FVec Ideal S1x1024 .f32)
    (t : Fin n) (e : Fin 1024) : EReal :=
  (∑ h : Fin 16, ∑ d : Fin 64, mixed o l t h d * w (ix2 ⟨64 * h.val + d.val, by omega⟩ e)) + b (ix2 0 e)

theorem negInf : (Ideal.ofBits .f32 4286578688#32 : EReal) = ⊥ := by
  simp [Ideal.ofBits, Ideal.ieee]

theorem expBlk_apply (l : FVec Ideal S128x16x4 .f32) (a : Fin 128) (h : Fin 16) (r : Fin 4) : expBlk l (ix3 a h r)
    = Ideal.exp (l (ix3 a h r) - Finset.fold max ⊥ (fun s => l (ix3 a h s)) Finset.univ) := by
  pointwise [expBlk]
  rw [negInf]

theorem mixBlk_apply (l : FVec Ideal S128x16x4 .f32) (a : Fin 128) (h : Fin 16) (r : Fin 4) : mixBlk l (ix3 a h r)
    = weight (fun s => l (ix3 a h s)) r := by
  pointwise [mixBlk]
  simp only [expBlk_apply]
  rfl

theorem headBlk_apply (o : FVec Ideal S128x64x64 .f32) (l : FVec Ideal S128x16x4 .f32) (a : Fin 128) (h : Fin 16) (d : Fin 64) :
    headBlk o l h (ix2 a d) = mixed o l a h d := by
  have e : ∀ r : Fin 4, termBlk o l h r (ix2 a d) = o (ix3 a ⟨4 * h.val + r.val, by omega⟩ d) * weight (fun s => l (ix3 a h s)) r := fun r => by
    rw [← mixBlk_apply]
    pointwise [termBlk]
  unfold mixed
  rw [Fin.sum_univ_four, ← e, ← e, ← e, ← e]
  pointwise [headBlk]

theorem projTo_apply (o : FVec Ideal S128x64x64 .f32) (l : FVec Ideal S128x16x4 .f32) (w : FVec Ideal S1024x1024 .f32) (a : Fin 128) (e : Fin 1024) :
    ∀ n : ℕ, projTo (F := Ideal) o l w n (ix2 a e) = ∑ k ∈ Finset.range n, ∑ d : Fin 64, mixed o l a (Fin.ofNat 16 k) d
      * w (ix2 ⟨64 * (Fin.ofNat 16 k).val + d.val, by have := (Fin.ofNat 16 k).isLt; omega⟩ e)
  | 0 => by
    rw [Finset.range_zero, Finset.sum_empty]
    pointwise [projTo]
  | n + 1 => by
    rw [Finset.sum_range_succ, ← projTo_apply o l w a e n]
    simp only [← headBlk_apply]
    pointwise [projTo]

theorem outBlk_apply (o : FVec Ideal S128x64x64 .f32) (l : FVec Ideal S128x16x4 .f32) (w : FVec Ideal S1024x1024 .f32) (b : FVec Ideal S1x1024 .f32)
    (a : Fin 128) (e : Fin 1024) : outBlk (F := Ideal) o l w b (ix2 a e) = entry o l w b a e := by
  have h := projTo_apply o l w a e 16
  rw [Finset.sum_range] at h
  have h' : projTo (F := Ideal) o l w 16 (ix2 a e) = ∑ h : Fin 16, ∑ d : Fin 64, mixed o l a h d * w (ix2 ⟨64 * h.val + d.val, by omega⟩ e) := by
    rw [h]
    refine Finset.sum_congr rfl fun k _ => ?_
    have ek : Fin.ofNat 16 k.val = k := Fin.ext (Nat.mod_eq_of_lt k.isLt)
    simp only [ek]
  unfold entry
  rw [← h']
  pointwise [outBlk]

theorem idx3 : ∀ t : Fin cfg3.N, win3_0.index t = ![t.val, 0, 0] ∧ win3_1.index t = ![t.val, 0, 0] ∧ win3_2.index t = ![0, 0]
    ∧ win3_3.index t = ![0, 0] ∧ win3_4.index t = ![t.val, 0] :=
  (by decide +kernel : ∀ t : Fin grid3.N, _)

/-- The result as an array. -/
def out (o : FVec Ideal S4096x64x64 .f32) (l : FVec Ideal S4096x16x4 .f32) (w : FVec Ideal S1024x1024 .f32) (b : FVec Ideal S1x1024 .f32)
    (i : S4096x1024.Idx) : EReal := entry o l w b (i 0) (i 1)

theorem entry_congr {n n' : ℕ} (o : FVec Ideal ⟨3, ![n, 64, 64]⟩ .f32) (l : FVec Ideal ⟨3, ![n, 16, 4]⟩ .f32)
    (o' : FVec Ideal ⟨3, ![n', 64, 64]⟩ .f32) (l' : FVec Ideal ⟨3, ![n', 16, 4]⟩ .f32) (w w' : FVec Ideal S1024x1024 .f32)
    (b b' : FVec Ideal S1x1024 .f32) (t : Fin n) (t' : Fin n') (e e' : Fin 1024)
    (ho : ∀ k d, o (ix3 t k d) = o' (ix3 t' k d)) (hl : ∀ h s, l (ix3 t h s) = l' (ix3 t' h s))
    (hw : ∀ k, w (ix2 k e) = w' (ix2 k e')) (hb : b (ix2 0 e) = b' (ix2 0 e')) : entry o l w b t e = entry o' l' w' b' t' e' := by
  unfold entry mixed
  simp only [ho, hl, hw, hb]

theorem out_point (t : Fin cfg3.N) (a : Fin 128) (e : Fin 1024) :
    outBlk (F := Ideal) (iblk3 W c 0 t) (iblk3 W c 1 t) (iblk3 W c 2 t) (iblk3 W c 3 t) (ix2 a e)
    = out (W (Proc.devRef .tc main_v37)) (W (Proc.devRef .tc main_v40)) (W (Proc.devRef .tc main_arg6)) (W (Proc.devRef .tc main_v41))
      (((cfg3.win 4).blk t).view.emb (ix2 a e)) := by
  refine (outBlk_apply (iblk3 W c 0 t) (iblk3 W c 1 t) (iblk3 W c 2 t) (iblk3 W c 3 t) a e).trans ?_
  unfold out
  refine entry_congr _ _ _ _ _ _ _ _ _ _ _ _ (fun k d => ?_) (fun h s => ?_) (fun k => ?_) ?_
  all_goals blk_point [iblk3, idx3 t]

theorem out_final : (dat3 W c).arrAt 4 cfg3.N = out (W (Proc.devRef .tc main_v37)) (W (Proc.devRef .tc main_v40)) (W (Proc.devRef .tc main_arg6)) (W (Proc.devRef .tc main_v41)) := by
  refine (dat3 W c).arrAt_eq_of_covers 4 _ (by decide +kernel) fun t _ y => ?_
  blk_simp
  rw [after3_4]
  unfold out3_4
  rw [View.canon_cons_unit_zero (by decide), View.ld_unit_zero (by decide), View.ld_unit_zero (by decide), View.ld_unit_zero (by decide)]
  idx_vars y
  exact out_point W c t y0 y1

end Cert.Combine

end
-- ==== Proof.Model.lean ====
/-
  What the layer computes, entry by entry, over the eight arrays it reads: the shared query and key rows, the values, the bucket of
  every token in every round, the tokens of each round in the order of their buckets, the attention over that order, and the four
  rounds mixed and projected.
-/
module

public import proofs.«01_k».proof.Proof.Order
public import proofs.«01_k».proof.Proof.Bucket
public import proofs.«01_k».proof.Proof.Layer

@[expose] public section

set_option maxRecDepth 16384

noncomputable section

namespace Cert.Model

open Idealize.ShloMosaic Cert.Order Cert.Bucket Cert.Layer

/-- The batch entry and the head of a sequence. -/
def bat (n : Fin 32) : Fin 2 := ⟨n.val / 16, by have := n.isLt; omega⟩
def hd (n : Fin 32) : Fin 16 := ⟨n.val % 16, Nat.mod_lt _ (by omega)⟩
/-- The sequence of a batch entry and a head. -/
def sq (b : Fin 2) (h : Fin 16) : Fin 32 := ⟨16 * b.val + h.val, by have := b.isLt; have := h.isLt; omega⟩
/-- A head's column of the 1024. -/
def col (h : Fin 16) (d : Fin 64) : Fin 1024 := ⟨64 * h.val + d.val, by have := h.isLt; have := d.isLt; omega⟩

/-- One projected entry of a sequence. -/
def proj (x : FVec Ideal ⟨3, ![2, 2048, 1024]⟩ .f32) (w : FVec Ideal ⟨2, ![1024, 1024]⟩ .f32) (n : Fin 32) (t : Fin 2048) (d : Fin 64) : EReal :=
  ∑ k : Fin 1024, x (ix3 (bat n) t k) * w (ix2 k (col (hd n) d))

/-- A token's bucket in a round: the first largest of its rotations and their negatives. -/
def bk (q : Fin 2048 → Fin 64 → EReal) (rot : FVec Ideal ⟨3, ![64, 4, 256]⟩ .f32) (r : Fin 4) (t : Fin 2048) : ℕ :=
  (bucketOf (both fun j : Fin 256 => ∑ d : Fin 64, q t d * rot (ix3 d r j))).val

theorem bk_lt (q : Fin 2048 → Fin 64 → EReal) (rot : FVec Ideal ⟨3, ![64, 4, 256]⟩ .f32) (r : Fin 4) (t : Fin 2048) : bk q rot r t < 512 :=
  Fin.isLt _

/-- The token at a place of the order, the rounds after one another. -/
def tok (β : Fin 4 → Fin 2048 → ℕ) (p : Fin 8192) : Fin 2048 := tokenAt (β (rnd p)) (plc p)
/-- The place of a token in a round. -/
def place (β : Fin 4 → Fin 2048 → ℕ) (r : Fin 4) (t : Fin 2048) : Fin 8192 := at_ r (rankPerm (β r) t)
/-- The token's number as the kernel compares it. -/
def pos (β : Fin 4 → Fin 2048 → ℕ) (p : Fin 8192) : BitVec 32 := BitVec.ofNat 32 (tok β p).val

/-- A round's share of a token. -/
def weight (l : Fin 4 → EReal) (r : Fin 4) : EReal :=
  Ideal.div (Ideal.exp (l r - Finset.fold max ⊥ l Finset.univ)) (∑ s : Fin 4, Ideal.exp (l s - Finset.fold max ⊥ l Finset.univ))

/-- One head's entry of a token, its rounds mixed. -/
def mixed (q v : Fin 2048 → Fin 64 → EReal) (β : Fin 4 → Fin 2048 → ℕ) (t : Fin 2048) (d : Fin 64) : EReal :=
  ∑ r : Fin 4, row (fun p e => q (tok β p) e) (fun p e => v (tok β p) e) (pos β) (place β r t) d
    * weight (fun s => logit (fun p e => q (tok β p) e) (pos β) (place β s t)) r

/-- The layer. -/
def result (x : FVec Ideal ⟨3, ![2, 2048, 1024]⟩ .f32) (wqk wv wout : FVec Ideal ⟨2, ![1024, 1024]⟩ .f32) (bias : FVec Ideal ⟨1, ![1024]⟩ .f32)
    (rot : FVec Ideal ⟨3, ![64, 4, 256]⟩ .f32) (b : Fin 2) (t : Fin 2048) (e : Fin 1024) : EReal :=
  (∑ h : Fin 16, ∑ d : Fin 64, mixed (proj x wqk (sq b h)) (proj x wv (sq b h)) (bk (proj x wqk (sq b h)) rot) t d * wout (ix2 (col h d) e)) + bias (ix1 e)

end Cert.Model

end
-- ==== Proof.Value.Host.lean ====
/- The kernel program read entry by entry, call after call: its result is the layer of `Model`. -/
module

public import proofs.«01_k».proof.Proof.KernelIdeal.Run
public import proofs.«01_k».proof.Proof.Take
public import proofs.«01_k».proof.Proof.Value.Stage1
public import proofs.«01_k».proof.Proof.Value.Rank
public import proofs.«01_k».proof.Proof.Value.Attention
public import proofs.«01_k».proof.Proof.Value.Combine
public import proofs.«01_k».proof.Proof.Model
public import Idealize.ShloMosaic.Lib.Pipeline.ValueKit
public import Idealize.ShloMosaic.Lib.Pointwise

@[expose] public section

set_option maxRecDepth 16384

noncomputable section

namespace Cert.Host

open Cert.KernelIdeal Cert.KernelIdeal.Gen Cert.KernelIdeal.Whole
open Idealize.ShloMosaic Idealize.ShloMosaic.TcCoe Idealize.SL.Sem
open Cert.Take Cert.Order

variable (m : (ℓ : Loc nD τ sig) → Buf (Elt Ideal) ℓ) (c : Dev nD)

theorem ix2_eq {a b : ℕ} {i i' : Fin a} {j j' : Fin b} (h : i = i') (h' : j = j') : ix2 i j = ix2 i' j' := by rw [h, h']
theorem ix3_eq {a b d : ℕ} {i i' : Fin a} {j j' : Fin b} {k k' : Fin d} (h : i = i') (h' : j = j') (h'' : k = k') :
    ix3 i j k = ix3 i' j' k' := by rw [h, h', h'']

/-! ## The arguments -/

abbrev argX : FVec Ideal S2x2048x1024 .f32 := m (c, Proc.devRef .tc main_arg0)
abbrev argQK : FVec Ideal S1024x1024 .f32 := m (c, Proc.devRef .tc main_arg4)
abbrev argV : FVec Ideal S1024x1024 .f32 := m (c, Proc.devRef .tc main_arg5)
abbrev argO : FVec Ideal S1024x1024 .f32 := m (c, Proc.devRef .tc main_arg6)
abbrev argB : FVec Ideal S1024 .f32 := m (c, Proc.devRef .tc main_arg7)
abbrev argR : FVec Ideal S64x4x256 .f32 := m (c, Proc.devRef .tc main_arg8)

/-- A sequence's queries, its values, and its tokens' buckets. -/
abbrev qk (n : Fin 32) : Fin 2048 → Fin 64 → EReal := Model.proj (argX m c) (argQK m c) n
abbrev val (n : Fin 32) : Fin 2048 → Fin 64 → EReal := Model.proj (argX m c) (argV m c) n
abbrev bks (n : Fin 32) : Fin 4 → Fin 2048 → ℕ := Model.bk (qk m c n) (argR m c)

/-- The row of a token among the 4096. -/
def line (b : Fin 2) (t : Fin 2048) : Fin 4096 := ⟨2048 * b.val + t.val, by have := b.isLt; have := t.isLt; omega⟩

/-! ## The projections and the buckets -/

theorem v0_apply (b : Fin 2) (t : Fin 2048) (k : Fin 1024) :
    (W1 (F := Ideal) m c (Proc.devRef .tc main_v0) : FVec Ideal S4096x1024 .f32) (ix2 (line b t) k) = argX m c (ix3 b t k) := by
  unfold W1 hostOps0
  after_results_simp
  try simp -implicitDefEqProofs only [StableHlo.TRef.toBuf, StableHlo.TRef.ofBuf, cast_cast, cast_eq]
  unfold line
  pointwise
  rfl

theorem v1_apply (d : Fin 64) (r : Fin 4) (j : Fin 256) :
    (W1 (F := Ideal) m c (Proc.devRef .tc main_v1) : FVec Ideal S64x1024 .f32) (ix2 d ⟨256 * r.val + j.val, by have := r.isLt; have := j.isLt; omega⟩)
      = argR m c (ix3 d r j) := by
  unfold W1 hostOps0
  after_results_simp
  try simp -implicitDefEqProofs only [StableHlo.TRef.toBuf, StableHlo.TRef.ofBuf, cast_cast, cast_eq]
  pointwise
  rfl

theorem arg4_1 : W1 (F := Ideal) m c (Proc.devRef .tc main_arg4) = argQK m c := W1_of m c main_arg4 (by decide)
theorem arg5_1 : W1 (F := Ideal) m c (Proc.devRef .tc main_arg5) = argV m c := W1_of m c main_arg5 (by decide)

theorem v2_0_eq : W2 (F := Ideal) m c (Proc.devRef .tc main_v2_0) = Stage1.prod (W1 (F := Ideal) m c (Proc.devRef .tc main_v0)) (argQK m c) := by
  rw [← arg4_1]; exact (W2_arr m c 4).trans (Stage1.qk_final (W1 m c) c)
theorem v2_1_eq : W2 (F := Ideal) m c (Proc.devRef .tc main_v2_1) = Stage1.prod (W1 (F := Ideal) m c (Proc.devRef .tc main_v0)) (argV m c) := by
  rw [← arg5_1]; exact (W2_arr m c 5).trans (Stage1.v_final (W1 m c) c)
theorem v2_2_eq : W2 (F := Ideal) m c (Proc.devRef .tc main_v2_2)
    = Stage1.bkt (W1 (F := Ideal) m c (Proc.devRef .tc main_v0)) (argQK m c) (W1 (F := Ideal) m c (Proc.devRef .tc main_v1)) := by
  rw [← arg4_1]; exact (W2_arr m c 6).trans (Stage1.bkt_final (W1 m c) c)

theorem prod_apply (w : FVec Ideal S1024x1024 .f32) (n : Fin 32) (t : Fin 2048) (d : Fin 64) :
    Stage1.prod (W1 (F := Ideal) m c (Proc.devRef .tc main_v0)) w (ix2 (line (Model.bat n) t) (Model.col (Model.hd n) d))
      = Model.proj (argX m c) w n t d := by
  unfold Model.proj
  exact Finset.sum_congr rfl fun k _ => congrArg (· * _) (v0_apply m c (Model.bat n) t k)

theorem v2_2_apply (n : Fin 32) (t : Fin 2048) (r : Fin 4) :
    (W2 (F := Ideal) m c (Proc.devRef .tc main_v2_2) : IVec S4096x16x4 32) (ix3 (line (Model.bat n) t) (Model.hd n) r)
      = BitVec.ofNat 32 (bks m c n r t) := by
  rw [v2_2_eq]
  unfold Stage1.bkt bks Model.bk
  refine congrArg (fun f : Fin 256 → EReal => BitVec.ofNat 32 (Bucket.bucketOf (Bucket.both f)).val) (funext fun j => Finset.sum_congr rfl fun d _ => ?_)
  exact congrArg₂ (· * ·) (prod_apply m c (argQK m c) n t d) (v1_apply m c d r j)

/-- A task of the ranking: its sequence and its round. -/
def task (n : Fin 32) (r : Fin 4) : Fin 128 := ⟨4 * n.val + r.val, by have := n.isLt; have := r.isLt; omega⟩
def tseq (k : Fin 128) : Fin 32 := ⟨k.val / 4, by have := k.isLt; omega⟩
def trnd (k : Fin 128) : Fin 4 := ⟨k.val % 4, Nat.mod_lt _ (by omega)⟩

theorem v5_apply (k : Fin 128) (t : Fin 2048) :
    (W3 (F := Ideal) m c (Proc.devRef .tc main_v5) : IVec S128x2048x1 32) (ix3 k t 0) = BitVec.ofNat 32 (bks m c (tseq k) (trnd k) t) := by
  rw [← v2_2_apply]
  unfold W3 hostOps1
  generalize W2 (F := Ideal) m c = W
  after_results_simp
  try simp -implicitDefEqProofs only [StableHlo.TRef.toBuf, StableHlo.TRef.ofBuf, cast_cast, cast_eq]
  pointwise
  refine congrArg (W (Proc.devRef .tc main_v2_2)) (ix3_eq (Fin.ext ?_) (Fin.ext rfl) (Fin.ext rfl))
  show k.val / 64 * 2048 + t.val = 2048 * (k.val / 4 / 16) + t.val; omega

theorem v6_eq : W4 (F := Ideal) m c (Proc.devRef .tc main_v6)
    = fun i : S128x2048x1.Idx => BitVec.ofNat 32 (rankOf (bks m c (tseq (i 0)) (trnd (i 0))) (i 1)) :=
  (W4_arr m c 1).trans (Rank.rank_final (W3 m c) c (fun k => bks m c (tseq k) (trnd k)) (v5_apply m c) fun k t => Model.bk_lt _ _ _ _)

theorem v7_apply (k : Fin 128) (t : Fin 2048) :
    (W5 (F := Ideal) m c (Proc.devRef .tc main_v7) : IVec S128x2048 32) (ix2 k t) = BitVec.ofNat 32 (rankOf (bks m c (tseq k) (trnd k)) t) := by
  have h := v6_eq m c
  unfold W5 hostOps2
  generalize W4 (F := Ideal) m c = W at h ⊢
  after_results_simp
  try simp -implicitDefEqProofs only [StableHlo.TRef.toBuf, StableHlo.TRef.ofBuf, cast_cast, cast_eq]
  pointwise
  exact congrFun h (ix3 k t 0)

theorem v8_apply (k : Fin 128) (p : Fin 2048) :
    (W6 (F := Ideal) m c (Proc.devRef .tc main_v8) : IVec S128x2048 32) (ix2 k p)
      = BitVec.ofNat 32 (tokenAt (bks m c (tseq k) (trnd k)) p).val := by
  have h := v7_apply m c k
  unfold W6 hostOps2_1
  generalize W5 (F := Ideal) m c = W at h ⊢
  after_results_simp
  try simp -implicitDefEqProofs only [StableHlo.TRef.toBuf, StableHlo.TRef.ofBuf, cast_cast, cast_eq]
  refine argsort_row _ k (fun t => rankOf (bks m c (tseq k) (trnd k)) t) (rankPerm (bks m c (tseq k) (trnd k))).symm _ (fun _ _ => rfl) h
    (fun t => (rankOf_lt _ t).trans (by decide)) (fun p q hpq => ?_) p
  show rankOf _ (tokenAt _ p) < rankOf _ (tokenAt _ q)
  rw [rankOf_tokenAt, rankOf_tokenAt]; exact hpq

/-! ## The order's rows -/

theorem v11_apply (n : Fin 32) (t : Fin 2048) (d : Fin 64) :
    (W7 (F := Ideal) m c (Proc.devRef .tc main_v11) : FVec Ideal S32x2048x64 .f32) (ix3 n t d) = qk m c n t d := by
  unfold qk
  rw [← prod_apply, ← v2_0_eq, ← W3_of m c main_v2_0 (by decide), ← W4_of m c main_v2_0 (by decide), ← W5_of m c main_v2_0 (by decide), ← W6_of m c main_v2_0 (by decide)]
  unfold W7 hostOps2_2
  generalize W6 (F := Ideal) m c = W
  after_results_simp
  try simp -implicitDefEqProofs only [StableHlo.TRef.toBuf, StableHlo.TRef.ofBuf, cast_cast, cast_eq]
  pointwise
  refine congrArg (W (Proc.devRef .tc main_v2_0)) (ix2_eq (Fin.ext ?_) (Fin.ext ?_))
  · show n.val / 16 * 2048 + t.val = 2048 * (n.val / 16) + t.val; omega
  · show n.val % 16 * 64 + d.val = 64 * (n.val % 16) + d.val; omega

theorem v14_apply (n : Fin 32) (t : Fin 2048) (d : Fin 64) :
    (W7 (F := Ideal) m c (Proc.devRef .tc main_v14) : FVec Ideal S32x2048x64 .f32) (ix3 n t d) = val m c n t d := by
  unfold val
  rw [← prod_apply, ← v2_1_eq, ← W3_of m c main_v2_1 (by decide), ← W4_of m c main_v2_1 (by decide), ← W5_of m c main_v2_1 (by decide), ← W6_of m c main_v2_1 (by decide)]
  unfold W7 hostOps2_2
  generalize W6 (F := Ideal) m c = W
  after_results_simp
  try simp -implicitDefEqProofs only [StableHlo.TRef.toBuf, StableHlo.TRef.ofBuf, cast_cast, cast_eq]
  pointwise
  refine congrArg (W (Proc.devRef .tc main_v2_1)) (ix2_eq (Fin.ext ?_) (Fin.ext ?_))
  · show n.val / 16 * 2048 + t.val = 2048 * (n.val / 16) + t.val; omega
  · show n.val % 16 * 64 + d.val = 64 * (n.val % 16) + d.val; omega

theorem v15_apply (n : Fin 32) (p : Fin 8192) :
    (W7 (F := Ideal) m c (Proc.devRef .tc main_v15) : IVec S32x8192 32) (ix2 n p) = BitVec.ofNat 32 (Model.tok (bks m c n) p).val := by
  have h := v8_apply m c (task n (rnd p)) (plc p)
  have h1 : tseq (task n (rnd p)) = n := Fin.ext (by show (4 * n.val + (rnd p).val) / 4 = n.val; have := (rnd p).isLt; omega)
  have h2 : trnd (task n (rnd p)) = rnd p := Fin.ext (by show (4 * n.val + (rnd p).val) % 4 = (rnd p).val; have := (rnd p).isLt; omega)
  rw [h1, h2] at h
  unfold Model.tok
  rw [← h]
  unfold W7 hostOps2_2
  generalize W6 (F := Ideal) m c = W
  after_results_simp
  try simp -implicitDefEqProofs only [StableHlo.TRef.toBuf, StableHlo.TRef.ofBuf, cast_cast, cast_eq]
  pointwise
  refine congrArg (W (Proc.devRef .tc main_v8)) (ix2_eq (Fin.ext ?_) (Fin.ext rfl))
  show n.val * 4 + p.val / 2048 = 4 * n.val + p.val / 2048; omega

theorem v16_apply (n : Fin 32) (p : Fin 8192) :
    (W7 (F := Ideal) m c (Proc.devRef .tc main_v16) : IVec S32x8192x1 32) (ix3 n p 0) = BitVec.ofNat 32 (Model.tok (bks m c n) p).val := by
  rw [← v15_apply]
  unfold W7 hostOps2_2
  generalize W6 (F := Ideal) m c = W
  after_results_simp
  try simp -implicitDefEqProofs only [StableHlo.TRef.toBuf, StableHlo.TRef.ofBuf, cast_cast, cast_eq]
  pointwise

theorem v17_apply (i : Fin 32) (j : Fin 8192) (e : Fin 64) (v : Fin 2048)
    (hv : (W7 (F := Ideal) m c (Proc.devRef .tc main_v16) : IVec S32x8192x1 32) (ix3 i j 0) = BitVec.ofNat 32 v.val) :
    (W8 (F := Ideal) m c (Proc.devRef .tc main_v17) : FVec Ideal S32x8192x64 .f32) (ix3 i j e)
      = (W7 (F := Ideal) m c (Proc.devRef .tc main_v11) : FVec Ideal S32x2048x64 .f32) (ix3 i v e) := by
  unfold W8 hostOps2_3
  generalize W7 (F := Ideal) m c = W at hv ⊢
  after_results_simp
  try simp -implicitDefEqProofs only [StableHlo.TRef.toBuf, StableHlo.TRef.ofBuf, cast_cast, cast_eq]
  pointwise
  refine take_point (gather3_apply (by decide) _ _ _ i j e v ?_) ?_
  · pointwise
    rw [hv]; exact wrap_small v.isLt (by decide)
  · beta_reduce
    rw [hv, wrap_small v.isLt (by decide)]; exact inRange_small (N := 2047) v.isLt (by decide)

theorem v18_apply (n : Fin 32) (p : Fin 8192) :
    (W9 (F := Ideal) m c (Proc.devRef .tc main_v18) : IVec S32x8192x1 32) (ix3 n p 0) = BitVec.ofNat 32 (Model.tok (bks m c n) p).val := by
  rw [← v15_apply, ← W8_of m c main_v15 (by decide)]
  unfold W9 hostOps2_4
  generalize W8 (F := Ideal) m c = W
  after_results_simp
  try simp -implicitDefEqProofs only [StableHlo.TRef.toBuf, StableHlo.TRef.ofBuf, cast_cast, cast_eq]
  pointwise

theorem v19_apply (i : Fin 32) (j : Fin 8192) (e : Fin 64) (v : Fin 2048)
    (hv : (W9 (F := Ideal) m c (Proc.devRef .tc main_v18) : IVec S32x8192x1 32) (ix3 i j 0) = BitVec.ofNat 32 v.val) :
    (W10 (F := Ideal) m c (Proc.devRef .tc main_v19) : FVec Ideal S32x8192x64 .f32) (ix3 i j e)
      = (W9 (F := Ideal) m c (Proc.devRef .tc main_v14) : FVec Ideal S32x2048x64 .f32) (ix3 i v e) := by
  unfold W10 hostOps2_5
  generalize W9 (F := Ideal) m c = W at hv ⊢
  after_results_simp
  try simp -implicitDefEqProofs only [StableHlo.TRef.toBuf, StableHlo.TRef.ofBuf, cast_cast, cast_eq]
  pointwise
  refine take_point (gather3_apply (by decide) _ _ _ i j e v ?_) ?_
  · pointwise
    rw [hv]; exact wrap_small v.isLt (by decide)
  · beta_reduce
    rw [hv, wrap_small v.isLt (by decide)]; exact inRange_small (N := 2047) v.isLt (by decide)

theorem v20_apply (n : Fin 32) (p : Fin 8192) :
    (W11 (F := Ideal) m c (Proc.devRef .tc main_v20) : IVec S32x8192x1 32) (ix3 n p 0) = BitVec.ofNat 32 (Model.tok (bks m c n) p).val := by
  rw [← v15_apply, ← W8_of m c main_v15 (by decide), ← W9_of m c main_v15 (by decide), ← W10_of m c main_v15 (by decide)]
  unfold W11 hostOps2_6
  generalize W10 (F := Ideal) m c = W
  after_results_simp
  try simp -implicitDefEqProofs only [StableHlo.TRef.toBuf, StableHlo.TRef.ofBuf, cast_cast, cast_eq]
  pointwise
theorem v21_apply (n : Fin 32) (p : Fin 8192) :
    (W11 (F := Ideal) m c (Proc.devRef .tc main_v21) : IVec S32x1x8192 32) (ix3 n 0 p) = BitVec.ofNat 32 (Model.tok (bks m c n) p).val := by
  rw [← v15_apply, ← W8_of m c main_v15 (by decide), ← W9_of m c main_v15 (by decide), ← W10_of m c main_v15 (by decide)]
  unfold W11 hostOps2_6
  generalize W10 (F := Ideal) m c = W
  after_results_simp
  try simp -implicitDefEqProofs only [StableHlo.TRef.toBuf, StableHlo.TRef.ofBuf, cast_cast, cast_eq]
  pointwise

theorem sorted_q (n : Fin 32) (p : Fin 8192) (d : Fin 64) :
    (W11 (F := Ideal) m c (Proc.devRef .tc main_v17) : FVec Ideal S32x8192x64 .f32) (ix3 n p d) = qk m c n (Model.tok (bks m c n) p) d := by
  rw [W11_of m c main_v17 (by decide), W10_of m c main_v17 (by decide), W9_of m c main_v17 (by decide)]
  exact (v17_apply m c n p d _ (v16_apply m c n p)).trans (v11_apply m c n _ d)
theorem sorted_v (n : Fin 32) (p : Fin 8192) (d : Fin 64) :
    (W11 (F := Ideal) m c (Proc.devRef .tc main_v19) : FVec Ideal S32x8192x64 .f32) (ix3 n p d) = val m c n (Model.tok (bks m c n) p) d := by
  rw [W11_of m c main_v19 (by decide)]
  refine (v19_apply m c n p d _ (v18_apply m c n p)).trans ?_
  rw [W9_of m c main_v14 (by decide), W8_of m c main_v14 (by decide)]
  exact v14_apply m c n _ d

/-! ## The attention -/

/-- A sequence's rows and logits, place by place. -/
abbrev rowAt (n : Fin 32) (p : Fin 8192) (d : Fin 64) : EReal :=
  Layer.row (fun p e => qk m c n (Model.tok (bks m c n) p) e) (fun p e => val m c n (Model.tok (bks m c n) p) e) (Model.pos (bks m c n)) p d
abbrev logitAt (n : Fin 32) (p : Fin 8192) : EReal :=
  Layer.logit (fun p e => qk m c n (Model.tok (bks m c n) p) e) (Model.pos (bks m c n)) p

theorem places_eq (n : Fin 32) (p : Fin 8192) : (W11 (F := Ideal) m c (Proc.devRef .tc main_v21) : IVec S32x1x8192 32) (ix3 n 0 p)
    = (W11 (F := Ideal) m c (Proc.devRef .tc main_v20) : IVec S32x8192x1 32) (ix3 n p 0) := by rw [v21_apply, v20_apply]

theorem v22_0_apply (n : Fin 32) (p : Fin 8192) (d : Fin 64) :
    (W12 (F := Ideal) m c (Proc.devRef .tc main_v22_0) : FVec Ideal S32x8192x64 .f32) (ix3 n p d) = rowAt m c n p d := by
  have h : W12 (F := Ideal) m c (Proc.devRef .tc main_v22_0) = _ := (W12_arr m c 4).trans (Attention.rows_final (W11 m c) c (places_eq m c))
  rw [h]
  show Layer.row (fun p e => (W11 (F := Ideal) m c (Proc.devRef .tc main_v17) : FVec Ideal S32x8192x64 .f32) (ix3 n p e))
    (fun p e => (W11 (F := Ideal) m c (Proc.devRef .tc main_v19) : FVec Ideal S32x8192x64 .f32) (ix3 n p e))
    (fun p => (W11 (F := Ideal) m c (Proc.devRef .tc main_v20) : IVec S32x8192x1 32) (ix3 n p 0)) p d = _
  exact (congrArg₂ (fun q v => Layer.row q v _ p d) (funext fun p => funext fun e => sorted_q m c n p e) (funext fun p => funext fun e => sorted_v m c n p e)).trans
    (congrArg (fun s => Layer.row _ _ s p d) (funext fun p => v20_apply m c n p))

theorem v22_1_apply (n : Fin 32) (p : Fin 8192) :
    (W12 (F := Ideal) m c (Proc.devRef .tc main_v22_1) : FVec Ideal S32x8192x1 .f32) (ix3 n p 0) = logitAt m c n p := by
  have h : W12 (F := Ideal) m c (Proc.devRef .tc main_v22_1) = _ := (W12_arr m c 5).trans (Attention.logits_final (W11 m c) c (places_eq m c))
  rw [h]
  show Layer.logit (fun p e => (W11 (F := Ideal) m c (Proc.devRef .tc main_v17) : FVec Ideal S32x8192x64 .f32) (ix3 n p e))
    (fun p => (W11 (F := Ideal) m c (Proc.devRef .tc main_v20) : IVec S32x8192x1 32) (ix3 n p 0)) p = _
  exact congrArg₂ (fun q s => Layer.logit q s p) (funext fun p => funext fun e => sorted_q m c n p e) (funext fun p => v20_apply m c n p)

/-! ## Back to the order of the tokens -/

/-- The place of the token of a line, all rounds after one another. -/
abbrev back (n : Fin 32) (p : Fin 8192) : Fin 8192 := Model.place (bks m c n) (rnd p) (plc p)

theorem ofNat_add_mul (a r : ℕ) : IntOp.addi (BitVec.ofNat 32 a) (IntOp.muli (BitVec.ofNat 32 r) 2048#32) = BitVec.ofNat 32 (r * 2048 + a) := by
  show BitVec.ofNat 32 a + BitVec.ofNat 32 r * BitVec.ofNat 32 2048 = _
  rw [← BitVec.ofNat_mul, ← BitVec.ofNat_add, Nat.add_comm]

theorem v30_apply (n : Fin 32) (p : Fin 8192) :
    (W13 (F := Ideal) m c (Proc.devRef .tc main_v30) : IVec S32x8192 32) (ix2 n p) = BitVec.ofNat 32 (back m c n p).val := by
  have h := v7_apply m c (task n (rnd p)) (plc p)
  have h1 : tseq (task n (rnd p)) = n := Fin.ext (by show (4 * n.val + (rnd p).val) / 4 = n.val; have := (rnd p).isLt; omega)
  have h2 : trnd (task n (rnd p)) = rnd p := Fin.ext (by show (4 * n.val + (rnd p).val) % 4 = (rnd p).val; have := (rnd p).isLt; omega)
  rw [h1, h2, ← W6_of m c main_v7 (by decide), ← W7_of m c main_v7 (by decide), ← W8_of m c main_v7 (by decide), ← W9_of m c main_v7 (by decide),
    ← W10_of m c main_v7 (by decide), ← W11_of m c main_v7 (by decide), ← W12_of m c main_v7 (by decide)] at h
  have e : (back m c n p).val = (rnd p).val * 2048 + rankOf (bks m c n (rnd p)) (plc p) := rfl
  rw [e, ← ofNat_add_mul, ← h]
  unfold W13 hostOps3
  generalize W12 (F := Ideal) m c = W
  after_results_simp
  try simp -implicitDefEqProofs only [StableHlo.TRef.toBuf, StableHlo.TRef.ofBuf, cast_cast, cast_eq]
  pointwise
  exact congrArg₂ IntOp.addi (congrArg (W (Proc.devRef .tc main_v7)) (ix2_eq (Fin.ext (by show n.val * 4 + p.val / 2048 = 4 * n.val + p.val / 2048; omega)) (Fin.ext rfl))) rfl

theorem v31_apply (n : Fin 32) (p : Fin 8192) :
    (W13 (F := Ideal) m c (Proc.devRef .tc main_v31) : IVec S32x8192x1 32) (ix3 n p 0) = BitVec.ofNat 32 (back m c n p).val := by
  rw [← v30_apply]
  unfold W13 hostOps3
  generalize W12 (F := Ideal) m c = W
  after_results_simp
  try simp -implicitDefEqProofs only [StableHlo.TRef.toBuf, StableHlo.TRef.ofBuf, cast_cast, cast_eq]
  pointwise

theorem v32_apply (i : Fin 32) (j : Fin 8192) (e : Fin 64) (v : Fin 8192)
    (hv : (W13 (F := Ideal) m c (Proc.devRef .tc main_v31) : IVec S32x8192x1 32) (ix3 i j 0) = BitVec.ofNat 32 v.val) :
    (W14 (F := Ideal) m c (Proc.devRef .tc main_v32) : FVec Ideal S32x8192x64 .f32) (ix3 i j e)
      = (W13 (F := Ideal) m c (Proc.devRef .tc main_v22_0) : FVec Ideal S32x8192x64 .f32) (ix3 i v e) := by
  unfold W14 hostOps3_1
  generalize W13 (F := Ideal) m c = W at hv ⊢
  after_results_simp
  try simp -implicitDefEqProofs only [StableHlo.TRef.toBuf, StableHlo.TRef.ofBuf, cast_cast, cast_eq]
  pointwise
  refine take_point (gather3_apply (by decide) _ _ _ i j e v ?_) ?_
  · pointwise
    rw [hv]; exact wrap_small v.isLt (by decide)
  · beta_reduce
    rw [hv, wrap_small v.isLt (by decide)]; exact inRange_small (N := 8191) v.isLt (by decide)

theorem v33_apply (n : Fin 32) (p : Fin 8192) :
    (W15 (F := Ideal) m c (Proc.devRef .tc main_v33) : FVec Ideal S32x8192 .f32) (ix2 n p) = logitAt m c n p := by
  rw [← v22_1_apply, ← W13_of m c main_v22_1 (by decide), ← W14_of m c main_v22_1 (by decide)]
  unfold W15 hostOps3_2
  generalize W14 (F := Ideal) m c = W
  after_results_simp
  try simp -implicitDefEqProofs only [StableHlo.TRef.toBuf, StableHlo.TRef.ofBuf, cast_cast, cast_eq]
  pointwise

theorem v34_apply (i : Fin 32) (j : Fin 8192) (v : Fin 8192)
    (hv : (W15 (F := Ideal) m c (Proc.devRef .tc main_v30) : IVec S32x8192 32) (ix2 i j) = BitVec.ofNat 32 v.val) :
    (W16 (F := Ideal) m c (Proc.devRef .tc main_v34) : FVec Ideal S32x8192 .f32) (ix2 i j)
      = (W15 (F := Ideal) m c (Proc.devRef .tc main_v33) : FVec Ideal S32x8192 .f32) (ix2 i v) := by
  unfold W16 hostOps3_3
  generalize W15 (F := Ideal) m c = W at hv ⊢
  after_results_simp
  try simp -implicitDefEqProofs only [StableHlo.TRef.toBuf, StableHlo.TRef.ofBuf, cast_cast, cast_eq]
  pointwise
  refine take_point (gather2_apply (by decide) _ _ _ i j v ?_) ?_
  · pointwise
    rw [hv]; exact wrap_small v.isLt (by decide)
  · beta_reduce
    rw [hv, wrap_small v.isLt (by decide)]; exact inRange_small (N := 8191) v.isLt (by decide)

theorem rows_back (n : Fin 32) (p : Fin 8192) (d : Fin 64) :
    (W16 (F := Ideal) m c (Proc.devRef .tc main_v32) : FVec Ideal S32x8192x64 .f32) (ix3 n p d) = rowAt m c n (back m c n p) d := by
  rw [W16_of m c main_v32 (by decide), W15_of m c main_v32 (by decide)]
  refine (v32_apply m c n p d _ (v31_apply m c n p)).trans ?_
  rw [W13_of m c main_v22_0 (by decide)]
  exact v22_0_apply m c n _ d

theorem logits_back (n : Fin 32) (p : Fin 8192) :
    (W16 (F := Ideal) m c (Proc.devRef .tc main_v34) : FVec Ideal S32x8192 .f32) (ix2 n p) = logitAt m c n (back m c n p) := by
  refine (v34_apply m c n p _ ?_).trans (v33_apply m c n _)
  rw [W15_of m c main_v30 (by decide), W14_of m c main_v30 (by decide)]
  exact v30_apply m c n p

/-! ## The rounds mixed and projected -/

theorem v37_apply (b : Fin 2) (t : Fin 2048) (h : Fin 16) (r : Fin 4) (d : Fin 64) :
    (W17 (F := Ideal) m c (Proc.devRef .tc main_v37) : FVec Ideal S4096x64x64 .f32) (ix3 (line b t) ⟨4 * h.val + r.val, by have := h.isLt; have := r.isLt; omega⟩ d)
      = rowAt m c (Model.sq b h) (Model.place (bks m c (Model.sq b h)) r t) d := by
  have e := rows_back m c (Model.sq b h) (at_ r t) d
  unfold back at e
  rw [rnd_at, plc_at] at e
  rw [← e]
  unfold W17 hostOps3_4 line
  generalize W16 (F := Ideal) m c = W
  after_results_simp
  try simp -implicitDefEqProofs only [StableHlo.TRef.toBuf, StableHlo.TRef.ofBuf, cast_cast, cast_eq]
  pointwise
  exact congrArg (W (Proc.devRef .tc main_v32)) (ix3_eq (Fin.ext (by show b.val * 16 + h.val = 16 * b.val + h.val; omega)) (Fin.ext rfl) rfl)

theorem v40_apply (b : Fin 2) (t : Fin 2048) (h : Fin 16) (r : Fin 4) :
    (W17 (F := Ideal) m c (Proc.devRef .tc main_v40) : FVec Ideal S4096x16x4 .f32) (ix3 (line b t) h r)
      = logitAt m c (Model.sq b h) (Model.place (bks m c (Model.sq b h)) r t) := by
  have e := logits_back m c (Model.sq b h) (at_ r t)
  unfold back at e
  rw [rnd_at, plc_at] at e
  rw [← e]
  unfold W17 hostOps3_4 line
  generalize W16 (F := Ideal) m c = W
  after_results_simp
  try simp -implicitDefEqProofs only [StableHlo.TRef.toBuf, StableHlo.TRef.ofBuf, cast_cast, cast_eq]
  pointwise
  exact congrArg (W (Proc.devRef .tc main_v34)) (ix2_eq (Fin.ext (by show b.val * 16 + h.val = 16 * b.val + h.val; omega)) (Fin.ext rfl))

theorem v41_apply (e : Fin 1024) :
    (W17 (F := Ideal) m c (Proc.devRef .tc main_v41) : FVec Ideal S1x1024 .f32) (ix2 0 e) = argB m c (ix1 e) := by
  have h : W16 (F := Ideal) m c (Proc.devRef .tc main_arg7) = argB m c := by
    rw [W16_of m c main_arg7 (by decide), W15_of m c main_arg7 (by decide), W14_of m c main_arg7 (by decide), W13_of m c main_arg7 (by decide),
      W12_of m c main_arg7 (by decide), W11_of m c main_arg7 (by decide), W10_of m c main_arg7 (by decide), W9_of m c main_arg7 (by decide),
      W8_of m c main_arg7 (by decide), W7_of m c main_arg7 (by decide), W6_of m c main_arg7 (by decide), W5_of m c main_arg7 (by decide),
      W4_of m c main_arg7 (by decide), W3_of m c main_arg7 (by decide), W2_of m c main_arg7 (by decide), W1_of m c main_arg7 (by decide)]
    rfl
  rw [← h]
  unfold W17 hostOps3_4
  generalize W16 (F := Ideal) m c = W
  after_results_simp
  try simp -implicitDefEqProofs only [StableHlo.TRef.toBuf, StableHlo.TRef.ofBuf, cast_cast, cast_eq]
  pointwise

theorem arg6_17 : W17 (F := Ideal) m c (Proc.devRef .tc main_arg6) = argO m c := by
  rw [W17_of m c main_arg6 (by decide), W16_of m c main_arg6 (by decide), W15_of m c main_arg6 (by decide), W14_of m c main_arg6 (by decide), W13_of m c main_arg6 (by decide),
      W12_of m c main_arg6 (by decide), W11_of m c main_arg6 (by decide), W10_of m c main_arg6 (by decide), W9_of m c main_arg6 (by decide),
      W8_of m c main_arg6 (by decide), W7_of m c main_arg6 (by decide), W6_of m c main_arg6 (by decide), W5_of m c main_arg6 (by decide),
      W4_of m c main_arg6 (by decide), W3_of m c main_arg6 (by decide), W2_of m c main_arg6 (by decide), W1_of m c main_arg6 (by decide)]
  rfl

theorem entry_eq (o : FVec Ideal S4096x64x64 .f32) (l : FVec Ideal S4096x16x4 .f32) (w : FVec Ideal S1024x1024 .f32) (b : FVec Ideal S1x1024 .f32)
    (t : Fin 4096) (e : Fin 1024) (o' : Fin 16 → Fin 4 → Fin 64 → EReal) (l' : Fin 16 → Fin 4 → EReal) (b' : EReal)
    (ho : ∀ (h : Fin 16) (r : Fin 4) (d : Fin 64), o (ix3 t ⟨4 * h.val + r.val, by have := h.isLt; have := r.isLt; omega⟩ d) = o' h r d)
    (hl : ∀ h r, l (ix3 t h r) = l' h r) (hb : b (ix2 0 e) = b') :
    Combine.entry o l w b t e
      = (∑ h : Fin 16, ∑ d : Fin 64, (∑ r : Fin 4, o' h r d * Model.weight (l' h) r) * w (ix2 (Model.col h d) e)) + b' := by
  unfold Combine.entry Combine.mixed
  refine congrArg₂ (· + ·) (Finset.sum_congr rfl fun h _ => Finset.sum_congr rfl fun d _ => congrArg₂ (· * ·) (Finset.sum_congr rfl fun r _ => ?_) rfl) hb
  exact congrArg₂ (· * ·) (ho h r d) (congrArg (fun l => Model.weight l r) (funext fun s => hl h s))

theorem result_apply (b : Fin 2) (t : Fin 2048) (e : Fin 1024) :
    (W19 (F := Ideal) m c (Proc.devRef .tc main_v43) : FVec Ideal S2x2048x1024 .f32) (ix3 b t e)
      = Model.result (argX m c) (argQK m c) (argV m c) (argO m c) (argB m c) (argR m c) b t e := by
  have h : W18 (F := Ideal) m c (Proc.devRef .tc main_v42) = _ := (W18_arr m c 4).trans (Combine.out_final (W17 m c) c)
  have h' : (W19 (F := Ideal) m c (Proc.devRef .tc main_v43) : FVec Ideal S2x2048x1024 .f32) (ix3 b t e)
      = (W18 (F := Ideal) m c (Proc.devRef .tc main_v42) : FVec Ideal S4096x1024 .f32) (ix2 (line b t) e) := by
    unfold W19 hostOps4 line
    generalize W18 (F := Ideal) m c = W
    after_results_simp
    pointwise
    exact congrArg (W (Proc.devRef .tc main_v42)) (ix2_eq (Fin.ext (by show b.val * 2048 + t.val = 2048 * b.val + t.val; omega)) rfl)
  rw [h', h, arg6_17]
  show Combine.entry _ _ _ _ (line b t) e = _
  rw [entry_eq _ _ _ _ (line b t) e _ _ _ (fun h r d => v37_apply m c b t h r d) (fun h r => v40_apply m c b t h r) (v41_apply m c e)]
  rfl

end Cert.Host

end
-- ==== Proof.Value.RefOrder.lean ====
/- The reference program read entry by entry: its buckets, its order of the tokens and the rows in that order. -/
module

public import proofs.«01_k».proof.Proof.Gen.ReferenceIdeal.Read
public import proofs.«01_k».proof.Proof.Take
public import proofs.«01_k».proof.Proof.Model
public import Idealize.ShloMosaic.Lib.Pipeline.ValueKit
public import Idealize.ShloMosaic.Lib.Pointwise

@[expose] public section

set_option maxRecDepth 16384

noncomputable section

namespace Cert.Ref

open Cert.ReferenceIdeal Cert.ReferenceIdeal.Gen Cert.ReferenceIdeal.Read
open Idealize.ShloMosaic Idealize.ShloMosaic.TcCoe Idealize.SL.Sem
open Cert.Take Cert.Order Cert.Bucket

variable (x0 : FVec Ideal S2x2048x1024 .f32) (x4 x5 x6 : FVec Ideal S1024x1024 .f32) (x7 : FVec Ideal S1024 .f32) (x8 : FVec Ideal S64x4x256 .f32)

theorem ix2_eq {a b : ℕ} {i i' : Fin a} {j j' : Fin b} (h : i = i') (h' : j = j') : ix2 i j = ix2 i' j' := by rw [h, h']

/-- The printed remainder by 2048 of a small number: its sign is never mended. -/
theorem mod_small {v : ℕ} (hv : v < 8192) (K : BitVec 32) (hK : K = BitVec.ofNat 32 2048) :
    Scalar.select (IntOp.andi (IntOp.cmpi .ne (IntOp.cmpi .slt (IntOp.remsi .host (BitVec.ofNat 32 v) K) 0#32) (IntOp.cmpi .slt K 0#32))
        (IntOp.cmpi .ne (IntOp.remsi .host (BitVec.ofNat 32 v) K) 0#32))
      (IntOp.addi (IntOp.remsi .host (BitVec.ofNat 32 v) K) K) (IntOp.remsi .host (BitVec.ofNat 32 v) K) = BitVec.ofNat 32 (v % 2048) := by
  subst hK
  have hr : IntOp.remsi .host (BitVec.ofNat 32 v) (BitVec.ofNat 32 2048) = BitVec.ofNat 32 (v % 2048) := by
    apply BitVec.eq_of_toNat_eq
    rw [IntOp.toNat_remsi _ (by rw [toNat_small (by omega)]; omega) 2048 (by omega) (by omega), toNat_small (by omega), toNat_small (by omega)]
  rw [hr]
  have h1 : IntOp.cmpi .slt (BitVec.ofNat 32 (v % 2048)) 0#32 = 0#1 := by
    show BitVec.ofBool ((BitVec.ofNat 32 (v % 2048)).slt 0#32) = 0#1
    have : (BitVec.ofNat 32 (v % 2048)).slt 0#32 = false := by
      unfold BitVec.slt; rw [toInt_small (n := v % 2048) (by omega)]; simp; omega
    rw [this]; rfl
  rw [h1, show IntOp.cmpi .ne 0#1 (IntOp.cmpi .slt (BitVec.ofNat 32 2048) 0#32) = 0#1 from rfl]
  generalize IntOp.cmpi .ne (BitVec.ofNat 32 (v % 2048)) 0#32 = z
  rw [show IntOp.andi 0#1 z = 0#1 from by revert z; decide]
  rfl

/-! ## The projections and the buckets -/

theorem v4_apply (n : Fin 32) (t : Fin 2048) (d : Fin 64) : val_main_v4 (F := Ideal) x0 x4 (ix3 n t d) = Model.proj x0 x4 n t d := by
  unfold val_main_v4 val_main_v3 val_main_v2 val_main_v0
  pointwise
  unfold Model.proj
  refine Finset.sum_congr rfl fun k _ => ?_
  exact congrArg (x0 (ix3 (Model.bat n) t k) * ·) (congrArg x4 (ix2_eq rfl (Fin.ext (by show n.val % 16 * 64 + d.val = 64 * (n.val % 16) + d.val; omega))))

theorem v7_apply (n : Fin 32) (t : Fin 2048) (d : Fin 64) : val_main_v7 (F := Ideal) x0 x5 (ix3 n t d) = Model.proj x0 x5 n t d := by
  unfold val_main_v7 val_main_v6 val_main_v5 val_main_v1
  pointwise
  unfold Model.proj
  refine Finset.sum_congr rfl fun k _ => ?_
  exact congrArg (x0 (ix3 (Model.bat n) t k) * ·) (congrArg x5 (ix2_eq rfl (Fin.ext (by show n.val % 16 * 64 + d.val = 64 * (n.val % 16) + d.val; omega))))

/-- A sequence's buckets. -/
abbrev bks (n : Fin 32) : Fin 4 → Fin 2048 → ℕ := Model.bk (Model.proj x0 x4 n) x8

theorem v9_apply (n : Fin 32) (r : Fin 4) (t : Fin 2048) (j : Fin 256) :
    val_main_v9 (F := Ideal) x0 x4 x8 (ix4 n r t j) = ∑ d : Fin 64, Model.proj x0 x4 n t d * x8 (ix3 d r j) := by
  have h := v4_apply x0 x4 n t
  unfold val_main_v9 val_main_v8
  generalize val_main_v4 (F := Ideal) x0 x4 = q at h ⊢
  pointwise
  exact Finset.sum_congr rfl fun d _ => by rw [mul_comm, h]

theorem v11_apply (n : Fin 32) (r : Fin 4) (t : Fin 2048) (k : Fin 512) :
    val_main_v11 (F := Ideal) x0 x4 x8 (ix4 n r t k) = both (fun j : Fin 256 => ∑ d : Fin 64, Model.proj x0 x4 n t d * x8 (ix3 d r j)) k := by
  have h := v9_apply x0 x4 x8 n r t
  unfold val_main_v11 val_main_v10
  generalize val_main_v9 (F := Ideal) x0 x4 x8 = y at h ⊢
  pointwise
  simp only [h]
  rfl

theorem v18_apply (n : Fin 32) (r : Fin 4) (t : Fin 2048) :
    val_main_v18 (F := Ideal) x0 x4 x8 (ix3 n r t) = BitVec.ofNat 32 (bks x0 x4 x8 n r t) := by
  have h := v11_apply x0 x4 x8 n r t
  unfold bks Model.bk
  generalize (both fun j : Fin 256 => ∑ d : Fin 64, Model.proj x0 x4 n t d * x8 (ix3 d r j)) = f at h ⊢
  unfold val_main_v18 val_main_c_0 val_main_v17 val_main_call0_v2 val_main_call0_v1 val_main_call0_v0 val_main_c val_main_v16 val_main_v15 val_main_v14
     val_main_v13 val_main_v12 val_main_cst
  generalize val_main_v11 (F := Ideal) x0 x4 x8 = y at h ⊢
  pointwise
  simp only [h]
  have hM : Finset.fold max (Ideal.ofBits FTy.f32 4286578688#32 : EReal) (fun x : Fin 512 => f x) Finset.univ = f (bucketOf f) := by
    rw [show (Ideal.ofBits .f32 4286578688#32 : EReal) = ⊥ by simp [Ideal.ofBits, Ideal.ieee]]
    exact fold_max_eq (bucketOf_first f)
  rw [hM]
  exact fold_min_eq (le_refl 512) (bucketOf_first f) 512 (le_refl _) (by decide) _ rfl (fun x => f x = f (bucketOf f)) fun x => Iff.rfl

/-! ## The order -/

theorem v32_apply (n : Fin 32) (p : Fin 8192) :
    val_main_v32 (F := Ideal) x0 x4 x8 (ix2 n p) = BitVec.ofNat 32 (lineKey (bks x0 x4 x8 n) p) := by
  have h := v18_apply x0 x4 x8 n (rnd p) (plc p)
  unfold val_main_v32 val_main_v31 val_main_v30 val_main_call1_v14 val_main_call1_v13 val_main_call1_v12 val_main_call1_v11 val_main_call1_v10
     val_main_call1_v9 val_main_call1_c_3 val_main_call1_v8 val_main_call1_v7 val_main_call1_c_2 val_main_call1_v6 val_main_call1_v5 val_main_call1_c_1
     val_main_call1_v4 val_main_call1_v3 val_main_call1_v2 val_main_call1_c_0 val_main_call1_v1 val_main_call1_c val_main_call1_v0 val_main_c_3
     val_main_v29 val_main_v28 val_main_c_2 val_main_v27 val_main_v26 val_main_v25 val_main_v24 val_main_v23 val_main_v22 val_main_v21 val_main_v20
     val_main_c_1 val_main_v19
  generalize val_main_v18 (F := Ideal) x0 x4 x8 = y at h ⊢
  pointwise
  refine (congrArg (IntOp.addi _) (mod_small p.isLt _ rfl)).trans ?_
  have e : lineKey (bks x0 x4 x8 n) p = 2048 * (bks x0 x4 x8 n (rnd p) (plc p) + p.val / 2048 * 512) + p.val % 2048 := by
    unfold lineKey; rw [rnd_val, plc_val, Nat.mul_comm 512]
  rw [e, show y (ix3 n ⟨p.val / 2048, _⟩ ⟨p.val % 2048, _⟩) = _ from h]
  show BitVec.ofNat 32 2048 * (BitVec.ofNat 32 _ + BitVec.ofNat 32 _ * BitVec.ofNat 32 512) + BitVec.ofNat 32 _ = _
  rw [← BitVec.ofNat_mul, ← BitVec.ofNat_add, ← BitVec.ofNat_mul, ← BitVec.ofNat_add]

/-- The line at each place of the order. -/
abbrev line (n : Fin 32) : Equiv.Perm (Fin 8192) := rounds fun r => (rankPerm (bks x0 x4 x8 n r)).symm

theorem v33_apply (n : Fin 32) (p : Fin 8192) :
    val_main_v33 (F := Ideal) x0 x4 x8 (ix2 n p) = BitVec.ofNat 32 (line x0 x4 x8 n p).val := by
  have h := v32_apply x0 x4 x8 n
  unfold val_main_v33 val_main_call2_v0
  generalize val_main_v32 (F := Ideal) x0 x4 x8 = y at h ⊢
  exact argsort_row _ n (lineKey (bks x0 x4 x8 n)) (line x0 x4 x8 n) _ (fun _ _ => rfl) h
    (fun k => (lineKey_lt _ (fun r t => Model.bk_lt _ _ _ _) k).trans (by decide)) (lineKey_rounds _ fun r t => Model.bk_lt _ _ _ _) p

theorem v34_apply (n : Fin 32) (p : Fin 8192) :
    val_main_v34 (F := Ideal) x0 x4 x8 (ix2 n p) = BitVec.ofNat 32 (Model.place (bks x0 x4 x8 n) (rnd p) (plc p)).val := by
  have h := v33_apply x0 x4 x8 n
  have e : Model.place (bks x0 x4 x8 n) (rnd p) (plc p) = (line x0 x4 x8 n).symm p := by
    unfold line; rw [rounds_symm_apply]; rfl
  rw [e]
  unfold val_main_v34 val_main_call3_v0
  generalize val_main_v33 (F := Ideal) x0 x4 x8 = y at h ⊢
  exact argsort_row _ n (fun k => (line x0 x4 x8 n k).val) (line x0 x4 x8 n).symm _ (fun _ _ => rfl) h
    (fun k => (Fin.isLt _).trans (by decide)) (fun a b hab => by simpa using hab) p

theorem v35_apply (n : Fin 32) (p : Fin 8192) :
    val_main_v35 (F := Ideal) x0 x4 x8 (ix2 n p) = BitVec.ofNat 32 (Model.tok (bks x0 x4 x8 n) p).val := by
  have h := v33_apply x0 x4 x8 n p
  have e : Model.tok (bks x0 x4 x8 n) p = plc (line x0 x4 x8 n p) := by
    unfold line; rw [rounds_apply, plc_at]; rfl
  rw [e]
  unfold val_main_v35 val_main_call4_v14 val_main_call4_v13 val_main_call4_v12 val_main_call4_v11 val_main_call4_v10 val_main_call4_v9
     val_main_call4_c_3 val_main_call4_v8 val_main_call4_v7 val_main_call4_c_2 val_main_call4_v6 val_main_call4_v5 val_main_call4_c_1 val_main_call4_v4
     val_main_call4_v3 val_main_call4_v2 val_main_call4_c_0 val_main_call4_v1 val_main_call4_c val_main_call4_v0 val_main_c_4
  generalize val_main_v33 (F := Ideal) x0 x4 x8 = y at h ⊢
  pointwise
  rw [h]
  exact mod_small (Fin.isLt _) _ rfl

/-! ## The rows in the order -/

theorem v37_apply (n : Fin 32) (p : Fin 8192) (d : Fin 64) :
    val_main_v37 (F := Ideal) x0 x4 x8 (ix3 n p d) = Model.proj x0 x4 n (Model.tok (bks x0 x4 x8 n) p) d := by
  have hq := v4_apply x0 x4 n
  have hv := v35_apply x0 x4 x8 n p
  unfold val_main_v37 val_main_call5_v14 val_main_call5_cst val_main_call5_v13 val_main_call5_v12 val_main_call5_v11 val_main_call5_c_3
     val_main_call5_v10 val_main_call5_v9 val_main_call5_v8 val_main_call5_v7 val_main_call5_v6 val_main_call5_v5 val_main_call5_c_2 val_main_call5_c_1
     val_main_call5_v4 val_main_call5_v3 val_main_call5_v2 val_main_call5_c_0 val_main_call5_v1 val_main_call5_v0 val_main_call5_c val_main_v36
  generalize val_main_v35 (F := Ideal) x0 x4 x8 = i at hv ⊢
  generalize val_main_v4 (F := Ideal) x0 x4 = q at hq ⊢
  generalize Model.tok (bks x0 x4 x8 n) p = v at hv ⊢
  rw [← hq]
  pointwise
  refine take_point (gather3_apply (by decide) _ _ _ n p d v ?_) ?_
  · pointwise
    rw [hv]; exact wrap_small v.isLt (by decide)
  · beta_reduce
    rw [hv, wrap_small v.isLt (by decide)]; exact inRange_small (N := 2047) v.isLt (by decide)

theorem v39_apply (n : Fin 32) (p : Fin 8192) (d : Fin 64) :
    val_main_v39 (F := Ideal) x0 x4 x5 x8 (ix3 n p d) = Model.proj x0 x5 n (Model.tok (bks x0 x4 x8 n) p) d := by
  have hq := v7_apply x0 x5 n
  have hv := v35_apply x0 x4 x8 n p
  unfold val_main_v39 val_main_call6_v14 val_main_call6_cst val_main_call6_v13 val_main_call6_v12 val_main_call6_v11 val_main_call6_c_3
     val_main_call6_v10 val_main_call6_v9 val_main_call6_v8 val_main_call6_v7 val_main_call6_v6 val_main_call6_v5 val_main_call6_c_2 val_main_call6_c_1
     val_main_call6_v4 val_main_call6_v3 val_main_call6_v2 val_main_call6_c_0 val_main_call6_v1 val_main_call6_v0 val_main_call6_c val_main_v38
  generalize val_main_v35 (F := Ideal) x0 x4 x8 = i at hv ⊢
  generalize val_main_v7 (F := Ideal) x0 x5 = q at hq ⊢
  generalize Model.tok (bks x0 x4 x8 n) p = v at hv ⊢
  rw [← hq]
  pointwise
  refine take_point (gather3_apply (by decide) _ _ _ n p d v ?_) ?_
  · pointwise
    rw [hv]; exact wrap_small v.isLt (by decide)
  · beta_reduce
    rw [hv, wrap_small v.isLt (by decide)]; exact inRange_small (N := 2047) v.isLt (by decide)

end Cert.Ref

end
-- ==== Proof.Soft.lean ====
/- The exponentials of a row of real scores about its largest, divided by their sum: two ways of writing it. -/
module

public import proofs.«01_k».proof.Proof.Bucket
public import proofs.«01_k».proof.Proof.Layer
public import proofs.«01_k».proof.Proof.Model

@[expose] public section

set_option maxRecDepth 16384

noncomputable section

namespace Cert.Soft

open Idealize.ShloMosaic Cert.Bucket

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A value that is a real number. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sum {n : ℕ} {f : Fin n → EReal} (h : ∀ i, Fin' (f i)) : Fin' (∑ i, f i) := by
  choose g hg using h
  exact ⟨∑ i, g i, by rw [coe_sum]; exact Finset.sum_congr rfl fun i _ => hg i⟩

/-- The largest of a row of reals is real, and so is the sum of the exponentials about it, which is positive. -/
theorem parts {n : ℕ} {s : Fin (n + 1) → EReal} (hs : ∀ i, Fin' (s i)) :
    ∃ (g : Fin (n + 1) → ℝ) (T M : ℝ), 0 < M ∧ (∀ i, s i = (g i : EReal)) ∧ Finset.fold max ⊥ s Finset.univ = (T : EReal)
      ∧ (∀ i, Ideal.exp (s i - Finset.fold max ⊥ s Finset.univ) = (Real.exp (g i - T) : EReal))
      ∧ ∑ i, Ideal.exp (s i - Finset.fold max ⊥ s Finset.univ) = (M : EReal) := by
  choose g hg using hs
  obtain ⟨k, hk⟩ := exists_first s
  have hT : Finset.fold max ⊥ s Finset.univ = (g k : EReal) := (fold_max_eq hk).trans (hg k)
  have he : ∀ i, Ideal.exp (s i - Finset.fold max ⊥ s Finset.univ) = (Real.exp (g i - g k) : EReal) := fun i => by
    rw [hT, hg i, ← EReal.coe_sub, Ideal.exp_coe]
  refine ⟨g, g k, ∑ i, Real.exp (g i - g k), Finset.sum_pos (fun i _ => Real.exp_pos _) Finset.univ_nonempty, hg, hT, he, ?_⟩
  rw [coe_sum]; exact Finset.sum_congr rfl fun i _ => he i

/-- The exponential about the logarithm of the sum is the exponential about the largest, divided by the sum. -/
theorem soft_eq {n : ℕ} {s : Fin (n + 1) → EReal} (hs : ∀ i, Fin' (s i)) (i : Fin (n + 1)) :
    Ideal.exp (s i - (Finset.fold max ⊥ s Finset.univ + Ideal.log (∑ j, Ideal.exp (s j - Finset.fold max ⊥ s Finset.univ))))
      = Ideal.div (Ideal.exp (s i - Finset.fold max ⊥ s Finset.univ)) (∑ j, Ideal.exp (s j - Finset.fold max ⊥ s Finset.univ)) := by
  obtain ⟨g, T, M, hM, hg, hT, he, hS⟩ := parts hs
  rw [hS, he i, hT, hg i, Ideal.log_coe, if_neg (by exact not_le.mpr hM), ← EReal.coe_add, ← EReal.coe_sub, Ideal.exp_coe, Ideal.div_coe hM.ne', ← EReal.coe_mul]
  congr 1
  rw [show g i - (T + Real.log M) = (g i - T) - Real.log M by ring, Real.exp_sub, Real.exp_log hM]
  ring

/-- A positive real divides a sum term by term. -/
theorem sum_div {n : ℕ} (f : Fin n → EReal) {M : ℝ} (hM : 0 < M) :
    Ideal.div (∑ i, f i) (M : EReal) = ∑ i, Ideal.div (f i) (M : EReal) := by
  simp only [Ideal.div_coe hM.ne']
  have h0 : (0 : EReal) ≤ ((1 / M : ℝ) : EReal) := by exact_mod_cast (by positivity : (0 : ℝ) ≤ 1 / M)
  have key : ∀ s : Finset (Fin n), (∑ i ∈ s, f i) * ((1 / M : ℝ) : EReal) = ∑ i ∈ s, f i * ((1 / M : ℝ) : EReal) := by
    intro s
    induction s using Finset.induction_on with
    | empty => simp
    | insert a s ha ih =>
      rw [Finset.sum_insert ha, Finset.sum_insert ha, EReal.right_distrib_of_nonneg_of_ne_top h0 (EReal.coe_ne_top _), ih]
  exact key _

/-- A mean with weights divided first, or at the end. -/
theorem mean_eq {n : ℕ} {s : Fin (n + 1) → EReal} (hs : ∀ i, Fin' (s i)) (v : Fin (n + 1) → EReal) :
    ∑ i, Ideal.exp (s i - (Finset.fold max ⊥ s Finset.univ + Ideal.log (∑ j, Ideal.exp (s j - Finset.fold max ⊥ s Finset.univ)))) * v i
      = Ideal.div (∑ i, Ideal.exp (s i - Finset.fold max ⊥ s Finset.univ) * v i) (∑ j, Ideal.exp (s j - Finset.fold max ⊥ s Finset.univ)) := by
  simp only [soft_eq hs]
  obtain ⟨g, T, M, hM, hg, hT, he, hS⟩ := parts hs
  rw [hS, sum_div _ hM]
  refine Finset.sum_congr rfl fun i _ => ?_
  rw [Ideal.div_coe hM.ne', Ideal.div_coe hM.ne', mul_right_comm]

/-- The logarithm of the sum, about the largest, is real. -/
theorem logit_real {n : ℕ} {s : Fin (n + 1) → EReal} (hs : ∀ i, Fin' (s i)) :
    Fin' (Finset.fold max ⊥ s Finset.univ + Ideal.log (∑ j, Ideal.exp (s j - Finset.fold max ⊥ s Finset.univ))) := by
  obtain ⟨g, T, M, hM, hg, hT, he, hS⟩ := parts hs
  exact ⟨T + Real.log M, by rw [hS, hT, Ideal.log_coe, if_neg (by exact not_le.mpr hM), EReal.coe_add]⟩

/-- A running maximum does not depend on the order. -/
theorem fold_max_perm {n : ℕ} (σ : Equiv.Perm (Fin n)) (f : Fin n → EReal) :
    Finset.fold max ⊥ (fun i => f (σ i)) Finset.univ = Finset.fold max ⊥ f Finset.univ := by
  refine le_antisymm ?_ ?_
  · rw [Finset.fold_max_le]; exact ⟨bot_le, fun i _ => by rw [Finset.le_fold_max]; exact Or.inr ⟨σ i, Finset.mem_univ _, le_refl _⟩⟩
  · rw [Finset.fold_max_le]
    exact ⟨bot_le, fun i _ => by rw [Finset.le_fold_max]; exact Or.inr ⟨σ.symm i, Finset.mem_univ _, by rw [Equiv.apply_symm_apply]⟩⟩

/-! ## The scores are real -/

theorem ieee_real (b : BitVec 32) (h : (b.extractLsb' 23 8).toNat ≠ 255) : Fin' (Ideal.ofBits .f32 b) := by
  show Fin' (Ideal.ieee 8 23 b)
  unfold Ideal.ieee
  simp only
  rw [if_neg (by exact h)]
  split
  · exact ⟨_, rfl⟩
  · exact ⟨_, rfl⟩

theorem small_pos : ∃ ε : ℝ, (Ideal.ofBits .f32 0x2B8CBCCC#32 : EReal) = (ε : EReal) ∧ 0 < ε := by
  refine ⟨9223372 * (2 : ℝ) ^ (-63 : ℤ), ?_, by positivity⟩
  simp [Ideal.ofBits, Ideal.ieee]

theorem keyNorm_real {q : Fin 8192 → Fin 64 → EReal} (hq : ∀ p e, Fin' (q p e)) (p : Fin 8192) (d : Fin 64) : Fin' (Layer.keyNorm q p d) := by
  unfold Layer.keyNorm
  have hss : Fin' (∑ e : Fin 64, q p e * q p e) := Fin'.sum fun e => (hq p e).mul (hq p e)
  have hnn : (0 : EReal) ≤ ∑ e : Fin 64, q p e * q p e := Finset.sum_nonneg fun e _ => by
    obtain ⟨a, ha⟩ := hq p e
    rw [ha, ← EReal.coe_mul]; exact_mod_cast mul_self_nonneg a
  obtain ⟨a, ha⟩ := hss
  obtain ⟨b, hb⟩ := hq p d
  obtain ⟨ε, hε, hε0⟩ := small_pos
  rw [ha] at hnn
  have ha0 : ¬ a < 0 := not_lt.mpr (by exact_mod_cast hnn)
  have hm : (max (Real.sqrt a) ε : ℝ) ≠ 0 := (lt_of_lt_of_le hε0 (le_max_right _ _)).ne'
  rw [ha, hb, hε, Ideal.sqrt_coe, if_neg ha0, ← EReal.coe_strictMono.monotone.map_max, Ideal.div_coe hm]
  exact ⟨b * (1 / max (Real.sqrt a) ε), (EReal.coe_mul _ _).symm⟩

theorem score_real {q : Fin 8192 → Fin 64 → EReal} (hq : ∀ p e, Fin' (q p e)) (pos : Fin 8192 → BitVec 32) (p j : Fin 8192) :
    Fin' (Layer.score q pos p j) := by
  unfold Layer.score
  split
  · exact ieee_real _ (by decide)
  · exact Fin'.mul (Fin'.sum fun e => (hq p e).mul (keyNorm_real hq j e)) (ieee_real _ (by decide))

end Cert.Soft

end
-- ==== Proof.Value.RefKeys.lean ====
/- The attention of the reference over the sorted rows, entry by entry: the keys of every chunk. -/
module

public import proofs.«01_k».proof.Proof.Value.RefOrder
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

/-- The sorted rows, the sorted values and the sorted token numbers of a sequence. -/
abbrev qs (n : Fin 32) (p : Fin 8192) (e : Fin 64) : EReal := Model.proj x0 x4 n (Model.tok (bks x0 x4 x8 n) p) e
abbrev vs (n : Fin 32) (p : Fin 8192) (e : Fin 64) : EReal := Model.proj x0 x5 n (Model.tok (bks x0 x4 x8 n) p) e
abbrev ps (n : Fin 32) : Fin 8192 → BitVec 32 := Model.pos (bks x0 x4 x8 n)

/-- Place `i` of chunk `c`. -/
def at4 (c : Fin 2048) (i : Fin 4) : Fin 8192 := ⟨4 * c.val + i.val, by have := c.isLt; have := i.isLt; omega⟩
/-- The chunk before, the last one before the first. -/
def prev (c : Fin 2048) : Fin 2048 := ⟨(c.val + 2047) % 2048, Nat.mod_lt _ (by decide)⟩
/-- Key number `x` of a chunk: its own four, then the four of the chunk before. -/
def refKey (c : Fin 2048) (x : Fin 8) : Fin 8192 :=
  if h : x.val < 4 then at4 c ⟨x.val, h⟩ else at4 (prev c) ⟨x.val - 4, by have := x.isLt; omega⟩

/-- The reference's keys are the chunk's eight, its own first. -/
def turn : Equiv.Perm (Fin 8) := Equiv.addRight 4

theorem turn_val (x : Fin 8) : (turn x).val = (x.val + 4) % 8 := rfl

theorem refKey_eq (c : Fin 2048) (i : Fin 4) (x : Fin 8) : refKey c x = Layer.keyAt (at4 c i) (turn x) := by
  have := c.isLt; have := i.isLt; have := x.isLt
  have e := turn_val x
  refine Fin.ext ?_
  unfold refKey Layer.keyAt
  generalize turn x = z at e ⊢
  split
  · show 4 * c.val + x.val = (4 * ((4 * c.val + i.val) / 4) + 8188 + z.val) % 8192
    omega
  · show 4 * ((c.val + 2047) % 2048) + (x.val - 4) = (4 * ((4 * c.val + i.val) / 4) + 8188 + z.val) % 8192
    omega

theorem ix4_eq {n₁ n₂ n₃ n₄ : ℕ} {a a' : Fin n₁} {b b' : Fin n₂} {c c' : Fin n₃} {d d' : Fin n₄} (ha : a = a') (hb : b = b') (hc : c = c') (hd : d = d') :
    ix4 a b c d = ix4 a' b' c' d' := by rw [ha, hb, hc, hd]
theorem ix3_eq {n₁ n₂ n₃ : ℕ} {a a' : Fin n₁} {b b' : Fin n₂} {c c' : Fin n₃} (ha : a = a') (hb : b = b') (hc : c = c') :
    ix3 a b c = ix3 a' b' c' := by rw [ha, hb, hc]

/-- A value read through the two halves of the keys is the value at the key. -/
theorem chunk_eq {α : Type} (f : Fin 8192 → α) (y : Fin 2048 → Fin 4 → α) (h : ∀ c i, y c i = f (at4 c i)) (c : Fin 2048) (x : Fin 8) :
    (if hx : x.val < 4 then y c ⟨x.val, hx⟩
      else if hc : c.val < 1 then y ⟨2047 + c.val, by omega⟩ ⟨x.val - 4, by have := x.isLt; omega⟩
      else y ⟨c.val - 1, by have := c.isLt; omega⟩ ⟨x.val - 4, by have := x.isLt; omega⟩) = f (refKey c x) := by
  have := c.isLt
  unfold refKey
  split
  · exact h _ _
  · split
    · refine (h _ _).trans (congrArg (fun k => f (at4 k _)) (Fin.ext ?_))
      show 2047 + c.val = (c.val + 2047) % 2048; omega
    · refine (h _ _).trans (congrArg (fun k => f (at4 k _)) (Fin.ext ?_))
      show c.val - 1 = (c.val + 2047) % 2048; omega

theorem at4_eq (c : Fin 2048) (i : Fin 4) (hlt : c.val * 4 + i.val < 8192) : (⟨c.val * 4 + i.val, hlt⟩ : Fin 8192) = at4 c i :=
  Fin.ext (by show c.val * 4 + i.val = 4 * c.val + i.val; omega)

/-! ## The chunks -/

theorem v41_apply (n : Fin 32) (c : Fin 2048) (i : Fin 4) (d : Fin 64) :
    val_main_v41 (F := Ideal) x0 x4 x8 (ix4 n c i d) = qs x0 x4 x8 n (at4 c i) d := by
  have h := v37_apply x0 x4 x8 n (at4 c i) d
  unfold val_main_v41
  generalize val_main_v37 (F := Ideal) x0 x4 x8 = y at h ⊢
  refine Eq.trans ?_ h
  pointwise
  exact congrArg (fun k => y (ix3 n k d)) (at4_eq c i _)

theorem v42_apply (n : Fin 32) (c : Fin 2048) (i : Fin 4) (d : Fin 64) :
    val_main_v42 (F := Ideal) x0 x4 x5 x8 (ix4 n c i d) = vs x0 x4 x5 x8 n (at4 c i) d := by
  have h := v39_apply x0 x4 x5 x8 n (at4 c i) d
  unfold val_main_v42
  generalize val_main_v39 (F := Ideal) x0 x4 x5 x8 = y at h ⊢
  refine Eq.trans ?_ h
  pointwise
  exact congrArg (fun k => y (ix3 n k d)) (at4_eq c i _)

theorem v40_apply (n : Fin 32) (c : Fin 2048) (i : Fin 4) :
    val_main_v40 (F := Ideal) x0 x4 x8 (ix3 n c i) = ps x0 x4 x8 n (at4 c i) := by
  have h := v35_apply x0 x4 x8 n (at4 c i)
  unfold val_main_v40
  generalize val_main_v35 (F := Ideal) x0 x4 x8 = y at h ⊢
  refine Eq.trans ?_ h
  pointwise
  exact congrArg (fun k => y (ix2 n k)) (at4_eq c i _)

theorem v47_apply (n : Fin 32) (c : Fin 2048) (i : Fin 4) (d : Fin 64) :
    val_main_v47 (F := Ideal) x0 x4 x8 (ix4 n c i d) = Layer.keyNorm (qs x0 x4 x8 n) (at4 c i) d := by
  have h := v41_apply x0 x4 x8 n c i
  unfold Layer.keyNorm
  unfold val_main_v47 val_main_v46 val_main_v45 val_main_v44 val_main_cst_5 val_main_v43 val_main_call7_v2 val_main_call7_v1 val_main_call7_cst
     val_main_call7_v0
  generalize val_main_v41 (F := Ideal) x0 x4 x8 = y at h ⊢
  pointwise
  simp only [h]

theorem v51_apply (n : Fin 32) (c : Fin 2048) (x : Fin 8) (d : Fin 64) :
    val_main_v51 (F := Ideal) x0 x4 x8 (ix4 n c x d) = Layer.keyNorm (qs x0 x4 x8 n) (refKey c x) d := by
  have h := v47_apply x0 x4 x8 n
  unfold val_main_v51 val_main_v50 val_main_v49 val_main_v48
  generalize val_main_v47 (F := Ideal) x0 x4 x8 = y at h ⊢
  pointwise
  exact chunk_eq (fun k => Layer.keyNorm (qs x0 x4 x8 n) k d) (fun c i => y (ix4 n c i d)) (fun c i => h c i d) c x

theorem v55_apply (n : Fin 32) (c : Fin 2048) (x : Fin 8) (d : Fin 64) :
    val_main_v55 (F := Ideal) x0 x4 x5 x8 (ix4 n c x d) = vs x0 x4 x5 x8 n (refKey c x) d := by
  have h := v42_apply x0 x4 x5 x8 n
  unfold val_main_v55 val_main_v54 val_main_v53 val_main_v52
  generalize val_main_v42 (F := Ideal) x0 x4 x5 x8 = y at h ⊢
  pointwise
  exact chunk_eq (fun k => vs x0 x4 x5 x8 n k d) (fun c i => y (ix4 n c i d)) (fun c i => h c i d) c x

theorem v61_apply (n : Fin 32) (c : Fin 2048) (x : Fin 8) :
    val_main_v61 (F := Ideal) x0 x4 x8 (ix3 n c x) = ps x0 x4 x8 n (refKey c x) := by
  have h := v40_apply x0 x4 x8 n
  unfold val_main_v61 val_main_v60 val_main_v59 val_main_v58 val_main_v57 val_main_v56
  generalize val_main_v40 (F := Ideal) x0 x4 x8 = y at h ⊢
  pointwise
  exact chunk_eq (ps x0 x4 x8 n) (fun c i => y (ix3 n c i)) h c x

end Cert.Ref

end
-- ==== Proof.Value.RefScore.lean ====
/- The attention of the reference over the sorted rows, entry by entry: scores and their logarithms. -/
module

public import proofs.«01_k».proof.Proof.Value.RefKeys
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

/-! ## The scores -/

theorem select_eq (a b : BitVec 32) (x y : EReal) : Scalar.select (IntOp.cmpi CmpIPredicate.eq a b) x y = if a = b then x else y := by
  unfold Scalar.select IntOp.cmpi
  by_cases h : a = b
  · subst h; simp
  · have hb : (a == b) = false := by simpa using h
    simp [h, hb]

theorem own_apply (j : S32x2048x4x8.Idx) : val_main_call8_v1 (F := Ideal) j = Ideal.ofBits .f32 0xC7435000#32 := rfl

theorem v70_apply (n : Fin 32) (c : Fin 2048) (i : Fin 4) (x : Fin 8) :
    val_main_v70 (F := Ideal) x0 x4 x8 (ix4 n c i x) = Layer.score (qs x0 x4 x8 n) (ps x0 x4 x8 n) (at4 c i) (refKey c x) := by
  have hq := v41_apply x0 x4 x8 n c i
  have hk := v51_apply x0 x4 x8 n c x
  have hp := v40_apply x0 x4 x8 n c i
  have hr := v61_apply x0 x4 x8 n c x
  unfold Layer.score
  have ho := own_apply (ix4 n c i x)
  unfold val_main_v70 val_main_v69 val_main_v68 val_main_v67 val_main_v66 val_main_v65 val_main_v64 val_main_v63 val_main_cst_6 val_main_v62
  generalize val_main_call8_v1 (F := Ideal) = o at ho ⊢
  generalize val_main_v41 (F := Ideal) x0 x4 x8 = q at hq ⊢
  generalize val_main_v51 (F := Ideal) x0 x4 x8 = k at hk ⊢
  generalize val_main_v40 (F := Ideal) x0 x4 x8 = p at hp ⊢
  generalize val_main_v61 (F := Ideal) x0 x4 x8 = r at hr ⊢
  pointwise
  simp only [hq, hk, hp, hr, ho]
  exact select_eq _ _ _ _

theorem v71_apply (n : Fin 32) (c : Fin 2048) (i : Fin 4) :
    val_main_v71 (F := Ideal) x0 x4 x8 (ix3 n c i) = Layer.top (qs x0 x4 x8 n) (ps x0 x4 x8 n) (at4 c i) := by
  have h := v70_apply x0 x4 x8 n c i
  unfold Layer.top
  unfold val_main_v71 val_main_cst_8
  generalize val_main_v70 (F := Ideal) x0 x4 x8 = y at h ⊢
  pointwise
  rw [show (Ideal.ofBits .f32 4286578688#32 : EReal) = ⊥ by simp [Ideal.ofBits, Ideal.ieee]]
  simp only [h, refKey_eq c i]
  exact Soft.fold_max_perm turn fun x => Layer.score (qs x0 x4 x8 n) (ps x0 x4 x8 n) (at4 c i) (Layer.keyAt (at4 c i) x)

/-! ## Their exponentials -/

theorem v72_apply (n : Fin 32) (c : Fin 2048) (i : Fin 4) (z : Fin 1) :
    val_main_v72 (F := Ideal) x0 x4 x8 (ix4 n c i z) = val_main_v71 (F := Ideal) x0 x4 x8 (ix3 n c i) := by
  rw [val_main_v72_apply]
  generalize val_main_v71 (F := Ideal) x0 x4 x8 = y
  exact congrArg y (funext fun a => match a with | ⟨0, _⟩ => rfl | ⟨1, _⟩ => rfl | ⟨2, _⟩ => rfl)

theorem v77_apply (n : Fin 32) (c : Fin 2048) (i : Fin 4) (z : Fin 1) :
    val_main_v77 (F := Ideal) x0 x4 x8 (ix4 n c i z) = val_main_v76 (F := Ideal) x0 x4 x8 (ix3 n c i) := by
  rw [val_main_v77_apply]
  generalize val_main_v76 (F := Ideal) x0 x4 x8 = y
  exact congrArg y (funext fun a => match a with | ⟨0, _⟩ => rfl | ⟨1, _⟩ => rfl | ⟨2, _⟩ => rfl)

theorem v73_apply (n : Fin 32) (c : Fin 2048) (i : Fin 4) (x : Fin 8) :
    val_main_v73 (F := Ideal) x0 x4 x8 (ix4 n c i x) = val_main_v71 (F := Ideal) x0 x4 x8 (ix3 n c i) := by
  have h := v72_apply x0 x4 x8 n c i 0
  refine Eq.trans ?_ h
  rw [val_main_v73_apply]
  generalize val_main_v72 (F := Ideal) x0 x4 x8 = y
  exact congrArg y (funext fun a => match a with | ⟨0, _⟩ => rfl | ⟨1, _⟩ => rfl | ⟨2, _⟩ => rfl | ⟨3, _⟩ => rfl)

theorem v75_apply (n : Fin 32) (c : Fin 2048) (i : Fin 4) (x : Fin 8) :
    val_main_v75 (F := Ideal) x0 x4 x8 (ix4 n c i x)
      = Ideal.exp (Layer.score (qs x0 x4 x8 n) (ps x0 x4 x8 n) (at4 c i) (Layer.keyAt (at4 c i) (turn x)) - Layer.top (qs x0 x4 x8 n) (ps x0 x4 x8 n) (at4 c i)) := by
  have h := v70_apply x0 x4 x8 n c i x
  have ht := (v73_apply x0 x4 x8 n c i x).trans (v71_apply x0 x4 x8 n c i)
  rw [refKey_eq c i] at h
  rw [val_main_v75_apply, val_main_v74_apply]
  generalize val_main_v70 (F := Ideal) x0 x4 x8 = y at h ⊢
  generalize val_main_v73 (F := Ideal) x0 x4 x8 = z at ht ⊢
  rw [h, ht]
  rfl

theorem v76_apply (n : Fin 32) (c : Fin 2048) (i : Fin 4) :
    val_main_v76 (F := Ideal) x0 x4 x8 (ix3 n c i) = Layer.mass (qs x0 x4 x8 n) (ps x0 x4 x8 n) (at4 c i) := by
  have h := v75_apply x0 x4 x8 n c i
  have hz : val_main_cst_9 (F := Ideal) (Shape.Idx.first h_S_) = 0 := Ideal.ofBits_zero_f32
  rw [val_main_v76_apply, hz, zero_add]
  generalize val_main_v75 (F := Ideal) x0 x4 x8 = y at h ⊢
  unfold Layer.mass
  refine Eq.trans (Finset.sum_congr rfl fun x _ => ?_) (Equiv.sum_comp turn fun x => Ideal.exp (Layer.score (qs x0 x4 x8 n) (ps x0 x4 x8 n) (at4 c i) (Layer.keyAt (at4 c i) x) - Layer.top (qs x0 x4 x8 n) (ps x0 x4 x8 n) (at4 c i)))
  refine Eq.trans ?_ (h x)
  exact congrArg y (funext fun a => match a with | ⟨0, _⟩ => rfl | ⟨1, _⟩ => rfl | ⟨2, _⟩ => rfl | ⟨3, _⟩ => rfl)

theorem v79_apply (n : Fin 32) (c : Fin 2048) (i : Fin 4) (z : Fin 1) :
    val_main_v79 (F := Ideal) x0 x4 x8 (ix4 n c i z) = Layer.logit (qs x0 x4 x8 n) (ps x0 x4 x8 n) (at4 c i) := by
  have ht := (v72_apply x0 x4 x8 n c i z).trans (v71_apply x0 x4 x8 n c i)
  have hm := (v77_apply x0 x4 x8 n c i z).trans (v76_apply x0 x4 x8 n c i)
  rw [val_main_v79_apply, val_main_v78_apply]
  generalize val_main_v72 (F := Ideal) x0 x4 x8 = a at ht ⊢
  generalize val_main_v77 (F := Ideal) x0 x4 x8 = b at hm ⊢
  rw [ht, hm]
  rfl

end Cert.Ref

end
-- ==== Proof.Value.RefMean.lean ====
/- The attention of the reference over the sorted rows, entry by entry: the means. -/
module

public import proofs.«01_k».proof.Proof.Value.RefScore
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

theorem v80_apply (n : Fin 32) (c : Fin 2048) (i : Fin 4) (x : Fin 8) :
    val_main_v80 (F := Ideal) x0 x4 x8 (ix4 n c i x) = Layer.logit (qs x0 x4 x8 n) (ps x0 x4 x8 n) (at4 c i) := by
  have h := v79_apply x0 x4 x8 n c i 0
  refine Eq.trans ?_ h
  rw [val_main_v80_apply]
  generalize val_main_v79 (F := Ideal) x0 x4 x8 = y
  exact congrArg y (funext fun a => match a with | ⟨0, _⟩ => rfl | ⟨1, _⟩ => rfl | ⟨2, _⟩ => rfl | ⟨3, _⟩ => rfl)

theorem v82_apply (n : Fin 32) (c : Fin 2048) (i : Fin 4) (x : Fin 8) :
    val_main_v82 (F := Ideal) x0 x4 x8 (ix4 n c i x)
      = Ideal.exp (Layer.score (qs x0 x4 x8 n) (ps x0 x4 x8 n) (at4 c i) (Layer.keyAt (at4 c i) (turn x)) - Layer.logit (qs x0 x4 x8 n) (ps x0 x4 x8 n) (at4 c i)) := by
  have h := v70_apply x0 x4 x8 n c i x
  have ht := v80_apply x0 x4 x8 n c i x
  rw [refKey_eq c i] at h
  rw [val_main_v82_apply, val_main_v81_apply]
  generalize val_main_v70 (F := Ideal) x0 x4 x8 = y at h ⊢
  generalize val_main_v80 (F := Ideal) x0 x4 x8 = z at ht ⊢
  rw [h, ht]
  rfl

theorem row_eq {q v : Fin 8192 → Fin 64 → EReal} (hq : ∀ p e, Soft.Fin' (q p e)) (pos : Fin 8192 → BitVec 32) (p : Fin 8192) (d : Fin 64) :
    ∑ x : Fin 8, Ideal.exp (Layer.score q pos p (Layer.keyAt p (turn x)) - Layer.logit q pos p) * v (Layer.keyAt p (turn x)) d = Layer.row q v pos p d :=
  (Equiv.sum_comp turn fun x => Ideal.exp (Layer.score q pos p (Layer.keyAt p x) - Layer.logit q pos p) * v (Layer.keyAt p x) d).trans
    (Soft.mean_eq (s := fun x => Layer.score q pos p (Layer.keyAt p x)) (fun x => Soft.score_real hq pos p _) fun x => v (Layer.keyAt p x) d)

theorem v83_apply (n : Fin 32) (hq : ∀ p e, Soft.Fin' (qs x0 x4 x8 n p e)) (c : Fin 2048) (i : Fin 4) (d : Fin 64) :
    val_main_v83 (F := Ideal) x0 x4 x5 x8 (ix4 n c i d) = Layer.row (qs x0 x4 x8 n) (vs x0 x4 x5 x8 n) (ps x0 x4 x8 n) (at4 c i) d := by
  have h := v82_apply x0 x4 x8 n c i
  have hv := fun x => v55_apply x0 x4 x5 x8 n c x d
  simp only [refKey_eq c i] at hv
  refine Eq.trans ?_ (row_eq hq (ps x0 x4 x8 n) (at4 c i) d)
  rw [val_main_v83_apply]
  generalize val_main_v82 (F := Ideal) x0 x4 x8 = y at h ⊢
  generalize val_main_v55 (F := Ideal) x0 x4 x5 x8 = w at hv ⊢
  refine Finset.sum_congr rfl fun x _ => ?_
  rw [← h x, ← hv x]
  refine congrArg₂ (· * ·) (congrArg y ?_) (congrArg w ?_)
  · exact funext fun a => match a with | ⟨0, _⟩ => rfl | ⟨1, _⟩ => rfl | ⟨2, _⟩ => rfl | ⟨3, _⟩ => rfl
  · exact funext fun a => match a with | ⟨0, _⟩ => rfl | ⟨1, _⟩ => rfl | ⟨2, _⟩ => rfl | ⟨3, _⟩ => rfl

end Cert.Ref

end
-- ==== Proof.Value.RefAttend.lean ====
/- The attention of the reference over the sorted rows, entry by entry: the rows. -/
module

public import proofs.«01_k».proof.Proof.Value.RefMean
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

theorem v84_apply (n : Fin 32) (hq : ∀ p e, Soft.Fin' (qs x0 x4 x8 n p e)) (p : Fin 8192) (d : Fin 64) :
    val_main_v84 (F := Ideal) x0 x4 x5 x8 (ix3 n p d) = Layer.row (qs x0 x4 x8 n) (vs x0 x4 x5 x8 n) (ps x0 x4 x8 n) p d := by
  have := p.isLt
  have h := v83_apply x0 x4 x5 x8 n hq ⟨p.val / 4, by omega⟩ ⟨p.val % 4, Nat.mod_lt _ (by decide)⟩ d
  rw [show at4 ⟨p.val / 4, by omega⟩ ⟨p.val % 4, Nat.mod_lt _ (by decide)⟩ = p from Fin.ext (by show 4 * (p.val / 4) + p.val % 4 = p.val; omega)] at h
  refine Eq.trans ?_ h
  unfold val_main_v84
  generalize val_main_v83 (F := Ideal) x0 x4 x5 x8 = y
  pointwise
  done

theorem v85_apply (n : Fin 32) (p : Fin 8192) :
    val_main_v85 (F := Ideal) x0 x4 x8 (ix2 n p) = Layer.logit (qs x0 x4 x8 n) (ps x0 x4 x8 n) p := by
  have := p.isLt
  have h := v79_apply x0 x4 x8 n ⟨p.val / 4, by omega⟩ ⟨p.val % 4, Nat.mod_lt _ (by decide)⟩ 0
  rw [show at4 ⟨p.val / 4, by omega⟩ ⟨p.val % 4, Nat.mod_lt _ (by decide)⟩ = p from Fin.ext (by show 4 * (p.val / 4) + p.val % 4 = p.val; omega)] at h
  refine Eq.trans ?_ h
  unfold val_main_v85
  generalize val_main_v79 (F := Ideal) x0 x4 x8 = y
  pointwise
  done

end Cert.Ref

end
-- ==== Proof.Value.RefBack.lean ====
/- The rounds of the reference, back in the order of the tokens. -/
module

public import proofs.«01_k».proof.Proof.Value.RefAttend
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

/-- A round's logarithm of a token, and its row. -/
abbrev lg (n : Fin 32) (t : Fin 2048) (r : Fin 4) : EReal := Layer.logit (qs x0 x4 x8 n) (ps x0 x4 x8 n) (Model.place (bks x0 x4 x8 n) r t)
abbrev rw' (n : Fin 32) (t : Fin 2048) (r : Fin 4) (d : Fin 64) : EReal :=
  Layer.row (qs x0 x4 x8 n) (vs x0 x4 x5 x8 n) (ps x0 x4 x8 n) (Model.place (bks x0 x4 x8 n) r t) d

theorem v87_apply (n : Fin 32) (hf : ∀ p e, Soft.Fin' (qs x0 x4 x8 n p e)) (p : Fin 8192) (d : Fin 64) :
    val_main_v87 (F := Ideal) x0 x4 x5 x8 (ix3 n p d) = rw' x0 x4 x5 x8 n (plc p) (rnd p) d := by
  have hq := v84_apply x0 x4 x5 x8 n hf
  have hv := v34_apply x0 x4 x8 n p
  unfold val_main_v87 val_main_call9_v14 val_main_call9_cst val_main_call9_v13 val_main_call9_v12 val_main_call9_v11 val_main_call9_c_3
     val_main_call9_v10 val_main_call9_v9 val_main_call9_v8 val_main_call9_v7 val_main_call9_v6 val_main_call9_v5 val_main_call9_c_2 val_main_call9_c_1
     val_main_call9_v4 val_main_call9_v3 val_main_call9_v2 val_main_call9_c_0 val_main_call9_v1 val_main_call9_v0 val_main_call9_c val_main_v86
  generalize val_main_v34 (F := Ideal) x0 x4 x8 = i at hv ⊢
  generalize val_main_v84 (F := Ideal) x0 x4 x5 x8 = q at hq ⊢
  unfold rw'
  generalize Model.place (bks x0 x4 x8 n) (rnd p) (plc p) = v at hv ⊢
  rw [← hq]
  pointwise
  refine take_point (gather3_apply (by decide) _ _ _ n p d v ?_) ?_
  · pointwise
    rw [hv]; exact wrap_small v.isLt (by decide)
  · beta_reduce
    rw [hv, wrap_small v.isLt (by decide)]; exact inRange_small (N := 8191) v.isLt (by decide)

theorem v88_apply (n : Fin 32) (p : Fin 8192) :
    val_main_v88 (F := Ideal) x0 x4 x8 (ix2 n p) = lg x0 x4 x8 n (plc p) (rnd p) := by
  have hq := v85_apply x0 x4 x8 n
  have hv := v34_apply x0 x4 x8 n p
  unfold val_main_v88 val_main_call10_v14 val_main_call10_cst val_main_call10_v13 val_main_call10_v12 val_main_call10_c_3 val_main_call10_v11
     val_main_call10_v10 val_main_call10_v9 val_main_call10_v8 val_main_call10_v7 val_main_call10_v6 val_main_call10_c_2 val_main_call10_c_1
     val_main_call10_v5 val_main_call10_v4 val_main_call10_v3 val_main_call10_v2 val_main_call10_c_0 val_main_call10_v1 val_main_call10_v0
     val_main_call10_c
  generalize val_main_v34 (F := Ideal) x0 x4 x8 = i at hv ⊢
  generalize val_main_v85 (F := Ideal) x0 x4 x8 = q at hq ⊢
  unfold lg
  generalize Model.place (bks x0 x4 x8 n) (rnd p) (plc p) = v at hv ⊢
  rw [← hq]
  pointwise
  refine take_point (gather2_apply (by decide) _ _ _ n p v ?_) ?_
  · pointwise
    rw [hv]; exact wrap_small v.isLt (by decide)
  · beta_reduce
    rw [hv, wrap_small v.isLt (by decide)]; exact inRange_small (N := 8191) v.isLt (by decide)

theorem v89_apply (n : Fin 32) (hf : ∀ p e, Soft.Fin' (qs x0 x4 x8 n p e)) (r : Fin 4) (t : Fin 2048) (d : Fin 64) :
    val_main_v89 (F := Ideal) x0 x4 x5 x8 (ix4 n r t d) = rw' x0 x4 x5 x8 n t r d := by
  have h := v87_apply x0 x4 x5 x8 n hf (at_ r t) d
  rw [rnd_at, plc_at] at h
  refine Eq.trans ?_ h
  unfold val_main_v89
  generalize val_main_v87 (F := Ideal) x0 x4 x5 x8 = y
  pointwise
  exact congrArg (fun k => y (ix3 n k d)) (Fin.ext rfl)

theorem v90_apply (n : Fin 32) (r : Fin 4) (t : Fin 2048) (z : Fin 1) :
    val_main_v90 (F := Ideal) x0 x4 x8 (ix4 n r t z) = lg x0 x4 x8 n t r := by
  have h := v88_apply x0 x4 x8 n (at_ r t)
  rw [rnd_at, plc_at] at h
  refine Eq.trans ?_ h
  unfold val_main_v90
  generalize val_main_v88 (F := Ideal) x0 x4 x8 = y
  pointwise
  exact congrArg (fun k => y (ix2 n k)) (Fin.ext rfl)

end Cert.Ref

end
-- ==== Proof.Value.RefMix.lean ====
/- The rounds of the reference mixed and projected. -/
module

public import proofs.«01_k».proof.Proof.Value.RefBack
public import proofs.«01_k».proof.Proof.Soft

@[expose] public section

set_option maxRecDepth 16384

noncomputable section

namespace Cert.Ref

open Idealize.ShloMosaic Cert.ReferenceIdeal Cert.ReferenceIdeal.Gen Cert.ReferenceIdeal.Read Cert.Take Cert.Order Cert.Bucket

variable (x0 : FVec Ideal S2x2048x1024 .f32) (x4 x5 x6 : FVec Ideal S1024x1024 .f32) (x7 : FVec Ideal S1024 .f32)
  (x8 : FVec Ideal S64x4x256 .f32)

/-! ## The rounds mixed -/

theorem v91_apply (n : Fin 32) (t : Fin 2048) (z : Fin 1) :
    val_main_v91 (F := Ideal) x0 x4 x8 (ix3 n t z) = Finset.fold max ⊥ (lg x0 x4 x8 n t) Finset.univ := by
  have h := fun r => v90_apply x0 x4 x8 n r t 0
  unfold val_main_v91 val_main_cst_10
  generalize val_main_v90 (F := Ideal) x0 x4 x8 = y at h ⊢
  pointwise
  rw [show (Ideal.ofBits .f32 4286578688#32 : EReal) = ⊥ by simp [Ideal.ofBits, Ideal.ieee]]
  exact congrArg (fun f => Finset.fold max ⊥ f Finset.univ) (funext fun s => h s)

theorem v92_apply (n : Fin 32) (t : Fin 2048) (y z : Fin 1) :
    val_main_v92 (F := Ideal) x0 x4 x8 (ix4 n y t z) = Finset.fold max ⊥ (lg x0 x4 x8 n t) Finset.univ := by
  have h := v91_apply x0 x4 x8 n t 0
  refine Eq.trans ?_ h
  rw [val_main_v92_apply]
  generalize val_main_v91 (F := Ideal) x0 x4 x8 = y
  exact congrArg y (funext fun a => match a with | ⟨0, _⟩ => rfl | ⟨1, _⟩ => rfl | ⟨2, _⟩ => rfl)

theorem v93_apply (n : Fin 32) (r : Fin 4) (t : Fin 2048) (z : Fin 1) :
    val_main_v93 (F := Ideal) x0 x4 x8 (ix4 n r t z) = Finset.fold max ⊥ (lg x0 x4 x8 n t) Finset.univ := by
  have h := v92_apply x0 x4 x8 n t 0 0
  refine Eq.trans ?_ h
  rw [val_main_v93_apply]
  generalize val_main_v92 (F := Ideal) x0 x4 x8 = y
  exact congrArg y (funext fun a => match a with | ⟨0, _⟩ => rfl | ⟨1, _⟩ => rfl | ⟨2, _⟩ => rfl | ⟨3, _⟩ => rfl)

theorem v95_apply (n : Fin 32) (r : Fin 4) (t : Fin 2048) (z : Fin 1) :
    val_main_v95 (F := Ideal) x0 x4 x8 (ix4 n r t z) = Ideal.exp (lg x0 x4 x8 n t r - Finset.fold max ⊥ (lg x0 x4 x8 n t) Finset.univ) := by
  have h := v90_apply x0 x4 x8 n r t z
  have ht := v93_apply x0 x4 x8 n r t z
  rw [val_main_v95_apply, val_main_v94_apply]
  generalize val_main_v90 (F := Ideal) x0 x4 x8 = a at h ⊢
  generalize val_main_v93 (F := Ideal) x0 x4 x8 = b at ht ⊢
  rw [h, ht]
  rfl

theorem v96_apply (n : Fin 32) (t : Fin 2048) (z : Fin 1) :
    val_main_v96 (F := Ideal) x0 x4 x8 (ix3 n t z)
      = ∑ s : Fin 4, Ideal.exp (lg x0 x4 x8 n t s - Finset.fold max ⊥ (lg x0 x4 x8 n t) Finset.univ) := by
  have h := fun r => v95_apply x0 x4 x8 n r t z
  have hz : val_main_cst_11 (F := Ideal) (Shape.Idx.first h_S_) = 0 := Ideal.ofBits_zero_f32
  rw [val_main_v96_apply, hz, zero_add]
  generalize val_main_v95 (F := Ideal) x0 x4 x8 = y at h ⊢
  refine Finset.sum_congr rfl fun x _ => ?_
  refine Eq.trans ?_ (h x)
  exact congrArg y (funext fun a => match a with | ⟨0, _⟩ => rfl | ⟨1, _⟩ => rfl | ⟨2, _⟩ => rfl | ⟨3, _⟩ => rfl)

theorem v97_apply (n : Fin 32) (t : Fin 2048) (y z : Fin 1) :
    val_main_v97 (F := Ideal) x0 x4 x8 (ix4 n y t z)
      = ∑ s : Fin 4, Ideal.exp (lg x0 x4 x8 n t s - Finset.fold max ⊥ (lg x0 x4 x8 n t) Finset.univ) := by
  have h := v96_apply x0 x4 x8 n t 0
  refine Eq.trans ?_ h
  rw [val_main_v97_apply]
  generalize val_main_v96 (F := Ideal) x0 x4 x8 = y
  exact congrArg y (funext fun a => match a with | ⟨0, _⟩ => rfl | ⟨1, _⟩ => rfl | ⟨2, _⟩ => rfl)

theorem v99_apply (n : Fin 32) (t : Fin 2048) (y z : Fin 1) :
    val_main_v99 (F := Ideal) x0 x4 x8 (ix4 n y t z) = Finset.fold max ⊥ (lg x0 x4 x8 n t) Finset.univ
      + Ideal.log (∑ s : Fin 4, Ideal.exp (lg x0 x4 x8 n t s - Finset.fold max ⊥ (lg x0 x4 x8 n t) Finset.univ)) := by
  have ht := v92_apply x0 x4 x8 n t y z
  have hm := v97_apply x0 x4 x8 n t y z
  rw [val_main_v99_apply, val_main_v98_apply]
  generalize val_main_v92 (F := Ideal) x0 x4 x8 = a at ht ⊢
  generalize val_main_v97 (F := Ideal) x0 x4 x8 = b at hm ⊢
  rw [ht, hm]
  rfl

theorem v100_apply (n : Fin 32) (r : Fin 4) (t : Fin 2048) (z : Fin 1) :
    val_main_v100 (F := Ideal) x0 x4 x8 (ix4 n r t z) = Finset.fold max ⊥ (lg x0 x4 x8 n t) Finset.univ
      + Ideal.log (∑ s : Fin 4, Ideal.exp (lg x0 x4 x8 n t s - Finset.fold max ⊥ (lg x0 x4 x8 n t) Finset.univ)) := by
  have h := v99_apply x0 x4 x8 n t 0 0
  refine Eq.trans ?_ h
  rw [val_main_v100_apply]
  generalize val_main_v99 (F := Ideal) x0 x4 x8 = y
  exact congrArg y (funext fun a => match a with | ⟨0, _⟩ => rfl | ⟨1, _⟩ => rfl | ⟨2, _⟩ => rfl | ⟨3, _⟩ => rfl)

theorem lg_real (n : Fin 32) (hf : ∀ p e, Soft.Fin' (qs x0 x4 x8 n p e)) (t : Fin 2048) (r : Fin 4) : Soft.Fin' (lg x0 x4 x8 n t r) :=
  Soft.logit_real (s := fun x => Layer.score (qs x0 x4 x8 n) (ps x0 x4 x8 n) (Model.place (bks x0 x4 x8 n) r t) (Layer.keyAt (Model.place (bks x0 x4 x8 n) r t) x))
    fun x => Soft.score_real hf _ _ _

theorem v102_apply (n : Fin 32) (hf : ∀ p e, Soft.Fin' (qs x0 x4 x8 n p e)) (r : Fin 4) (t : Fin 2048) (z : Fin 1) :
    val_main_v102 (F := Ideal) x0 x4 x8 (ix4 n r t z) = Model.weight (lg x0 x4 x8 n t) r := by
  have h := v90_apply x0 x4 x8 n r t z
  have ht := v100_apply x0 x4 x8 n r t z
  refine Eq.trans ?_ (Soft.soft_eq (lg_real x0 x4 x8 n hf t) r)
  rw [val_main_v102_apply, val_main_v101_apply]
  generalize val_main_v90 (F := Ideal) x0 x4 x8 = a at h ⊢
  generalize val_main_v100 (F := Ideal) x0 x4 x8 = b at ht ⊢
  rw [h, ht]
  rfl

theorem v103_apply (n : Fin 32) (hf : ∀ p e, Soft.Fin' (qs x0 x4 x8 n p e)) (r : Fin 4) (t : Fin 2048) (d : Fin 64) :
    val_main_v103 (F := Ideal) x0 x4 x8 (ix4 n r t d) = Model.weight (lg x0 x4 x8 n t) r := by
  have h := v102_apply x0 x4 x8 n hf r t 0
  refine Eq.trans ?_ h
  rw [val_main_v103_apply]
  generalize val_main_v102 (F := Ideal) x0 x4 x8 = y
  exact congrArg y (funext fun a => match a with | ⟨0, _⟩ => rfl | ⟨1, _⟩ => rfl | ⟨2, _⟩ => rfl | ⟨3, _⟩ => rfl)

theorem v105_apply (n : Fin 32) (hf : ∀ p e, Soft.Fin' (qs x0 x4 x8 n p e)) (t : Fin 2048) (d : Fin 64) :
    val_main_v105 (F := Ideal) x0 x4 x5 x8 (ix3 n t d) = Model.mixed (Model.proj x0 x4 n) (Model.proj x0 x5 n) (bks x0 x4 x8 n) t d := by
  have h := fun r => v89_apply x0 x4 x5 x8 n hf r t d
  have hw := fun r => v103_apply x0 x4 x8 n hf r t d
  have hz : val_main_cst_12 (F := Ideal) (Shape.Idx.first h_S_) = 0 := Ideal.ofBits_zero_f32
  have e : ∀ r, val_main_v104 (F := Ideal) x0 x4 x5 x8 (ix4 n r t d) = rw' x0 x4 x5 x8 n t r d * Model.weight (lg x0 x4 x8 n t) r := fun r => by
    have h := h r
    have hw := hw r
    rw [val_main_v104_apply]
    generalize val_main_v89 (F := Ideal) x0 x4 x5 x8 = a at h ⊢
    generalize val_main_v103 (F := Ideal) x0 x4 x8 = b at hw ⊢
    rw [h, hw]
    rfl
  rw [val_main_v105_apply, hz, zero_add]
  generalize val_main_v104 (F := Ideal) x0 x4 x5 x8 = y at e ⊢
  unfold Model.mixed
  refine Finset.sum_congr rfl fun r _ => ?_
  refine Eq.trans ?_ (e r)
  exact congrArg y (funext fun a => match a with | ⟨0, _⟩ => rfl | ⟨1, _⟩ => rfl | ⟨2, _⟩ => rfl | ⟨3, _⟩ => rfl)

/-! ## The heads beside each other, projected -/

theorem v108_apply (b : Fin 2) (h : Fin 16) (hf : ∀ p e, Soft.Fin' (qs x0 x4 x8 (Model.sq b h) p e)) (t : Fin 2048) (d : Fin 64) :
    val_main_v108 (F := Ideal) x0 x4 x5 x8 (ix3 b t (Model.col h d))
      = Model.mixed (Model.proj x0 x4 (Model.sq b h)) (Model.proj x0 x5 (Model.sq b h)) (bks x0 x4 x8 (Model.sq b h)) t d := by
  have hv := v105_apply x0 x4 x5 x8 (Model.sq b h) hf t d
  refine Eq.trans ?_ hv
  have := h.isLt; have := d.isLt
  unfold val_main_v108 val_main_v107 val_main_v106
  generalize val_main_v105 (F := Ideal) x0 x4 x5 x8 = y
  pointwise
  refine congrArg y (ix3_eq (Fin.ext ?_) rfl (Fin.ext ?_))
  · show b.val * 16 + (64 * h.val + d.val) / 64 = 16 * b.val + h.val; omega
  · show (64 * h.val + d.val) % 64 = d.val; omega

theorem sum_heads (f : Fin 1024 → EReal) : ∑ k, f k = ∑ h : Fin 16, ∑ d : Fin 64, f (Model.col h d) := by
  rw [← Fintype.sum_prod_type' (fun (h : Fin 16) (d : Fin 64) => f (Model.col h d))]
  refine (Fintype.sum_bijective (fun p : Fin 16 × Fin 64 => Model.col p.1 p.2) ⟨fun p q e => ?_, fun k => ?_⟩ _ _ fun p => rfl).symm
  · have e := congrArg Fin.val e
    have e : 64 * p.1.val + p.2.val = 64 * q.1.val + q.2.val := e
    have := p.2.isLt; have := q.2.isLt
    exact Prod.ext (Fin.ext (by omega)) (Fin.ext (by omega))
  · have := k.isLt
    exact ⟨(⟨k.val / 64, by omega⟩, ⟨k.val % 64, Nat.mod_lt _ (by decide)⟩), Fin.ext (by show 64 * (k.val / 64) + k.val % 64 = k.val; omega)⟩

theorem v111_apply (b : Fin 2) (t : Fin 2048) (e : Fin 1024) : val_main_v111 (F := Ideal) x7 (ix3 b t e) = x7 (ix1 e) := by
  rw [val_main_v111_apply, val_main_v110_apply]
  exact congrArg x7 (funext fun a => match a with | ⟨0, _⟩ => rfl)

/-- The reference's result is the layer's. -/
theorem v112_apply (hf : ∀ n p e, Soft.Fin' (qs x0 x4 x8 n p e)) (b : Fin 2) (t : Fin 2048) (e : Fin 1024) :
    val_main_v112 (F := Ideal) x0 x4 x5 x6 x7 x8 (ix3 b t e) = Model.result x0 x4 x5 x6 x7 x8 b t e := by
  have hb := v111_apply x7 b t e
  have h := fun h d => v108_apply x0 x4 x5 x8 b h (hf _) t d
  have hs : val_main_v109 (F := Ideal) x0 x4 x5 x6 x8 (ix3 b t e)
      = ∑ h : Fin 16, ∑ d : Fin 64, Model.mixed (Model.proj x0 x4 (Model.sq b h)) (Model.proj x0 x5 (Model.sq b h)) (bks x0 x4 x8 (Model.sq b h)) t d * x6 (ix2 (Model.col h d) e) := by
    rw [val_main_v109_apply]
    generalize val_main_v108 (F := Ideal) x0 x4 x5 x8 = y at h ⊢
    rw [sum_heads]
    refine Finset.sum_congr rfl fun i _ => Finset.sum_congr rfl fun d _ => congrArg₂ (· * ·) ?_ (congrArg x6 ?_)
    · refine Eq.trans (congrArg y ?_) (h i d)
      exact funext fun a => match a with | ⟨0, _⟩ => rfl | ⟨1, _⟩ => rfl | ⟨2, _⟩ => rfl
    · exact funext fun a => match a with | ⟨0, _⟩ => rfl | ⟨1, _⟩ => rfl
  rw [val_main_v112_apply]
  generalize val_main_v109 (F := Ideal) x0 x4 x5 x6 x8 = a at hs ⊢
  generalize val_main_v111 (F := Ideal) x7 = c at hb ⊢
  rw [hs, hb]
  rfl

end Cert.Ref

end
-- ==== Proof.Join.lean ====
/-
  The kernel's result and the reference's, from the same arguments: both are the layer of `Model`, wherever the queries and
  their projection are finite.
-/
module

public import proofs.«01_k».proof.Defs
public import proofs.«01_k».proof.Proof.Frames
public import proofs.«01_k».proof.Proof.Value.Host
public import proofs.«01_k».proof.Proof.Value.RefMix
public import proofs.«01_k».proof.Proof.Gen.Pre_finite_qk
public import Idealize.ShloMosaic.Lib.ReduceAll

@[expose] public section

set_option maxRecDepth 16384

noncomputable section

namespace Cert.Whole

open Idealize.ShloMosaic Idealize.SL.Sem

/-! ## The precondition -/

theorem real_of_abs_lt {x : EReal} (h : Ideal.cmp .olt (max x (-x)) ⊤ = 1#1) : Soft.Fin' x := by
  have h : max x (-x) < ⊤ := by
    by_contra hn
    exact absurd h (by simp [Ideal.cmp, hn])
  induction x using EReal.rec with
  | bot => exact absurd h (by simp)
  | top => exact absurd h (by simp)
  | coe a => exact ⟨a, rfl⟩

theorem infinity : (Ideal.ofBits .f32 0x7F800000#32 : EReal) = ⊤ := by simp [Ideal.ofBits, Ideal.ieee]

theorem pre_real (x y z : FVec Ideal ⟨3, ![2, 2048, 1024]⟩ .f32) (k : IVec ⟨0, ![]⟩ 32) (w w₁ w₂ : FVec Ideal ⟨2, ![1024, 1024]⟩ .f32)
    (b : FVec Ideal ⟨1, ![1024]⟩ .f32) (r : FVec Ideal ⟨3, ![64, 4, 256]⟩ .f32)
    (h : Cert.Pre_finite_qk.fn (F := Ideal) x y z k w w₁ w₂ b r = fun _ => 1#1) :
    (∀ i, Soft.Fin' (x i)) ∧ (∀ i, Soft.Fin' (w i)) := by
  have h := congrFun h ix0
  dsimp only [Cert.Pre_finite_qk.fn] at h
  obtain ⟨h₁, h₂⟩ := IntOp.andi_eq_one.1 (show IntOp.andi _ _ = 1#1 from h)
  haveI : Subsingleton (Cert.Pre_finite_qk.S_).Idx := ⟨fun a b => funext fun i => i.elim0⟩
  refine ⟨fun i => ?_, fun i => ?_⟩
  · have e := Host.reduce_andi_all _ _ _ _ _ h₁ i
    have e : Ideal.cmp .olt (max (x i) (-x i)) (Ideal.ofBits .f32 0x7F800000#32) = 1#1 := e
    rw [infinity] at e
    exact real_of_abs_lt e
  · have e := Host.reduce_andi_all _ _ _ _ _ h₂ i
    have e : Ideal.cmp .olt (max (w i) (-w i)) (Ideal.ofBits .f32 0x7F800000#32) = 1#1 := e
    rw [infinity] at e
    exact real_of_abs_lt e

/-- Finite queries and a finite projection give finite projected rows. -/
theorem rows_real {x : FVec Ideal ⟨3, ![2, 2048, 1024]⟩ .f32} {w : FVec Ideal ⟨2, ![1024, 1024]⟩ .f32} (hx : ∀ i, Soft.Fin' (x i))
    (hw : ∀ i, Soft.Fin' (w i)) (n : Fin 32) (t : Fin 2048) (d : Fin 64) : Soft.Fin' (Model.proj x w n t d) :=
  Soft.Fin'.sum fun k => (hx _).mul (hw _)

/-! ## The results -/

open Cert.Host in
/-- The two results are equal, entry by entry. -/
theorem same_result (m : (ℓ : Loc Cert.KernelIdeal.nD Cert.KernelIdeal.τ Cert.KernelIdeal.sig) → Buf (Elt Ideal) ℓ) (c : Dev Cert.KernelIdeal.nD)
    (hx : ∀ i, Soft.Fin' (argX m c i)) (hw : ∀ i, Soft.Fin' (argQK m c i)) :
    Cert.ReferenceIdeal.Read.val_main_v112 (F := Ideal) (argX m c) (argQK m c) (argV m c) (argO m c) (argB m c) (argR m c)
      = (Cert.KernelIdeal.Whole.W19 (F := Ideal) m c (Proc.devRef .tc Cert.KernelIdeal.main_v43) : FVec Ideal ⟨3, ![2, 2048, 1024]⟩ .f32) := by
  have h₁ := Cert.Ref.v112_apply (argX m c) (argQK m c) (argV m c) (argO m c) (argB m c) (argR m c) fun n p e => rows_real hx hw n _ e
  have h₂ := result_apply m c
  generalize Cert.ReferenceIdeal.Read.val_main_v112 (F := Ideal) (argX m c) (argQK m c) (argV m c) (argO m c) (argB m c) (argR m c) = y at h₁ ⊢
  generalize (Cert.KernelIdeal.Whole.W19 (F := Ideal) m c (Proc.devRef .tc Cert.KernelIdeal.main_v43) : FVec Ideal ⟨3, ![2, 2048, 1024]⟩ .f32) = z at h₂ ⊢
  funext j
  have e : j = ix3 (j 0) (j 1) (j 2) := funext fun a => match a with | ⟨0, _⟩ => rfl | ⟨1, _⟩ => rfl | ⟨2, _⟩ => rfl
  rw [e]
  exact (h₁ _ _ _).trans (h₂ _ _ _).symm

/-- The reference's run, its result named. -/
theorem run_reference (m : (ℓ : Loc Cert.ReferenceIdeal.nD Cert.ReferenceIdeal.τ Cert.ReferenceIdeal.sig) → Buf (Elt Ideal) ℓ) (c : Dev Cert.ReferenceIdeal.nD)
    {x : Buf (Elt Ideal) ((c.tc : Thread Cert.ReferenceIdeal.nD Cert.ReferenceIdeal.τ).loc Cert.ReferenceIdeal.main_v112)} {v : Valuation Cert.ReferenceIdeal.τ Cert.ReferenceIdeal.sig (Elt Ideal)}
    (hv : v = StableHlo.launchContents m c)
    (h : x = Cert.ReferenceIdeal.Read.val_main_v112 (F := Ideal) (v (Proc.devRef .tc Cert.ReferenceIdeal.main_arg0)) (v (Proc.devRef .tc Cert.ReferenceIdeal.main_arg4))
      (v (Proc.devRef .tc Cert.ReferenceIdeal.main_arg5)) (v (Proc.devRef .tc Cert.ReferenceIdeal.main_arg6)) (v (Proc.devRef .tc Cert.ReferenceIdeal.main_arg7)) (v (Proc.devRef .tc Cert.ReferenceIdeal.main_arg8))) :
    x = Cert.ReferenceIdeal.Read.val_main_v112 (F := Ideal) (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8)) := by
  subst hv; exact h

theorem algebraic : Cert.algebraic_KernelIdeal_ReferenceIdeal_pre_finite_qk := fun m g m' g' hpre hargs => by
  refine ⟨fun c => Cert.KernelIdeal.Whole.W19 (F := Ideal) m c (Proc.devRef .tc Cert.KernelIdeal.main_v43),
    θ_run_mono (Cert.KernelIdeal.Whole.run_io (F := Ideal) m g) fun r h c => ?_,
    θ_run_mono (Cert.ReferenceIdeal.Value.run (F := Ideal) m' g') fun r h c => ⟨?_, (h c).2⟩⟩
  · obtain ⟨h0, h1, h2, h3, h4, h5, h6, h7, h8, hv⟩ := h.1 c
    exact ⟨hv, h0, h1, h2, h3, h4, h5, h6, h7, h8⟩
  · have e := run_reference m' c rfl ((h c).1.trans (Cert.ReferenceIdeal.Read.val_main_v112_eq (StableHlo.launchContents m' c)))
    clear h
    obtain ⟨a0, a1, a2, a3, a4, a5, a6, a7, a8⟩ := hargs c
    rw [a0, a4, a5, a6, a7, a8] at e
    obtain ⟨hx, hw⟩ := pre_real _ _ _ _ _ _ _ _ _ (hpre c)
    exact e.trans (same_result m c hx hw)

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_qk
public import proofs.«01_k».proof.Proof.Gen.ReferenceIdeal.Run
public import proofs.«01_k».proof.Proof.Gen.ReferenceIdeal.Read
public import proofs.«01_k».proof.Proof.Frames
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_qk.Gen.facts, Cert.Whole.frame_kernel, Cert.Whole.frame_kernelIdeal,
  fun m g _ => Cert.Whole.frame_kernelIdeal m g trivial, Cert.Whole.frame_referenceIdeal, fun m g _ => Cert.Whole.frame_referenceIdeal m g trivial,
  Cert.Whole.preserves, Cert.Whole.algebraic⟩

end Cert.Proof

end
